-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_temp" .f32 0x41649249#32 ((134217728 / 9395241 : ℝ) : EReal)

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S512x512 : Shape := ⟨2, ![512, 512]⟩
abbrev S256 : Shape := ⟨1, ![256]⟩
abbrev S_ : Shape := ⟨0, ![]⟩
abbrev S48000x512 : Shape := ⟨2, ![48000, 512]⟩
abbrev S48000 : Shape := ⟨1, ![48000]⟩
abbrev S47744x512 : Shape := ⟨2, ![47744, 512]⟩
abbrev S47744 : Shape := ⟨1, ![47744]⟩
abbrev S256x512 : Shape := ⟨2, ![256, 512]⟩
abbrev S1 : Shape := ⟨1, ![1]⟩
abbrev S256x1 : Shape := ⟨2, ![256, 1]⟩
abbrev S48000x1 : Shape := ⟨2, ![48000, 1]⟩
abbrev S512x48000 : Shape := ⟨2, ![512, 48000]⟩
abbrev S256x48000 : Shape := ⟨2, ![256, 48000]⟩
abbrev S256x5 : Shape := ⟨2, ![256, 5]⟩
abbrev S256x5x1 : Shape := ⟨3, ![256, 5, 1]⟩
abbrev S1x1x48000 : Shape := ⟨3, ![1, 1, 48000]⟩
abbrev S256x5x48000 : Shape := ⟨3, ![256, 5, 48000]⟩
abbrev S5 : Shape := ⟨1, ![5]⟩
abbrev S256x1x5 : Shape := ⟨3, ![256, 1, 5]⟩
abbrev S256x5x5 : Shape := ⟨3, ![256, 5, 5]⟩
abbrev S5x1 : Shape := ⟨2, ![5, 1]⟩
abbrev S1x5 : Shape := ⟨2, ![1, 5]⟩
abbrev S5x5 : Shape := ⟨2, ![5, 5]⟩
abbrev S1x5x5 : Shape := ⟨3, ![1, 5, 5]⟩
abbrev S256x15x25x128 : Shape := ⟨4, ![256, 15, 25, 128]⟩
abbrev S256x15x128 : Shape := ⟨3, ![256, 15, 128]⟩

class Facts : Prop where
  slices_S48000x512_S47744x512_256_0 : S48000x512.Slices ![256, 0] S47744x512
  slices_S48000_S47744_256 : S48000.Slices ![256] S47744
  reducesTo_S47744x512_S47744_d1 : S47744x512.ReducesTo [1] S47744
  h_S_ : 0 < S_.numel
  bcast_S_S47744 : S_.BroadcastsInDim S47744 (![] : Fin 0 → Fin S47744.rank)
  reducesTo_S47744_S_d0 : S47744.ReducesTo [0] S_
  bcast_S_S256 : S_.BroadcastsInDim S256 (![] : Fin 0 → Fin S256.rank)
  reducesTo_S256_S_d0 : S256.ReducesTo [0] S_
  slices_S512x512_S256x512_0_0 : S512x512.Slices ![0, 0] S256x512
  bcast_S_S1 : S_.BroadcastsInDim S1 (![] : Fin 0 → Fin S1.rank)
  slices_S512x512_S256x512_256_0 : S512x512.Slices ![256, 0] S256x512
  reducesTo_S256x512_S256_d1 : S256x512.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x512_0_1 : S256x1.BroadcastsInDim S256x512 (![0, 1] : Fin 2 → Fin S256x512.rank)
  reducesTo_S48000x512_S48000_d1 : S48000x512.ReducesTo [1] S48000
  bcast_S48000_S48000x1_0 : S48000.BroadcastsInDim S48000x1 (![0] : Fin 1 → Fin S48000x1.rank)
  bcast_S_S48000x1 : S_.BroadcastsInDim S48000x1 (![] : Fin 0 → Fin S48000x1.rank)
  bcast_S48000x1_S48000x512_0_1 : S48000x1.BroadcastsInDim S48000x512 (![0, 1] : Fin 2 → Fin S48000x512.rank)
  transposes_S48000x512_S512x48000_1_0 : S48000x512.Transposes [1, 0] S512x48000
  sliceFits_S256x48000_S256x5 : S256x48000.Slices (fun _ => 0) S256x5
  slices_S256x5_S256x1_0_4 : S256x5.Slices ![0, 4] S256x1
  bcast_S256x1_S256x48000_0_1 : S256x1.BroadcastsInDim S256x48000 (![0, 1] : Fin 2 → Fin S256x48000.rank)
  reducesTo_S256x48000_S256_d1 : S256x48000.ReducesTo [1] S256
  bcast_S256x5_S256x5x1_0_1 : S256x5.BroadcastsInDim S256x5x1 (![0, 1] : Fin 2 → Fin S256x5x1.rank)
  bcast_S48000_S1x1x48000_2 : S48000.BroadcastsInDim S1x1x48000 (![2] : Fin 1 → Fin S1x1x48000.rank)
  bcast_S256x5x1_S256x5x48000_0_1_2 : S256x5x1.BroadcastsInDim S256x5x48000 (![0, 1, 2] : Fin 3 → Fin S256x5x48000.rank)
  bcast_S1x1x48000_S256x5x48000_0_1_2 : S1x1x48000.BroadcastsInDim S256x5x48000 (![0, 1, 2] : Fin 3 → Fin S256x5x48000.rank)
  bcast_S48000_S256x5x48000_2 : S48000.BroadcastsInDim S256x5x48000 (![2] : Fin 1 → Fin S256x5x48000.rank)
  bcast_S_S256x5x48000 : S_.BroadcastsInDim S256x5x48000 (![] : Fin 0 → Fin S256x5x48000.rank)
  reducesTo_S256x5x48000_S256x5_d2 : S256x5x48000.ReducesTo [2] S256x5
  bcast_S256x5_S256x1x5_0_2 : S256x5.BroadcastsInDim S256x1x5 (![0, 2] : Fin 2 → Fin S256x1x5.rank)
  bcast_S256x5x1_S256x5x5_0_1_2 : S256x5x1.BroadcastsInDim S256x5x5 (![0, 1, 2] : Fin 3 → Fin S256x5x5.rank)
  bcast_S256x1x5_S256x5x5_0_1_2 : S256x1x5.BroadcastsInDim S256x5x5 (![0, 1, 2] : Fin 3 → Fin S256x5x5.rank)
  bcast_S_S256x5x5 : S_.BroadcastsInDim S256x5x5 (![] : Fin 0 → Fin S256x5x5.rank)
  bcast_S5_S5x1_0 : S5.BroadcastsInDim S5x1 (![0] : Fin 1 → Fin S5x1.rank)
  bcast_S5_S1x5_1 : S5.BroadcastsInDim S1x5 (![1] : Fin 1 → Fin S1x5.rank)
  bcast_S5x1_S5x5_0_1 : S5x1.BroadcastsInDim S5x5 (![0, 1] : Fin 2 → Fin S5x5.rank)
  bcast_S1x5_S5x5_0_1 : S1x5.BroadcastsInDim S5x5 (![0, 1] : Fin 2 → Fin S5x5.rank)
  bcast_S5x5_S1x5x5_1_2 : S5x5.BroadcastsInDim S1x5x5 (![1, 2] : Fin 2 → Fin S1x5x5.rank)
  bcast_S1x5x5_S256x5x5_0_1_2 : S1x5x5.BroadcastsInDim S256x5x5 (![0, 1, 2] : Fin 3 → Fin S256x5x5.rank)
  reducesTo_S256x5x5_S_d0_1_2 : S256x5x5.ReducesTo [0, 1, 2] S_
  shapeCasts_S256x48000_S256x15x25x128 : S256x48000.ShapeCasts S256x15x25x128
  reducesTo_S256x15x25x128_S256x15x128_d2 : S256x15x25x128.ReducesTo [2] S256x15x128
  bcast_S_S256x15x128 : S_.BroadcastsInDim S256x15x128 (![] : Fin 0 → Fin S256x15x128.rank)
  reducesTo_S256x15x128_S_d0_1_2 : S256x15x128.ReducesTo [0, 1, 2] S_
  scatter_S48000x512_S1_S256x512_01_n_0_0_wf : ScatterDims.WF S48000x512 S1 S256x512 [0, 1] [] [0] 0
  dot_S256x512_S512x48000_S256x48000_1_0_0_1_n_n_wf : DotDims.WF S256x512 S512x48000 S256x48000 [1] [0] [0] [1] [] []
  scatter_S48000_S1_S256_0_n_0_0_wf : ScatterDims.WF S48000 S1 S256 [0] [] [0] 0

variable [Facts]

def scatter_S48000x512_S1_S256x512_01_n_0_0 : ScatterDims S48000x512 S1 S256x512 where
  updateWindowDims := [0, 1]
  insertedWindowDims := []
  scatterDimsToOperandDims := [0]
  indexVectorDim := 0
  wf := scatter_S48000x512_S1_S256x512_01_n_0_0_wf
def dot_S256x512_S512x48000_S256x48000_1_0_0_1_n_n : DotDims S256x512 S512x48000 S256x48000 where
  lhsContracting := [1]
  rhsContracting := [0]
  lhsNonContracting := [0]
  rhsNonContracting := [1]
  lhsBatch := []
  rhsBatch := []
  wf := dot_S256x512_S512x48000_S256x48000_1_0_0_1_n_n_wf
def scatter_S48000_S1_S256_0_n_0_0 : ScatterDims S48000 S1 S256 where
  updateWindowDims := [0]
  insertedWindowDims := []
  scatterDimsToOperandDims := [0]
  indexVectorDim := 0
  wf := scatter_S48000_S1_S256_0_n_0_0_wf
def fn_where {F : FTy → Type} [FloatOps F] (arg0 : IVec S256x5x48000 1) (arg1 : FVec F S48000 .f32) (arg2 : FVec F S_ .f32) : FVec F S256x5x48000 .f32 :=
  let v0 : FVec F S_ .f32 := id arg2
  let v1 : FVec F S256x5x48000 .f32 := broadcastInDim S256x5x48000 ![2] bcast_S48000_S256x5x48000_2 arg1
  let v2 : FVec F S256x5x48000 .f32 := broadcastInDim S256x5x48000 ![] bcast_S_S256x5x48000 v0
  let v3 : FVec F S256x5x48000 .f32 := select arg0 v1 v2
  v3

def fn_part5 {F : FTy → Type} [FloatOps F] (main_v20 : IVec S_ 1) (main_v52 : IVec S_ 1) (main_v86 : IVec S_ 1) (main_v91 : IVec S_ 1) : IVec S_ 1 :=
  let main_v92 : IVec S_ 1 := andi main_v20 main_v52
  let main_v93 : IVec S_ 1 := andi main_v92 main_v86
  let main_v94 : IVec S_ 1 := andi main_v93 main_v91
  main_v94

def fn_part4 {F : FTy → Type} [FloatOps F] (main_v20 : IVec S_ 1) (main_v48 : FVec F S256x48000 .f32) (main_v52 : IVec S_ 1) (main_v63 : FVec F S256x5 .f32) (main_v64 : IVec S5 32) (main_v71 : IVec S256x5x5 1) : IVec S_ 1 :=
  let main_v72 : FVec F S256x5x1 .f32 := broadcastInDim S256x5x1 ![0, 1] bcast_S256x5_S256x5x1_0_1 main_v63
  let main_v73 : FVec F S256x1x5 .f32 := broadcastInDim S256x1x5 ![0, 2] bcast_S256x5_S256x1x5_0_2 main_v63
  let main_v74 : FVec F S256x5x5 .f32 := broadcastInDim S256x5x5 ![0, 1, 2] bcast_S256x5x1_S256x5x5_0_1_2 main_v72
  let main_v75 : FVec F S256x5x5 .f32 := broadcastInDim S256x5x5 ![0, 1, 2] bcast_S256x1x5_S256x5x5_0_1_2 main_v73
  let main_v76 : IVec S256x5x5 1 := cmpf .une main_v74 main_v75
  let main_v77 : IVec S256x5x5 1 := ori main_v71 main_v76
  let main_v78 : IVec S5x1 32 := broadcastInDim S5x1 ![0] bcast_S5_S5x1_0 main_v64
  let main_v79 : IVec S1x5 32 := broadcastInDim S1x5 ![1] bcast_S5_S1x5_1 main_v64
  let main_v80 : IVec S5x5 32 := broadcastInDim S5x5 ![0, 1] bcast_S5x1_S5x5_0_1 main_v78
  let main_v81 : IVec S5x5 32 := broadcastInDim S5x5 ![0, 1] bcast_S1x5_S5x5_0_1 main_v79
  let main_v82 : IVec S5x5 1 := cmpi .sge main_v80 main_v81
  let main_v83 : IVec S1x5x5 1 := broadcastInDim S1x5x5 ![1, 2] bcast_S5x5_S1x5x5_1_2 main_v82
  let main_v84 : IVec S256x5x5 1 := broadcastInDim S256x5x5 ![0, 1, 2] bcast_S1x5x5_S256x5x5_0_1_2 main_v83
  let main_v85 : IVec S256x5x5 1 := ori main_v77 main_v84
  let main_c_20 : IVec S_ 1 := constantI S_ 1 1#1
  let main_v86 : IVec S_ 1 := (fun x v => Host.reduce IntOp.andi x v reducesTo_S256x5x5_S_d0_1_2 h_S_) main_v85 main_c_20
  let main_v87 : FVec F S256x15x25x128 .f32 := shapeCast S256x15x25x128 main_v48 shapeCasts_S256x48000_S256x15x25x128
  let main_cst_21 : FVec F S_ .f32 := constant S_ .f32 0x00000000#32
  let main_v88 : FVec F S256x15x128 .f32 := (fun x v => Host.reduceAdd x v reducesTo_S256x15x25x128_S256x15x128_d2 h_S_) main_v87 main_cst_21
  let main_cst_22 : FVec F S_ .f32 := constant S_ .f32 0x40000000#32
  let main_v89 : FVec F S256x15x128 .f32 := broadcastInDim S256x15x128 ![] bcast_S_S256x15x128 main_cst_22
  let main_v90 : IVec S256x15x128 1 := cmpf .ole main_v88 main_v89
  let main_c_23 : IVec S_ 1 := constantI S_ 1 1#1
  let main_v91 : IVec S_ 1 := (fun x v => Host.reduce IntOp.andi x v reducesTo_S256x15x128_S_d0_1_2 h_S_) main_v90 main_c_23
  fn_part5 (F := F) main_v20 main_v52 main_v86 main_v91

def fn_part3 {F : FTy → Type} [FloatOps F] (main_arg1 : IVec S256 32) (main_arg4 : IVec S48000 32) (main_v20 : IVec S_ 1) (main_values : FVec F S256x5 .f32) (main_indices : IVec S256x5 32) (main_v48 : FVec F S256x48000 .f32) (main_v51 : IVec S256 1) (main_c_15 : IVec S_ 1) : IVec S_ 1 :=
  let main_v52 : IVec S_ 1 := (fun x v => Host.reduce IntOp.andi x v reducesTo_S256_S_d0 h_S_) main_v51 main_c_15
  let main_c_16 : IVec S_ 32 := constantI S_ 32 0#32
  let main_v53 : IVec S1 32 := broadcastInDim S1 ![] bcast_S_S1 main_c_16
  let main_v54 : IVec S48000 32 := (fun x i u => Host.scatter scatter_S48000_S1_S256_0_n_0_0 (fun _ b => b) x i u) main_arg4 main_v53 main_arg1
  let main_v55 : FVec F S48000 .f32 := sitofp .f32 main_v54
  let main_v56 : IVec S256x5x1 32 := broadcastInDim S256x5x1 ![0, 1] bcast_S256x5_S256x5x1_0_1 main_indices
  let main_v57 : IVec S48000 32 := iotaInDim S48000 32 0
  let main_v58 : IVec S1x1x48000 32 := broadcastInDim S1x1x48000 ![2] bcast_S48000_S1x1x48000_2 main_v57
  let main_v59 : IVec S256x5x48000 32 := broadcastInDim S256x5x48000 ![0, 1, 2] bcast_S256x5x1_S256x5x48000_0_1_2 main_v56
  let main_v60 : IVec S256x5x48000 32 := broadcastInDim S256x5x48000 ![0, 1, 2] bcast_S1x1x48000_S256x5x48000_0_1_2 main_v58
  let main_v61 : IVec S256x5x48000 1 := cmpi .eq main_v59 main_v60
  let main_cst_17 : FVec F S_ .f32 := constant S_ .f32 0x00000000#32
  let main_v62 : FVec F S256x5x48000 .f32 := fn_where (F := F) main_v61 main_v55 main_cst_17
  let main_cst_18 : FVec F S_ .f32 := constant S_ .f32 0x00000000#32
  let main_v63 : FVec F S256x5 .f32 := (fun x v => Host.reduceAdd x v reducesTo_S256x5x48000_S256x5_d2 h_S_) main_v62 main_cst_18
  let main_v64 : IVec S5 32 := iotaInDim S5 32 0
  let main_v65 : FVec F S256x5x1 .f32 := broadcastInDim S256x5x1 ![0, 1] bcast_S256x5_S256x5x1_0_1 main_values
  let main_v66 : FVec F S256x1x5 .f32 := broadcastInDim S256x1x5 ![0, 2] bcast_S256x5_S256x1x5_0_2 main_values
  let main_v67 : FVec F S256x5x5 .f32 := broadcastInDim S256x5x5 ![0, 1, 2] bcast_S256x5x1_S256x5x5_0_1_2 main_v65
  let main_v68 : FVec F S256x5x5 .f32 := broadcastInDim S256x5x5 ![0, 1, 2] bcast_S256x1x5_S256x5x5_0_1_2 main_v66
  let main_v69 : FVec F S256x5x5 .f32 := subf main_v67 main_v68
  let main_cst_19 : FVec F S_ .f32 := constant S_ .f32 0x388F5C29#32
  let main_v70 : FVec F S256x5x5 .f32 := broadcastInDim S256x5x5 ![] bcast_S_S256x5x5 main_cst_19
  let main_v71 : IVec S256x5x5 1 := cmpf .oge main_v69 main_v70
  fn_part4 (F := F) main_v20 main_v48 main_v52 main_v63 main_v64 main_v71

def fn_part2 {F : FTy → Type} [FloatOps F] (main_arg1 : IVec S256 32) (main_arg4 : IVec S48000 32) (main_v20 : IVec S_ 1) (main_v23 : FVec F S48000x512 .f32) (main_v32 : FVec F S256x512 .f32) (main_v34 : FVec F S48000 .f32) : IVec S_ 1 :=
  let main_v35 : FVec F S48000x1 .f32 := broadcastInDim S48000x1 ![0] bcast_S48000_S48000x1_0 main_v34
  let main_v36 : FVec F S48000x1 .f32 := Host.sqrt main_v35
  let main_cst_11 : FVec F S_ .f32 := constant S_ .f32 0x2B8CBCCC#32
  let main_v37 : FVec F S48000x1 .f32 := broadcastInDim S48000x1 ![] bcast_S_S48000x1 main_cst_11
  let main_v38 : FVec F S48000x1 .f32 := maximumf main_v36 main_v37
  let main_v39 : FVec F S48000x512 .f32 := broadcastInDim S48000x512 ![0, 1] bcast_S48000x1_S48000x512_0_1 main_v38
  let main_v40 : FVec F S48000x512 .f32 := Host.divf main_v23 main_v39
  let main_v41 : FVec F S512x48000 .f32 := (transpose S512x48000 [1, 0] · transposes_S48000x512_S512x48000_1_0) main_v40
  let main_v42 : FVec F S256x48000 .f32 := (fun l r => Host.dotGeneral dot_S256x512_S512x48000_S256x48000_1_0_0_1_n_n none l r) main_v32 main_v41
  let main_values : FVec F S256x5 .f32 := (fun x => (Host.topK S256x5 1 (FloatOps.cmpfTotal .gt) x sliceFits_S256x48000_S256x5).1) main_v42
  let main_indices : IVec S256x5 32 := (fun x => (Host.topK S256x5 1 (FloatOps.cmpfTotal .gt) x sliceFits_S256x48000_S256x5).2) main_v42
  let main_v43 : FVec F S256x1 .f32 := (extractStridedSlice S256x1 ![0, 4] · slices_S256x5_S256x1_0_4) main_values
  let main_cst_12 : FVec F S_ .f32 := constant S_ .f32 0x388F5C29#32
  let main_v44 : FVec F S256x1 .f32 := broadcastInDim S256x1 ![] bcast_S_S256x1 main_cst_12
  let main_v45 : FVec F S256x1 .f32 := subf main_v43 main_v44
  let main_v46 : FVec F S256x48000 .f32 := broadcastInDim S256x48000 ![0, 1] bcast_S256x1_S256x48000_0_1 main_v45
  let main_v47 : IVec S256x48000 1 := cmpf .ogt main_v42 main_v46
  let main_v48 : FVec F S256x48000 .f32 := uitofp .f32 main_v47
  let main_cst_13 : FVec F S_ .f32 := constant S_ .f32 0x00000000#32
  let main_v49 : FVec F S256 .f32 := (fun x v => Host.reduceAdd x v reducesTo_S256x48000_S256_d1 h_S_) main_v48 main_cst_13
  let main_cst_14 : FVec F S_ .f32 := constant S_ .f32 0x40A00000#32
  let main_v50 : FVec F S256 .f32 := broadcastInDim S256 ![] bcast_S_S256 main_cst_14
  let main_v51 : IVec S256 1 := cmpf .oeq main_v49 main_v50
  let main_c_15 : IVec S_ 1 := constantI S_ 1 1#1
  fn_part3 (F := F) main_arg1 main_arg4 main_v20 main_values main_indices main_v48 main_v51 main_c_15

def fn_part1 {F : FTy → Type} [FloatOps F] (main_arg0 : FVec F S512x512 .f32) (main_arg1 : IVec S256 32) (main_arg3 : FVec F S48000x512 .f32) (main_arg4 : IVec S48000 32) (main_v1 : IVec S47744 32) (main_v13 : IVec S_ 1) (main_v15 : IVec S47744 1) (main_c_5 : IVec S_ 32) : IVec S_ 1 :=
  let main_v16 : IVec S47744 32 := broadcastInDim S47744 ![] bcast_S_S47744 main_c_5
  let main_v17 : IVec S47744 1 := cmpi .slt main_v1 main_v16
  let main_v18 : IVec S47744 1 := andi main_v15 main_v17
  let main_c_6 : IVec S_ 1 := constantI S_ 1 1#1
  let main_v19 : IVec S_ 1 := (fun x v => Host.reduce IntOp.andi x v reducesTo_S47744_S_d0 h_S_) main_v18 main_c_6
  let main_v20 : IVec S_ 1 := andi main_v13 main_v19
  let main_v21 : FVec F S256x512 .f32 := (extractStridedSlice S256x512 ![0, 0] · slices_S512x512_S256x512_0_0) main_arg0
  let main_c_7 : IVec S_ 32 := constantI S_ 32 0#32
  let main_v22 : IVec S1 32 := broadcastInDim S1 ![] bcast_S_S1 main_c_7
  let main_v23 : FVec F S48000x512 .f32 := (fun x i u => Host.scatter scatter_S48000x512_S1_S256x512_01_n_0_0 (fun _ b => b) x i u) main_arg3 main_v22 main_v21
  let main_v24 : FVec F S256x512 .f32 := (extractStridedSlice S256x512 ![256, 0] · slices_S512x512_S256x512_256_0) main_arg0
  let main_v25 : FVec F S256x512 .f32 := mulf main_v24 main_v24
  let main_cst_8 : FVec F S_ .f32 := constant S_ .f32 0x00000000#32
  let main_v26 : FVec F S256 .f32 := (fun x v => Host.reduceAdd x v reducesTo_S256x512_S256_d1 h_S_) main_v25 main_cst_8
  let main_v27 : FVec F S256x1 .f32 := broadcastInDim S256x1 ![0] bcast_S256_S256x1_0 main_v26
  let main_v28 : FVec F S256x1 .f32 := Host.sqrt main_v27
  let main_cst_9 : FVec F S_ .f32 := constant S_ .f32 0x2B8CBCCC#32
  let main_v29 : FVec F S256x1 .f32 := broadcastInDim S256x1 ![] bcast_S_S256x1 main_cst_9
  let main_v30 : FVec F S256x1 .f32 := maximumf main_v28 main_v29
  let main_v31 : FVec F S256x512 .f32 := broadcastInDim S256x512 ![0, 1] bcast_S256x1_S256x512_0_1 main_v30
  let main_v32 : FVec F S256x512 .f32 := Host.divf main_v24 main_v31
  let main_v33 : FVec F S48000x512 .f32 := mulf main_v23 main_v23
  let main_cst_10 : FVec F S_ .f32 := constant S_ .f32 0x00000000#32
  let main_v34 : FVec F S48000 .f32 := (fun x v => Host.reduceAdd x v reducesTo_S48000x512_S48000_d1 h_S_) main_v33 main_cst_10
  fn_part2 (F := F) main_arg1 main_arg4 main_v20 main_v23 main_v32 main_v34

def fn {F : FTy → Type} [FloatOps F] (main_arg0 : FVec F S512x512 .f32) (main_arg1 : IVec S256 32) (main_arg2 : IVec S_ 32) (main_arg3 : FVec F S48000x512 .f32) (main_arg4 : IVec S48000 32) : IVec S_ 1 :=
  let main_v0 : FVec F S47744x512 .f32 := (extractStridedSlice S47744x512 ![256, 0] · slices_S48000x512_S47744x512_256_0) main_arg3
  let main_v1 : IVec S47744 32 := (extractStridedSlice S47744 ![256] · slices_S48000_S47744_256) main_arg4
  let main_v2 : FVec F S47744x512 .f32 := mulf main_v0 main_v0
  let main_cst : FVec F S_ .f32 := constant S_ .f32 0x00000000#32
  let main_v3 : FVec F S47744 .f32 := (fun x v => Host.reduceAdd x v reducesTo_S47744x512_S47744_d1 h_S_) main_v2 main_cst
  let main_cst_0 : FVec F S_ .f32 := constant S_ .f32 0x3F800000#32
  let main_v4 : FVec F S47744 .f32 := broadcastInDim S47744 ![] bcast_S_S47744 main_cst_0
  let main_v5 : IVec S47744 1 := cmpf .oeq main_v3 main_v4
  let main_c : IVec S_ 1 := constantI S_ 1 1#1
  let main_v6 : IVec S_ 1 := (fun x v => Host.reduce IntOp.andi x v reducesTo_S47744_S_d0 h_S_) main_v5 main_c
  let main_c_1 : IVec S_ 32 := constantI S_ 32 0#32
  let main_v7 : IVec S256 32 := broadcastInDim S256 ![] bcast_S_S256 main_c_1
  let main_v8 : IVec S256 1 := cmpi .sge main_arg1 main_v7
  let main_c_2 : IVec S_ 32 := constantI S_ 32 345#32
  let main_v9 : IVec S256 32 := broadcastInDim S256 ![] bcast_S_S256 main_c_2
  let main_v10 : IVec S256 1 := cmpi .slt main_arg1 main_v9
  let main_v11 : IVec S256 1 := andi main_v8 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v6 main_v12
  let main_c_4 : IVec S_ 32 := constantI S_ 32 0#32
  let main_v14 : IVec S47744 32 := broadcastInDim S47744 ![] bcast_S_S47744 main_c_4
  let main_v15 : IVec S47744 1 := cmpi .sge main_v1 main_v14
  let main_c_5 : IVec S_ 32 := constantI S_ 32 345#32
  fn_part1 (F := F) main_arg0 main_arg1 main_arg3 main_arg4 main_v1 main_v13 main_v15 main_c_5
-- ==== Kernel.lean ====
abbrev S512x512 : Shape := ⟨2, ![512, 512]⟩
abbrev S256 : Shape := ⟨1, ![256]⟩
abbrev S_ : Shape := ⟨0, ![]⟩
abbrev S48000x512 : Shape := ⟨2, ![48000, 512]⟩
abbrev S48000 : Shape := ⟨1, ![48000]⟩
abbrev S256x512 : Shape := ⟨2, ![256, 512]⟩
abbrev S256x1 : Shape := ⟨2, ![256, 1]⟩
abbrev S1 : Shape := ⟨1, ![1]⟩
abbrev S15x1x3200 : Shape := ⟨3, ![15, 1, 3200]⟩
abbrev S15x3200x1 : Shape := ⟨3, ![15, 3200, 1]⟩
abbrev S256x640 : Shape := ⟨2, ![256, 640]⟩
abbrev S256x384 : Shape := ⟨2, ![256, 384]⟩
abbrev S1x384 : Shape := ⟨2, ![1, 384]⟩
abbrev S3200x512 : Shape := ⟨2, ![3200, 512]⟩
abbrev S1x1x3200 : Shape := ⟨3, ![1, 1, 3200]⟩
abbrev S1x3200x1 : Shape := ⟨3, ![1, 3200, 1]⟩
abbrev S2944x512 : Shape := ⟨2, ![2944, 512]⟩
abbrev S3200x1 : Shape := ⟨2, ![3200, 1]⟩
abbrev S256x3200 : Shape := ⟨2, ![256, 3200]⟩
abbrev S3200x384 : Shape := ⟨2, ![3200, 384]⟩
abbrev S384 : Shape := ⟨1, ![384]⟩
abbrev S1x3200 : Shape := ⟨2, ![1, 3200]⟩
abbrev S256x128 : Shape := ⟨2, ![256, 128]⟩
abbrev S1x1 : Shape := ⟨2, ![1, 1]⟩
abbrev S1x256x1 : Shape := ⟨3, ![1, 256, 1]⟩
abbrev S1x1x1 : Shape := ⟨3, ![1, 1, 1]⟩

abbrev nBuf : Space → Nat
  | .hbm => 45
  | .vmem => 21
  | .smem => 0
  | _ => 0

abbrev bufTy : (tb : Table) → Fin (tcTables nBuf tb) → BufTy
  | .hbm, ⟨0, _⟩ => ⟨S512x512, .f32⟩
  | .hbm, ⟨1, _⟩ => ⟨S256, .i32⟩
  | .hbm, ⟨2, _⟩ => ⟨S_, .i32⟩
  | .hbm, ⟨3, _⟩ => ⟨S48000x512, .f32⟩
  | .hbm, ⟨4, _⟩ => ⟨S48000, .i32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S256x512, .f32⟩
  | .hbm, ⟨18, _⟩ => ⟨S_, .f32⟩
  | .hbm, ⟨19, _⟩ => ⟨S256, .f32⟩
  | .hbm, ⟨20, _⟩ => ⟨S256x1, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S256x512, .f32⟩
  | .hbm, ⟨26, _⟩ => ⟨S256x512, .f32⟩
  | .hbm, ⟨27, _⟩ => ⟨S_, .i32⟩
  | .hbm, ⟨28, _⟩ => ⟨S1, .i32⟩
  | .hbm, ⟨29, _⟩ => ⟨S48000, .i32⟩
  | .hbm, ⟨30, _⟩ => ⟨S15x1x3200, .i32⟩
  | .hbm, ⟨31, _⟩ => ⟨S15x3200x1, .i32⟩
  | .hbm, ⟨32, _⟩ => ⟨S256x640, .i32⟩
  | .hbm, ⟨33, _⟩ => ⟨S256x1, .f32⟩
  | .hbm, ⟨34, _⟩ => ⟨S256x384, .f32⟩
  | .hbm, ⟨35, _⟩ => ⟨S1x384, .f32⟩
  | .hbm, ⟨36, _⟩ => ⟨S1x1, .f32⟩
  | .hbm, ⟨37, _⟩ => ⟨S_, .f32⟩
  | .hbm, ⟨38, _⟩ => ⟨S_, .i32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S3200x512, .f32⟩
  | .local _ .vmem, ⟨3, _⟩ => ⟨S3200x512, .f32⟩
  | .local _ .vmem, ⟨4, _⟩ => ⟨S1x1x3200, .i32⟩
  | .local _ .vmem, ⟨5, _⟩ => ⟨S1x1x3200, .i32⟩
  | .local _ .vmem, ⟨6, _⟩ => ⟨S1x3200x1, .i32⟩
  | .local _ .vmem, ⟨7, _⟩ => ⟨S1x3200x1, .i32⟩
  | .local _ .vmem, ⟨8, _⟩ => ⟨S256x640, .i32⟩
  | .local _ .vmem, ⟨9, _⟩ => ⟨S256x1, .f32⟩
  | .local _ .vmem, ⟨10, _⟩ => ⟨S256x384, .f32⟩
  | .local _ .vmem, ⟨11, _⟩ => ⟨S1x384, .f32⟩
  | .local _ .vmem, ⟨12, _⟩ => ⟨S256x640, .i32⟩
  | .local _ .vmem, ⟨13, _⟩ => ⟨S256x1, .f32⟩
  | .local _ .vmem, ⟨14, _⟩ => ⟨S256x384, .f32⟩
  | .local _ .vmem, ⟨15, _⟩ => ⟨S1x384, .f32⟩
  | .local _ .vmem, ⟨16, _⟩ => ⟨S256x640, .i32⟩
  | .local _ .vmem, ⟨17, _⟩ => ⟨S256x1, .f32⟩
  | .local _ .vmem, ⟨18, _⟩ => ⟨S256x384, .f32⟩
  | .local _ .vmem, ⟨19, _⟩ => ⟨S1x384, .f32⟩
  | .local _ .vmem, ⟨20, _⟩ => ⟨S1x1, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v22_2 : Ref sig .tc := ⟨.hbm, 34, rfl⟩
abbrev main_v22_3 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_cst_4 : Ref sig .tc := ⟨.hbm, 40, rfl⟩
abbrev main_cst_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16

abbrev nD : Nat := 1
abbrev τ : Topo := Topo.v7x

variable {F : FTy → Type} [FloatOps F]

abbrev grid0 : Pipeline.Grid := ⟨1, ![15], ![false]⟩

def k0_cond2 (i : grid0.Coords) : BitVec 1 :=
  let arg0 : BitVec 32 := BitVec.ofNat 32 (i 0).val
  let c14_i32 : BitVec 32 := 14#32
  let v222 : BitVec 1 := Scalar.cmpi .eq arg0 c14_i32
  let v223 : BitVec 32 := Scalar.extui v222
  let c0_i32_52 : BitVec 32 := 0#32
  let v224 : BitVec 1 := Scalar.cmpi .ne v223 c0_i32_52
  v224

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3200x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x3200 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3200x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x640 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := .none

abbrev stage1_0 : Fin 1 → Memref sig .tc .vmem S256x640 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== KernelIdeal.lean ====
variable {F : FTy → Type} [FloatOps F] [Named F]
def κ : String → Option EReal := fun
  | "inv_temp" => some ((134217728 / 9395241 : ℝ) : EReal)
  | _ => none
-- ==== ReferenceIdeal.lean ====
abbrev S512x512 : Shape := ⟨2, ![512, 512]⟩
abbrev S256 : Shape := ⟨1, ![256]⟩
abbrev S_ : Shape := ⟨0, ![]⟩
abbrev S48000x512 : Shape := ⟨2, ![48000, 512]⟩
abbrev S48000 : Shape := ⟨1, ![48000]⟩
abbrev S256x512 : Shape := ⟨2, ![256, 512]⟩
abbrev S1 : Shape := ⟨1, ![1]⟩
abbrev S48000x1 : Shape := ⟨2, ![48000, 1]⟩
abbrev S256x1 : Shape := ⟨2, ![256, 1]⟩
abbrev S512x48000 : Shape := ⟨2, ![512, 48000]⟩
abbrev S256x48000 : Shape := ⟨2, ![256, 48000]⟩
abbrev S256x5 : Shape := ⟨2, ![256, 5]⟩
abbrev S256x5x1 : Shape := ⟨3, ![256, 5, 1]⟩
abbrev S1x1x345 : Shape := ⟨3, ![1, 1, 345]⟩
abbrev S256x5x345 : Shape := ⟨3, ![256, 5, 345]⟩
abbrev S256x345 : Shape := ⟨2, ![256, 345]⟩
abbrev S1x48000 : Shape := ⟨2, ![1, 48000]⟩

abbrev nBuf : Space → Nat
  | .hbm => 101
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S256, .i32⟩
  | .hbm, ⟨2, _⟩ => ⟨S_, .i32⟩
  | .hbm, ⟨3, _⟩ => ⟨S48000x512, .f32⟩
  | .hbm, ⟨4, _⟩ => ⟨S48000, .i32⟩
  | .hbm, ⟨5, _⟩ => ⟨S256x512, .f32⟩
  | .hbm, ⟨6, _⟩ => ⟨S256x512, .f32⟩
  | .hbm, ⟨7, _⟩ => ⟨S_, .i32⟩
  | .hbm, ⟨8, _⟩ => ⟨S1, .i32⟩
  | .hbm, ⟨9, _⟩ => ⟨S48000x512, .f32⟩
  | .hbm, ⟨10, _⟩ => ⟨S_, .i32⟩
  | .hbm, ⟨11, _⟩ => ⟨S1, .i32⟩
  | .hbm, ⟨12, _⟩ => ⟨S48000, .i32⟩
  | .hbm, ⟨13, _⟩ => ⟨S48000x512, .f32⟩
  | .hbm, ⟨14, _⟩ => ⟨S_, .f32⟩
  | .hbm, ⟨15, _⟩ => ⟨S48000, .f32⟩
  | .hbm, ⟨16, _⟩ => ⟨S48000x1, .f32⟩
  | .hbm, ⟨17, _⟩ => ⟨S48000x1, .f32⟩
  | .hbm, ⟨18, _⟩ => ⟨S_, .f32⟩
  | .hbm, ⟨19, _⟩ => ⟨S48000x1, .f32⟩
  | .hbm, ⟨20, _⟩ => ⟨S48000x1, .f32⟩
  | .hbm, ⟨21, _⟩ => ⟨S48000x512, .f32⟩
  | .hbm, ⟨22, _⟩ => ⟨S48000x512, .f32⟩
  | .hbm, ⟨23, _⟩ => ⟨S256x512, .f32⟩
  | .hbm, ⟨24, _⟩ => ⟨S_, .f32⟩
  | .hbm, ⟨25, _⟩ => ⟨S256, .f32⟩
  | .hbm, ⟨26, _⟩ => ⟨S256x1, .f32⟩
  | .hbm, ⟨27, _⟩ => ⟨S256x1, .f32⟩
  | .hbm, ⟨28, _⟩ => ⟨S_, .f32⟩
  | .hbm, ⟨29, _⟩ => ⟨S256x1, .f32⟩
  | .hbm, ⟨30, _⟩ => ⟨S256x1, .f32⟩
  | .hbm, ⟨31, _⟩ => ⟨S256x512, .f32⟩
  | .hbm, ⟨32, _⟩ => ⟨S256x512, .f32⟩
  | .hbm, ⟨33, _⟩ => ⟨S512x48000, .f32⟩
  | .hbm, ⟨34, _⟩ => ⟨S256x48000, .f32⟩
  | .hbm, ⟨35, _⟩ => ⟨S256x5, .f32⟩
  | .hbm, ⟨36, _⟩ => ⟨S256x5, .i32⟩
  | .hbm, ⟨37, _⟩ => ⟨S_, .i32⟩
  | .hbm, ⟨38, _⟩ => ⟨S256x5, .i32⟩
  | .hbm, ⟨39, _⟩ => ⟨S256x5, .i1⟩
  | .hbm, ⟨40, _⟩ => ⟨S_, .i32⟩
  | .hbm, ⟨41, _⟩ => ⟨S256x5, .i32⟩
  | .hbm, ⟨42, _⟩ => ⟨S256x5, .i32⟩
  | .hbm, ⟨43, _⟩ => ⟨S256x5, .i32⟩
  | .hbm, ⟨44, _⟩ => ⟨S256x5x1, .i32⟩
  | .hbm, ⟨45, _⟩ => ⟨S256x5, .i32⟩
  | .hbm, ⟨46, _⟩ => ⟨S256x5x1, .i32⟩
  | .hbm, ⟨47, _⟩ => ⟨S1x1x345, .i32⟩
  | .hbm, ⟨48, _⟩ => ⟨S256x5x345, .i32⟩
  | .hbm, ⟨49, _⟩ => ⟨S256x5x345, .i32⟩
  | .hbm, ⟨50, _⟩ => ⟨S256x5x345, .i1⟩
  | .hbm, ⟨51, _⟩ => ⟨S256x5x345, .f32⟩
  | .hbm, ⟨52, _⟩ => ⟨S_, .f32⟩
  | .hbm, ⟨53, _⟩ => ⟨S256x345, .f32⟩
  | .hbm, ⟨54, _⟩ => ⟨S256x345, .i32⟩
  | .hbm, ⟨55, _⟩ => ⟨S_, .f32⟩
  | .hbm, ⟨56, _⟩ => ⟨S_, .i32⟩
  | .hbm, ⟨57, _⟩ => ⟨S256, .f32⟩
  | .hbm, ⟨58, _⟩ => ⟨S256, .i32⟩
  | .hbm, ⟨59, _⟩ => ⟨S1x48000, .i32⟩
  | .hbm, ⟨60, _⟩ => ⟨S256x1, .i32⟩
  | .hbm, ⟨61, _⟩ => ⟨S256x48000, .i32⟩
  | .hbm, ⟨62, _⟩ => ⟨S256x48000, .i32⟩
  | .hbm, ⟨63, _⟩ => ⟨S256x48000, .i1⟩
  | .hbm, ⟨64, _⟩ => ⟨S256x48000, .f32⟩
  | .hbm, ⟨65, _⟩ => ⟨S_, .f32⟩
  | .hbm, ⟨66, _⟩ => ⟨S256x48000, .f32⟩
  | .hbm, ⟨67, _⟩ => ⟨S256x48000, .f32⟩
  | .hbm, ⟨68, _⟩ => ⟨S_, .f32⟩
  | .hbm, ⟨69, _⟩ => ⟨S256, .f32⟩
  | .hbm, ⟨70, _⟩ => ⟨S256x1, .f32⟩
  | .hbm, ⟨71, _⟩ => ⟨S256x48000, .f32⟩
  | .hbm, ⟨72, _⟩ => ⟨S256x48000, .f32⟩
  | .hbm, ⟨73, _⟩ => ⟨S256x48000, .f32⟩
  | .hbm, ⟨74, _⟩ => ⟨S_, .f32⟩
  | .hbm, ⟨75, _⟩ => ⟨S256, .f32⟩
  | .hbm, ⟨76, _⟩ => ⟨S256x1, .f32⟩
  | .hbm, ⟨77, _⟩ => ⟨S256x1, .f32⟩
  | .hbm, ⟨78, _⟩ => ⟨S256x48000, .f32⟩
  | .hbm, ⟨79, _⟩ => ⟨S256x48000, .f32⟩
  | .hbm, ⟨80, _⟩ => ⟨S256x48000, .f32⟩
  | .hbm, ⟨81, _⟩ => ⟨S_, .f32⟩
  | .hbm, ⟨82, _⟩ => ⟨S256, .f32⟩
  | .hbm, ⟨83, _⟩ => ⟨S_, .f32⟩
  | .hbm, ⟨84, _⟩ => ⟨S256, .f32⟩
  | .hbm, ⟨85, _⟩ => ⟨S_, .f32⟩
  | .hbm, ⟨86, _⟩ => ⟨S256, .f32⟩
  | .hbm, ⟨87, _⟩ => ⟨S256, .f32⟩
  | .hbm, ⟨88, _⟩ => ⟨S256, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .i32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_values : Ref sig .tc := ⟨.hbm, 35, rfl⟩
abbrev main_indices : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_call0_v0 : Ref sig .tc := ⟨.hbm, 46, rfl⟩
abbrev main_call0_v1 : Ref sig .tc := ⟨.hbm, 47, rfl⟩
abbrev main_call0_v2 : Ref sig .tc := ⟨.hbm, 48, rfl⟩
abbrev main_call0_v3 : Ref sig .tc := ⟨.hbm, 49, rfl⟩
abbrev main_call0_v4 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_call1_v0 : Ref sig .tc := ⟨.hbm, 54, rfl⟩
abbrev main_call1_cst : Ref sig .tc := ⟨.hbm, 55, rfl⟩
abbrev main_call1_c : Ref sig .tc := ⟨.hbm, 56, rfl⟩
abbrev main_call1_v1_0 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_cst_8 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_cst_12 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_v58 : Ref sig .tc := ⟨.hbm, 90, rfl⟩
abbrev main_cst_14 : Ref sig .tc := ⟨.hbm, 91, rfl⟩
abbrev main_v59 : Ref sig .tc := ⟨.hbm, 92, rfl⟩
abbrev main_v60 : Ref sig .tc := ⟨.hbm, 93, rfl⟩
abbrev main_c_15 : Ref sig .tc := ⟨.hbm, 94, rfl⟩
abbrev main_v61 : Ref sig .tc := ⟨.hbm, 95, rfl⟩
abbrev main_cst_16 : Ref sig .tc := ⟨.hbm, 96, rfl⟩
abbrev main_cst_17 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩

abbrev nD : Nat := 1
abbrev τ : Topo := Topo.v7x

variable {F : FTy → Type} [FloatOps F]
-- ==== Proof.KernelIdeal.Stream.lean ====
/- The stream kernel's body as a step on its four carried buffers: the kept keys, the sums of exponentials, the
   sums of logits per class and the counts per class. One theorem for each of the body's three cases (the first
   block, a middle block, the last block), on any whole staging memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.Pipeline.Value
public import Idealize.ShloMosaic.Lib.WordCmp

@[expose] public section

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

/-- What the stream kernel carries from block to block. -/
abbrev St (F : FTy → Type) : Type :=
  Vec F S256x640 .i32 × Vec F S256x1 .f32 × Vec F S256x384 .f32 × Vec F S1x384 .f32

/-- The state the first block starts from. -/
def init : St F := (k0_pay1, k0_pay2 (F := F), k0_pay3 (F := F), k0_pay4 (F := F))

/-- One of the five lists of kept keys: `128` of the `640` columns. -/
abbrev lanes (k : Vec F S256x640 .i32) (o : ℕ) (h : ∀ a, (![0, o] : Fin 2 → Nat) a + S256x128.size a ≤ S256x640.size a) : Vec F S256x128 .i32 :=
  View.ld k (Rect.unit (s := S256x640) ![0, o] S256x128.size h)

/-- The keys of one block, from its scaled similarities `lg` and its labels `x3`. -/
def blockKeys (lg : FVec F S256x3200 .f32) (x3 : Vec F S1x1x3200 .i32) : IVec S256x3200 32 :=
  k0_pay16 (k0_pay11 lg) (k0_pay12 lg) (k0_pay13 lg) (k0_pay14 lg) (k0_pay15 lg) (Scalar.ofBits .f32 0x40000000#32) x3

/-- The block's keys put into the kept lists `k`. -/
def stepKeys (lg : FVec F S256x3200 .f32) (x3 : Vec F S1x1x3200 .i32) (k : Vec F S256x640 .i32) : Vec F S256x640 .i32 :=
  k0_pay56 (blockKeys lg x3) (lanes k 0 inb_S256x640_S256x128_0_0) (lanes k 128 inb_S256x640_S256x128_0_128) (lanes k 256 inb_S256x640_S256x128_0_256)
    (lanes k 384 inb_S256x640_S256x128_0_384) (lanes k 512 inb_S256x640_S256x128_0_512)
    (k0_pay52 (blockKeys lg x3) (k0_pay20 (k0_pay11 lg) (k0_pay12 lg) (k0_pay13 lg) (k0_pay14 lg) (k0_pay15 lg) (Scalar.ofBits .f32 0x40000000#32) x3)
      (k0_pay22 (k0_pay11 lg) (k0_pay12 lg) (k0_pay13 lg) (k0_pay14 lg) (k0_pay15 lg) (Scalar.ofBits .f32 0x40000000#32) x3)
      (k0_pay23 (k0_pay11 lg) (k0_pay12 lg) (k0_pay13 lg) (k0_pay14 lg) (k0_pay15 lg) (Scalar.ofBits .f32 0x40000000#32) x3))
    (k0_pay54 (blockKeys lg x3) (k0_pay22 (k0_pay11 lg) (k0_pay12 lg) (k0_pay13 lg) (k0_pay14 lg) (k0_pay15 lg) (Scalar.ofBits .f32 0x40000000#32) x3))
    (k0_pay55 (blockKeys lg x3) (k0_pay22 (k0_pay11 lg) (k0_pay12 lg) (k0_pay13 lg) (k0_pay14 lg) (k0_pay15 lg) (Scalar.ofBits .f32 0x40000000#32) x3))

/-- One block: the state after it from the state before it; `x0` the targets' feature rows, `x1` the source rows,
    `x2` the block of the queue, `x3` and `x4` its labels as a row and as a column. -/
def step (i : grid0.Coords) (x0 x1 : Vec F S256x512 .f32) (x2 : Vec F S3200x512 .f32) (x3 : Vec F S1x1x3200 .i32) (x4 : Vec F S1x3200x1 .i32) (s : St F) : St F :=
  (stepKeys (k0_pay5 i x2 x1 x0) x3 s.1, k0_pay6 i x2 x1 x0 s.2.1,
    k0_pay9 (k0_pay5 i x2 x1 x0) (iota .tc S3200x384 32 [1] iota_S3200x384_d1_w32) (k0_pay7 x4) s.2.2.1,
    k0_pay10 (iota .tc S3200x384 32 [1] iota_S3200x384_d1_w32) (k0_pay7 x4) s.2.2.2)

/-- The condition of the body's first branch. -/
abbrev first (i : grid0.Coords) : Prop := (Scalar.cmpi .ne (Scalar.extui (Scalar.cmpi .eq (BitVec.ofNat 32 (i 0).val) 0#32)) 0#32) = 1#1
/-- The condition of its last branch. -/
abbrev last (i : grid0.Coords) : Prop := k0_cond2 i = 1#1

theorem zero2 : (![0, 0] : Fin 2 → ℕ) = fun _ => 0 := by decide
theorem zero3 : (![0, 0, 0] : Fin 3 → ℕ) = fun _ => 0 := by decide

section
variable (c : Dev nD) (i : grid0.Coords) (arg1 : Memref sig .tc .vmem S256x512 .f32) (harg1 : arg1.IsWhole) (arg2 : Memref sig .tc .vmem S256x512 .f32) (harg2 : arg2.IsWhole) (arg3 : Memref sig .tc .vmem S3200x512 .f32) (harg3 : arg3.IsWhole) (arg4 : Memref sig .tc .vmem S1x1x3200 .i32) (harg4 : arg4.IsWhole) (arg5 : Memref sig .tc .vmem S1x3200x1 .i32) (harg5 : arg5.IsWhole) (arg6 : Memref sig .tc .vmem S256x640 .i32) (harg6 : arg6.IsWhole) (arg7 : Memref sig .tc .vmem S256x1 .f32) (harg7 : arg7.IsWhole) (arg8 : Memref sig .tc .vmem S256x384 .f32) (harg8 : arg8.IsWhole) (arg9 : Memref sig .tc .vmem S1x384 .f32) (harg9 : arg9.IsWhole) (arg10 : Memref sig .tc .vmem S256x640 .i32) (harg10 : arg10.IsWhole) (arg11 : Memref sig .tc .vmem S256x1 .f32) (harg11 : arg11.IsWhole) (arg12 : Memref sig .tc .vmem S256x384 .f32) (harg12 : arg12.IsWhole) (arg13 : Memref sig .tc .vmem S1x384 .f32) (harg13 : arg13.IsWhole)
  (x0 x1 : Vec F S256x512 .f32) (x2 : Vec F S3200x512 .f32) (x3 : Vec F S1x1x3200 .i32) (x4 : Vec F S1x3200x1 .i32)

set_option maxHeartbeats 3200000 in
/-- The first block: whatever the carried buffers hold, they are left at the first step's state, the outputs untouched. -/
theorem runA (h0 : first i) (h1 : ¬last i) (y0 : Vec F S256x640 .i32) (y1 : Vec F S256x1 .f32) (y2 : Vec F S256x384 .f32) (y3 : Vec F S1x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare (step i x0 x1 x2 x3 x4 init).1 ∗ owns (c : Thread nD τ) arg11 fullShare (step i x0 x1 x2 x3 x4 init).2.1 ∗ owns (c : Thread nD τ) arg12 fullShare (step i x0 x1 x2 x3 x4 init).2.2.1 ∗ owns (c : Thread nD τ) arg13 fullShare (step i x0 x1 x2 x3 x4 init).2.2.2) -∗ K ⟨⟩))
      ⊢ wp frame (wpE (defs₀ (F := F)) Variants.none c none) E (cc0__stream_kernel i arg1 harg1 arg2 harg2 arg3 harg3 arg4 harg4 arg5 harg5 arg6 harg6 arg7 harg7 arg8 harg8 arg9 harg9 arg10 harg10 arg11 harg11 arg12 harg12 arg13 harg13) K := by
  simp only [cc0__stream_kernel_eq_skeleton]; unfold cc0__stream_kernel_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; rw [View.read_writes_eq_canon _ _ _ (fun y => View.cover_of_tiledL _ S256x640.size (by sl_kernel_rfl) y)]; (have e0 : arg1.view.readAt (Elt F) (Rect.unit (s := S256x512) ![0, 0] S256x512.size inb_S256x512_S256x512_0_0).toLoadRect (harg1.unread x0) = x0 := (by simp only [View.readAt_eq_ld, harg1.read_unread, View.ld_unit_zero (S := S256x512) zero2]); have e1 : arg2.view.readAt (Elt F) (Rect.unit (s := S256x512) ![0, 0] S256x512.size inb_S256x512_S256x512_0_0).toLoadRect (harg2.unread x1) = x1 := (by simp only [View.readAt_eq_ld, harg2.read_unread, View.ld_unit_zero (S := S256x512) zero2]); have e2 : arg3.view.readAt (Elt F) (Rect.unit (s := S3200x512) ![0, 0] S3200x512.size inb_S3200x512_S3200x512_0_0).toLoadRect (harg3.unread x2) = x2 := (by simp only [View.readAt_eq_ld, harg3.read_unread, View.ld_unit_zero (S := S3200x512) zero2]); have e3 : arg4.view.readAt (Elt F) (Rect.unit (s := S1x1x3200) ![0, 0, 0] S1x1x3200.size inb_S1x1x3200_S1x1x3200_0_0_0).toLoadRect (harg4.unread x3) = x3 := (by simp only [View.readAt_eq_ld, harg4.read_unread, View.ld_unit_zero (S := S1x1x3200) zero3]); exact (View.canon_cons_unit_zero zero2 _ _ _).trans (((show _ = stepKeys (k0_pay5 i (arg3.view.readAt (Elt F) (Rect.unit (s := S3200x512) ![0, 0] S3200x512.size inb_S3200x512_S3200x512_0_0).toLoadRect (harg3.unread x2)) (arg2.view.readAt (Elt F) (Rect.unit (s := S256x512) ![0, 0] S256x512.size inb_S256x512_S256x512_0_0).toLoadRect (harg2.unread x1)) (arg1.view.readAt (Elt F) (Rect.unit (s := S256x512) ![0, 0] S256x512.size inb_S256x512_S256x512_0_0).toLoadRect (harg1.unread x0))) (arg4.view.readAt (Elt F) (Rect.unit (s := S1x1x3200) ![0, 0, 0] S1x1x3200.size inb_S1x1x3200_S1x1x3200_0_0_0).toLoadRect (harg4.unread x3)) (arg10.view.read (Elt F) (arg10.view.writes (Elt F) arg10.view.junk [⟨Rect.unit (s := S256x640) ![0, 0] S256x640.size inb_S256x640_S256x640_0_0, (k0_pay1 : IVec S256x640 32)⟩])) from rfl).trans (by rw [e0, e1, e2, e3, View.read_writes_eq_canon _ _ _ (fun y => View.cover_of_tiledL _ S256x640.size (by sl_kernel_rfl) y), View.canon_cons_unit_zero zero2]; rfl))))
  isplitl [H10]
  · iexists _; isplitr; swap; · iexact H10
    ipureintro; rw [View.read_writes_eq_canon _ _ _ (fun y => View.cover_of_tiledL _ S256x1.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  isplitl [H11]
  · iexists _; isplitr; swap; · iexact H11
    ipureintro; rw [View.read_writes_eq_canon _ _ _ (fun y => View.cover_of_tiledL _ S256x384.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  iexists _; isplitr; swap; · iexact H12
  ipureintro; rw [View.read_writes_eq_canon _ _ _ (fun y => View.cover_of_tiledL _ S1x384.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)

set_option maxHeartbeats 3200000 in
/-- A middle block: the carried buffers go one step on, the outputs untouched. -/
theorem runB (h0 : ¬first i) (h1 : ¬last i) (s : St F) (y0 : Vec F S256x640 .i32) (y1 : Vec F S256x1 .f32) (y2 : Vec F S256x384 .f32) (y3 : Vec F S1x384 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare s.1 ∗ owns (c : Thread nD τ) arg11 fullShare s.2.1 ∗ owns (c : Thread nD τ) arg12 fullShare s.2.2.1 ∗ owns (c : Thread nD τ) arg13 fullShare s.2.2.2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare (step i x0 x1 x2 x3 x4 s).1 ∗ owns (c : Thread nD τ) arg11 fullShare (step i x0 x1 x2 x3 x4 s).2.1 ∗ owns (c : Thread nD τ) arg12 fullShare (step i x0 x1 x2 x3 x4 s).2.2.1 ∗ owns (c : Thread nD τ) arg13 fullShare (step i x0 x1 x2 x3 x4 s).2.2.2) -∗ K ⟨⟩))
      ⊢ wp frame (wpE (defs₀ (F := F)) Variants.none c none) E (cc0__stream_kernel i arg1 harg1 arg2 harg2 arg3 harg3 arg4 harg4 arg5 harg5 arg6 harg6 arg7 harg7 arg8 harg8 arg9 harg9 arg10 harg10 arg11 harg11 arg12 harg12 arg13 harg13) K := by
  simp only [cc0__stream_kernel_eq_skeleton]; unfold cc0__stream_kernel_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro; rw [View.read_writes_eq_canon _ _ _ (fun y => View.cover_of_tiledL _ S256x640.size (by sl_kernel_rfl) y)]; (have e0 : arg1.view.readAt (Elt F) (Rect.unit (s := S256x512) ![0, 0] S256x512.size inb_S256x512_S256x512_0_0).toLoadRect (harg1.unread x0) = x0 := (by simp only [View.readAt_eq_ld, harg1.read_unread, View.ld_unit_zero (S := S256x512) zero2]); have e1 : arg2.view.readAt (Elt F) (Rect.unit (s := S256x512) ![0, 0] S256x512.size inb_S256x512_S256x512_0_0).toLoadRect (harg2.unread x1) = x1 := (by simp only [View.readAt_eq_ld, harg2.read_unread, View.ld_unit_zero (S := S256x512) zero2]); have e2 : arg3.view.readAt (Elt F) (Rect.unit (s := S3200x512) ![0, 0] S3200x512.size inb_S3200x512_S3200x512_0_0).toLoadRect (harg3.unread x2) = x2 := (by simp only [View.readAt_eq_ld, harg3.read_unread, View.ld_unit_zero (S := S3200x512) zero2]); have e3 : arg4.view.readAt (Elt F) (Rect.unit (s := S1x1x3200) ![0, 0, 0] S1x1x3200.size inb_S1x1x3200_S1x1x3200_0_0_0).toLoadRect (harg4.unread x3) = x3 := (by simp only [View.readAt_eq_ld, harg4.read_unread, View.ld_unit_zero (S := S1x1x3200) zero3]); exact (View.canon_cons_unit_zero zero2 _ _ _).trans (((show _ = stepKeys (k0_pay5 i (arg3.view.readAt (Elt F) (Rect.unit (s := S3200x512) ![0, 0] S3200x512.size inb_S3200x512_S3200x512_0_0).toLoadRect (harg3.unread x2)) (arg2.view.readAt (Elt F) (Rect.unit (s := S256x512) ![0, 0] S256x512.size inb_S256x512_S256x512_0_0).toLoadRect (harg2.unread x1)) (arg1.view.readAt (Elt F) (Rect.unit (s := S256x512) ![0, 0] S256x512.size inb_S256x512_S256x512_0_0).toLoadRect (harg1.unread x0))) (arg4.view.readAt (Elt F) (Rect.unit (s := S1x1x3200) ![0, 0, 0] S1x1x3200.size inb_S1x1x3200_S1x1x3200_0_0_0).toLoadRect (harg4.unread x3)) (arg10.view.read (Elt F) (harg10.unread s.1)) from rfl).trans (by rw [e0, e1, e2, e3, harg10.read_unread]; rfl))))
  isplitl [H10]
  · iexists _; isplitr; swap; · iexact H10
    ipureintro; rw [View.read_writes_eq_canon _ _ _ (fun y => View.cover_of_tiledL _ S256x1.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  isplitl [H11]
  · iexists _; isplitr; swap; · iexact H11
    ipureintro; rw [View.read_writes_eq_canon _ _ _ (fun y => View.cover_of_tiledL _ S256x384.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  iexists _; isplitr; swap; · iexact H12
  ipureintro; rw [View.read_writes_eq_canon _ _ _ (fun y => View.cover_of_tiledL _ S1x384.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)

set_option maxHeartbeats 3200000 in
/-- The last block: the carried buffers go one step on, and the outputs are left holding them. -/
theorem runC (h0 : ¬first i) (h1 : last i) (s : St F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s.1 ∗ owns (c : Thread nD τ) arg11 fullShare s.2.1 ∗ owns (c : Thread nD τ) arg12 fullShare s.2.2.1 ∗ owns (c : Thread nD τ) arg13 fullShare s.2.2.2
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (step i x0 x1 x2 x3 x4 s).1 ∗ owns (c : Thread nD τ) arg7 fullShare (step i x0 x1 x2 x3 x4 s).2.1 ∗ owns (c : Thread nD τ) arg8 fullShare (step i x0 x1 x2 x3 x4 s).2.2.1 ∗ owns (c : Thread nD τ) arg9 fullShare (step i x0 x1 x2 x3 x4 s).2.2.2 ∗ owns (c : Thread nD τ) arg10 fullShare (step i x0 x1 x2 x3 x4 s).1 ∗ owns (c : Thread nD τ) arg11 fullShare (step i x0 x1 x2 x3 x4 s).2.1 ∗ owns (c : Thread nD τ) arg12 fullShare (step i x0 x1 x2 x3 x4 s).2.2.1 ∗ owns (c : Thread nD τ) arg13 fullShare (step i x0 x1 x2 x3 x4 s).2.2.2) -∗ K ⟨⟩))
      ⊢ wp frame (wpE (defs₀ (F := F)) Variants.none c none) E (cc0__stream_kernel i arg1 harg1 arg2 harg2 arg3 harg3 arg4 harg4 arg5 harg5 arg6 harg6 arg7 harg7 arg8 harg8 arg9 harg9 arg10 harg10 arg11 harg11 arg12 harg12 arg13 harg13) K := by
  simp only [cc0__stream_kernel_eq_skeleton]; unfold cc0__stream_kernel_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
  obtain rfl := harg1.eq_unread hf0; obtain rfl := harg2.eq_unread hf1; obtain rfl := harg3.eq_unread hf2; obtain rfl := harg4.eq_unread hf3; obtain rfl := harg5.eq_unread hf4; obtain rfl := harg10.eq_unread hf9; obtain rfl := harg11.eq_unread hf10; obtain rfl := harg12.eq_unread hf11; obtain rfl := harg13.eq_unread hf12
  sl_exec (disch := first | sl_exact h0 | sl_exact h1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro; rw [View.read_writes_eq_canon _ _ _ (fun y => View.cover_of_tiledL _ S256x640.size (by sl_kernel_rfl) y)]; (have e0 : arg1.view.readAt (Elt F) (Rect.unit (s := S256x512) ![0, 0] S256x512.size inb_S256x512_S256x512_0_0).toLoadRect (harg1.unread x0) = x0 := (by simp only [View.readAt_eq_ld, harg1.read_unread, View.ld_unit_zero (S := S256x512) zero2]); have e1 : arg2.view.readAt (Elt F) (Rect.unit (s := S256x512) ![0, 0] S256x512.size inb_S256x512_S256x512_0_0).toLoadRect (harg2.unread x1) = x1 := (by simp only [View.readAt_eq_ld, harg2.read_unread, View.ld_unit_zero (S := S256x512) zero2]); have e2 : arg3.view.readAt (Elt F) (Rect.unit (s := S3200x512) ![0, 0] S3200x512.size inb_S3200x512_S3200x512_0_0).toLoadRect (harg3.unread x2) = x2 := (by simp only [View.readAt_eq_ld, harg3.read_unread, View.ld_unit_zero (S := S3200x512) zero2]); have e3 : arg4.view.readAt (Elt F) (Rect.unit (s := S1x1x3200) ![0, 0, 0] S1x1x3200.size inb_S1x1x3200_S1x1x3200_0_0_0).toLoadRect (harg4.unread x3) = x3 := (by simp only [View.readAt_eq_ld, harg4.read_unread, View.ld_unit_zero (S := S1x1x3200) zero3]); exact (View.canon_cons_unit_zero zero2 _ _ _).trans ((View.readCov_unit_zero (S := S256x640) _ zero2 _ _).trans ((show _ = stepKeys (k0_pay5 i (arg3.view.readAt (Elt F) (Rect.unit (s := S3200x512) ![0, 0] S3200x512.size inb_S3200x512_S3200x512_0_0).toLoadRect (harg3.unread x2)) (arg2.view.readAt (Elt F) (Rect.unit (s := S256x512) ![0, 0] S256x512.size inb_S256x512_S256x512_0_0).toLoadRect (harg2.unread x1)) (arg1.view.readAt (Elt F) (Rect.unit (s := S256x512) ![0, 0] S256x512.size inb_S256x512_S256x512_0_0).toLoadRect (harg1.unread x0))) (arg4.view.readAt (Elt F) (Rect.unit (s := S1x1x3200) ![0, 0, 0] S1x1x3200.size inb_S1x1x3200_S1x1x3200_0_0_0).toLoadRect (harg4.unread x3)) (arg10.view.read (Elt F) (harg10.unread s.1)) from rfl).trans (by rw [e0, e1, e2, e3, harg10.read_unread]; rfl))))
  isplitl [H6]
  · iexists _; isplitr; swap; · iexact H6
    ipureintro; rw [View.read_writes_eq_canon _ _ _ (fun y => View.cover_of_tiledL _ S256x1.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  isplitl [H7]
  · iexists _; isplitr; swap; · iexact H7
    ipureintro; rw [View.read_writes_eq_canon _ _ _ (fun y => View.cover_of_tiledL _ S256x384.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  isplitl [H8]
  · iexists _; isplitr; swap; · iexact H8
    ipureintro; rw [View.read_writes_eq_canon _ _ _ (fun y => View.cover_of_tiledL _ S1x384.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  isplitl [H9]
  · iexists _; isplitr; swap; · iexact H9
    ipureintro; rw [View.read_writes_eq_canon _ _ _ (fun y => View.cover_of_tiledL _ S256x640.size (by sl_kernel_rfl) y)]; (have e0 : arg1.view.readAt (Elt F) (Rect.unit (s := S256x512) ![0, 0] S256x512.size inb_S256x512_S256x512_0_0).toLoadRect (harg1.unread x0) = x0 := (by simp only [View.readAt_eq_ld, harg1.read_unread, View.ld_unit_zero (S := S256x512) zero2]); have e1 : arg2.view.readAt (Elt F) (Rect.unit (s := S256x512) ![0, 0] S256x512.size inb_S256x512_S256x512_0_0).toLoadRect (harg2.unread x1) = x1 := (by simp only [View.readAt_eq_ld, harg2.read_unread, View.ld_unit_zero (S := S256x512) zero2]); have e2 : arg3.view.readAt (Elt F) (Rect.unit (s := S3200x512) ![0, 0] S3200x512.size inb_S3200x512_S3200x512_0_0).toLoadRect (harg3.unread x2) = x2 := (by simp only [View.readAt_eq_ld, harg3.read_unread, View.ld_unit_zero (S := S3200x512) zero2]); have e3 : arg4.view.readAt (Elt F) (Rect.unit (s := S1x1x3200) ![0, 0, 0] S1x1x3200.size inb_S1x1x3200_S1x1x3200_0_0_0).toLoadRect (harg4.unread x3) = x3 := (by simp only [View.readAt_eq_ld, harg4.read_unread, View.ld_unit_zero (S := S1x1x3200) zero3]); exact (View.canon_cons_unit_zero zero2 _ _ _).trans (((show _ = stepKeys (k0_pay5 i (arg3.view.readAt (Elt F) (Rect.unit (s := S3200x512) ![0, 0] S3200x512.size inb_S3200x512_S3200x512_0_0).toLoadRect (harg3.unread x2)) (arg2.view.readAt (Elt F) (Rect.unit (s := S256x512) ![0, 0] S256x512.size inb_S256x512_S256x512_0_0).toLoadRect (harg2.unread x1)) (arg1.view.readAt (Elt F) (Rect.unit (s := S256x512) ![0, 0] S256x512.size inb_S256x512_S256x512_0_0).toLoadRect (harg1.unread x0))) (arg4.view.readAt (Elt F) (Rect.unit (s := S1x1x3200) ![0, 0, 0] S1x1x3200.size inb_S1x1x3200_S1x1x3200_0_0_0).toLoadRect (harg4.unread x3)) (arg10.view.read (Elt F) (harg10.unread s.1)) from rfl).trans (by rw [e0, e1, e2, e3, harg10.read_unread]; rfl))))
  isplitl [H10]
  · iexists _; isplitr; swap; · iexact H10
    ipureintro; rw [View.read_writes_eq_canon _ _ _ (fun y => View.cover_of_tiledL _ S256x1.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  isplitl [H11]
  · iexists _; isplitr; swap; · iexact H11
    ipureintro; rw [View.read_writes_eq_canon _ _ _ (fun y => View.cover_of_tiledL _ S256x384.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)
  iexists _; isplitr; swap; · iexact H12
  ipureintro; rw [View.read_writes_eq_canon _ _ _ (fun y => View.cover_of_tiledL _ S1x384.size (by sl_kernel_rfl) y)]; (sl_unfold_run_names; rw [View.canon_cons_unit_zero zero2]; simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S256x512) zero2, View.ld_unit_zero (S := S3200x512) zero2, View.ld_unit_zero (S := S1x1x3200) zero3, View.ld_unit_zero (S := S1x3200x1) zero3, View.ld_unit_zero (S := S256x640) zero2, View.ld_unit_zero (S := S256x1) zero2, View.ld_unit_zero (S := S256x384) zero2, View.ld_unit_zero (S := S1x384) zero2, View.readCov_unit_zero (S := S256x640) _ zero2, View.readCov_unit_zero (S := S256x1) _ zero2, View.readCov_unit_zero (S := S256x384) _ zero2, View.readCov_unit_zero (S := S1x384) _ zero2]; rfl)

end

end Cert.KernelIdeal.Stream

end
-- ==== Proof.KernelIdeal.Region.lean ====
/- The stream kernel's body as a step on its four carried buffers: the kept keys, the sums of exponentials, the
   sums of logits per class and the counts per class. One theorem for each of the body's three cases (the first
   block, a middle block, the last block), on any whole staging memrefs. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.Pipeline.Value
public import Idealize.ShloMosaic.Lib.WordCmp
public import proofs.«01_k».proof.Proof.KernelIdeal.Stream

@[expose] public section

set_option maxRecDepth 16384

noncomputable section

namespace Cert.KernelIdeal.Stream

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks and the carried state -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The state after the block of point `t`. -/
def stepAt (c : Dev nD) (t : Fin cfg0.N) (s : St F) : St F :=
  step (grid0.coords t) (iblk V c 0 t) (iblk V c 1 t) (iblk V c 2 t) (iblk V c 3 t) (iblk V c 4 t) s

/-- The state before point `n`: the first `n` blocks put in one after the other. -/
def stateAt (c : Dev nD) : ℕ → St F
  | 0 => init
  | n + 1 => if h : n < cfg0.N then stepAt V c ⟨n, h⟩ (stateAt c n) else stateAt c n

theorem stateAt_succ (c : Dev nD) (t : Fin cfg0.N) :
    stateAt V c (t.val + 1) = step (grid0.coords t) (iblk V c 0 t) (iblk V c 1 t) (iblk V c 2 t) (iblk V c 3 t) (iblk V c 4 t) (stateAt V c t.val) := by
  rw [stateAt, dif_pos t.isLt, stepAt]

/-- Carried buffer 0, whole. -/
abbrev sc_0 : Memref sig .tc .vmem S256x640 .i32 := Memref.whole cc0_scratch0
/-- Carried buffer 1, whole. -/
abbrev sc_1 : Memref sig .tc .vmem S256x1 .f32 := Memref.whole cc0_scratch1
/-- Carried buffer 2, whole. -/
abbrev sc_2 : Memref sig .tc .vmem S256x384 .f32 := Memref.whole cc0_scratch2
/-- Carried buffer 3, whole. -/
abbrev sc_3 : Memref sig .tc .vmem S1x384 .f32 := Memref.whole cc0_scratch3

/-- What rides through the region beside the carried buffers: the other region's staging buffers and the random-number register. -/
def rest (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f)) ∗ (∃ r, prngReg c r))

/-- What the launch hands the region: the carried buffers at anything and the rest. -/
theorem start_in (c : Dev nD) :
    (Pipeline.ΦA spec0 c : sProp 𝕄) ⊢ iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d)) ∗ rest c) := by
  unfold Pipeline.ΦA rest; rw [scopedRest0_eq]; simp only [sc_0, sc_1, sc_2, sc_3, owns_whole]
  iintro ⟨⟨H0, H1, H2, H3, Ho⟩, Hg⟩
  isplitl [H0 H1 H2 H3]
  · isplitl [H0]; · iexact H0
    isplitl [H1]; · iexact H1
    isplitl [H2]; · iexact H2
    iexact H3
  isplitl [Ho]; · iexact Ho
  iexact Hg

theorem start_out (c : Dev nD) :
    iprop(iprop((∃ d, owns (c : Thread nD τ) sc_0 fullShare d) ∗ (∃ d, owns (c : Thread nD τ) sc_1 fullShare d) ∗ (∃ d, owns (c : Thread nD τ) sc_2 fullShare d) ∗ (∃ d, owns (c : Thread nD τ) sc_3 fullShare d)) ∗ rest c) ⊢ (Pipeline.ΦA spec0 c : sProp 𝕄) := by
  unfold Pipeline.ΦA rest; rw [scopedRest0_eq]; simp only [sc_0, sc_1, sc_2, sc_3, owns_whole]
  iintro ⟨⟨H0, H1, H2, H3⟩, Ho, Hg⟩
  isplitl [H0 H1 H2 H3 Ho]
  · isplitl [H0]; · iexact H0
    isplitl [H1]; · iexact H1
    isplitl [H2]; · iexact H2
    isplitl [H3]; · iexact H3
    iexact Ho
  iexact Hg

/-- The region's invariant before point `n`: at first the carried buffers at anything, then at the state so far. -/
def inv (c : Dev nD) : ℕ → sProp 𝕄
  | 0 => Pipeline.ΦA spec0 c
  | n + 1 => iprop(iprop(owns (c : Thread nD τ) sc_0 fullShare (stateAt V c (n + 1)).1 ∗ owns (c : Thread nD τ) sc_1 fullShare (stateAt V c (n + 1)).2.1 ∗ owns (c : Thread nD τ) sc_2 fullShare (stateAt V c (n + 1)).2.2.1 ∗ owns (c : Thread nD τ) sc_3 fullShare (stateAt V c (n + 1)).2.2.2) ∗ rest c)

theorem inv_pos (c : Dev nD) (n : ℕ) (hz : n ≠ 0) :
    inv V c n = iprop(iprop(owns (c : Thread nD τ) sc_0 fullShare (stateAt V c n).1 ∗ owns (c : Thread nD τ) sc_1 fullShare (stateAt V c n).2.1 ∗ owns (c : Thread nD τ) sc_2 fullShare (stateAt V c n).2.2.1 ∗ owns (c : Thread nD τ) sc_3 fullShare (stateAt V c n).2.2.2) ∗ rest c) := by
  cases n with
  | zero => exact absurd rfl hz
  | succ n => rfl

/-- The proof data of the stream region on core `c`. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => (stateAt V c (t.val + 1)).1
    | ⟨6, _⟩ => (stateAt V c (t.val + 1)).2.1
    | ⟨7, _⟩ => (stateAt V c (t.val + 1)).2.2.1
    | ⟨8, _⟩ => (stateAt V c (t.val + 1)).2.2.2
  Φ t := inv V c t.val
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = iblk V c 3 t := by dsimp only [dat]
theorem after_4 (c : Dev nD) (t : Fin cfg0.N) : (dat V c).after 4 t = iblk V c 4 t := by dsimp only [dat]
theorem after_5 (c : Dev nD) (t : Fin cfg0.N) : (dat V c).after 5 t = (stateAt V c (t.val + 1)).1 := by dsimp only [dat]
theorem after_6 (c : Dev nD) (t : Fin cfg0.N) : (dat V c).after 6 t = (stateAt V c (t.val + 1)).2.1 := by dsimp only [dat]
theorem after_7 (c : Dev nD) (t : Fin cfg0.N) : (dat V c).after 7 t = (stateAt V c (t.val + 1)).2.2.1 := by dsimp only [dat]
theorem after_8 (c : Dev nD) (t : Fin cfg0.N) : (dat V c).after 8 t = (stateAt V c (t.val + 1)).2.2.2 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d
theorem before_3 (c : Dev nD) (t : Fin cfg0.N) (d) : (dat V c).before 3 t d = iblk V c 3 t :=
  before_3_of V (dat V c) (A_eq V c 3) (after_3 V c) t d
theorem before_4 (c : Dev nD) (t : Fin cfg0.N) (d) : (dat V c).before 4 t d = iblk V c 4 t :=
  before_4_of V (dat V c) (A_eq V c 4) (after_4 V c) t d

/-! ## Which branches a point takes -/

theorem first_iff : ∀ t : Fin cfg0.N, first (grid0.coords t) ↔ t.val = 0 :=
  (fun t => by
    have ht : t.val < 15 := Nat.lt_of_lt_of_eq t.isLt N_0
    have e0 : (grid0.coords t 0).val = t.val / 1 % 15 := Pipeline.Grid.coords_val t 0 (by decide) rfl
    simp only [first, k0_cond2, e0]
    word_cmp
    : ∀ t : Fin grid0.N, first (grid0.coords t) ↔ t.val = 0)

theorem last_iff : ∀ t : Fin cfg0.N, last (grid0.coords t) ↔ t.val = 14 :=
  (fun t => by
    have ht : t.val < 15 := Nat.lt_of_lt_of_eq t.isLt N_0
    have e0 : (grid0.coords t 0).val = t.val / 1 % 15 := Pipeline.Grid.coords_val t 0 (by decide) rfl
    simp only [last, k0_cond2, e0]
    word_cmp
    : ∀ t : Fin grid0.N, last (grid0.coords t) ↔ t.val = 14)

theorem idle_5 : ∀ t : Fin cfg0.N, ¬last (grid0.coords t) → cfg0.idle 5 (grid0.coords t) = true := by decide +kernel
theorem keep_5 : ∀ t : Fin cfg0.N, ¬last (grid0.coords t) → (cfg0.win 5).flush t = false := by decide +kernel
theorem live_5 : ∀ t : Fin cfg0.N, last (grid0.coords t) → cfg0.idle 5 (grid0.coords t) = false := by decide +kernel
theorem idle_6 : ∀ t : Fin cfg0.N, ¬last (grid0.coords t) → cfg0.idle 6 (grid0.coords t) = true := by decide +kernel
theorem keep_6 : ∀ t : Fin cfg0.N, ¬last (grid0.coords t) → (cfg0.win 6).flush t = false := by decide +kernel
theorem live_6 : ∀ t : Fin cfg0.N, last (grid0.coords t) → cfg0.idle 6 (grid0.coords t) = false := by decide +kernel
theorem idle_7 : ∀ t : Fin cfg0.N, ¬last (grid0.coords t) → cfg0.idle 7 (grid0.coords t) = true := by decide +kernel
theorem keep_7 : ∀ t : Fin cfg0.N, ¬last (grid0.coords t) → (cfg0.win 7).flush t = false := by decide +kernel
theorem live_7 : ∀ t : Fin cfg0.N, last (grid0.coords t) → cfg0.idle 7 (grid0.coords t) = false := by decide +kernel
theorem idle_8 : ∀ t : Fin cfg0.N, ¬last (grid0.coords t) → cfg0.idle 8 (grid0.coords t) = true := by decide +kernel
theorem keep_8 : ∀ t : Fin cfg0.N, ¬last (grid0.coords t) → (cfg0.win 8).flush t = false := by decide +kernel
theorem live_8 : ∀ t : Fin cfg0.N, last (grid0.coords t) → cfg0.idle 8 (grid0.coords t) = false := by decide +kernel

/-! ## The body obligation -/

abbrev st_0 (t : Fin cfg0.N) : Memref sig .tc .vmem S256x512 .f32 := win0_0.stage (cfg0.slots t 0)
abbrev st_1 (t : Fin cfg0.N) : Memref sig .tc .vmem S256x512 .f32 := win0_1.stage (cfg0.slots t 1)
abbrev st_2 (t : Fin cfg0.N) : Memref sig .tc .vmem S3200x512 .f32 := win0_2.stage (cfg0.slots t 2)
abbrev st_3 (t : Fin cfg0.N) : Memref sig .tc .vmem S1x1x3200 .i32 := win0_3.stage (cfg0.slots t 3)
abbrev st_4 (t : Fin cfg0.N) : Memref sig .tc .vmem S1x3200x1 .i32 := win0_4.stage (cfg0.slots t 4)
abbrev st_5 (t : Fin cfg0.N) : Memref sig .tc .vmem S256x640 .i32 := win0_5.stage (cfg0.slots t 5)
abbrev st_6 (t : Fin cfg0.N) : Memref sig .tc .vmem S256x1 .f32 := win0_6.stage (cfg0.slots t 6)
abbrev st_7 (t : Fin cfg0.N) : Memref sig .tc .vmem S256x384 .f32 := win0_7.stage (cfg0.slots t 7)
abbrev st_8 (t : Fin cfg0.N) : Memref sig .tc .vmem S1x384 .f32 := win0_8.stage (cfg0.slots t 8)

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st_0 t) fullShare ((dat V c).before 0 t d))
    ∗ (∃ d, owns (c : Thread nD τ) (st_1 t) fullShare ((dat V c).before 1 t d))
    ∗ (∃ d, owns (c : Thread nD τ) (st_2 t) fullShare ((dat V c).before 2 t d))
    ∗ (∃ d, owns (c : Thread nD τ) (st_3 t) fullShare ((dat V c).before 3 t d))
    ∗ (∃ d, owns (c : Thread nD τ) (st_4 t) fullShare ((dat V c).before 4 t d))
    ∗ (∃ d, owns (c : Thread nD τ) (st_5 t) fullShare ((dat V c).before 5 t d))
    ∗ (∃ d, owns (c : Thread nD τ) (st_6 t) fullShare ((dat V c).before 6 t d))
    ∗ (∃ d, owns (c : Thread nD τ) (st_7 t) fullShare ((dat V c).before 7 t d))
    ∗ (∃ d, owns (c : Thread nD τ) (st_8 t) fullShare ((dat V c).before 8 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t
    ∗ (dat V c).leavesExact 8 t)

set_option maxHeartbeats 14400000 in
/-- The body at any point. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2, before_3, before_4]
  rw [show (dat V c).owesAt () t.succ = (dat V c).owesAt () t.castSucc from rfl]
  rw [show (dat V c).Φ t.succ = inv V c (t.val + 1) from rfl, inv_pos V c (t.val + 1) (Nat.succ_ne_zero _)]
  rw [show (dat V c).Φ t.castSucc = inv V c t.val from rfl]
  rw [show (dat V c).leavesExact 0 t = owns (c : Thread nD τ) (st_0 t) fullShare ((dat V c).after 0 t) from rfl, after_0]
  rw [show (dat V c).leavesExact 1 t = owns (c : Thread nD τ) (st_1 t) fullShare ((dat V c).after 1 t) from rfl, after_1]
  rw [show (dat V c).leavesExact 2 t = owns (c : Thread nD τ) (st_2 t) fullShare ((dat V c).after 2 t) from rfl, after_2]
  rw [show (dat V c).leavesExact 3 t = owns (c : Thread nD τ) (st_3 t) fullShare ((dat V c).after 3 t) from rfl, after_3]
  rw [show (dat V c).leavesExact 4 t = owns (c : Thread nD τ) (st_4 t) fullShare ((dat V c).after 4 t) from rfl, after_4]
  by_cases h0 : first (grid0.coords t)
  · have h1 : ¬last (grid0.coords t) := fun h => by
      have e0 := (first_iff t).mp h0; have e1 := (last_iff t).mp h; omega
    rw [Dat.leavesExact_idle (dat V c) 5 t (idle_5 t h1) (keep_5 t h1)]
    rw [Dat.leavesExact_idle (dat V c) 6 t (idle_6 t h1) (keep_6 t h1)]
    rw [Dat.leavesExact_idle (dat V c) 7 t (idle_7 t h1) (keep_7 t h1)]
    rw [Dat.leavesExact_idle (dat V c) 8 t (idle_8 t h1) (keep_8 t h1)]
    rw [stateAt_succ V c t]
    rw [show t.val = 0 from (first_iff t).mp h0, show inv V c 0 = Pipeline.ΦA spec0 c from rfl, show stateAt V c 0 = init from rfl]
    refine (sep_mono (start_in c) .rfl).trans ?_
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) _ _ _ _ _ _ _ _ _ _ _ _ _ _ _ _ _ _ _ _ _ _ _ _ _ _ (iblk V c 0 t) (iblk V c 1 t) (iblk V c 2 t) (iblk V c 3 t) (iblk V c 4 t) h0 h1 _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  by_cases h1 : last (grid0.coords t)
  ·
    rw [show (dat V c).leavesExact 5 t = owns (c : Thread nD τ) (st_5 t) fullShare ((dat V c).after 5 t) from by
      unfold Dat.leavesExact; rw [live_5 t h1], after_5]
    rw [show (dat V c).leavesExact 6 t = owns (c : Thread nD τ) (st_6 t) fullShare ((dat V c).after 6 t) from by
      unfold Dat.leavesExact; rw [live_6 t h1], after_6]
    rw [show (dat V c).leavesExact 7 t = owns (c : Thread nD τ) (st_7 t) fullShare ((dat V c).after 7 t) from by
      unfold Dat.leavesExact; rw [live_7 t h1], after_7]
    rw [show (dat V c).leavesExact 8 t = owns (c : Thread nD τ) (st_8 t) fullShare ((dat V c).after 8 t) from by
      unfold Dat.leavesExact; rw [live_8 t h1], after_8]
    rw [stateAt_succ V c t]
    rw [inv_pos V c t.val (fun h => h0 ((first_iff t).mpr h))]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runC c (grid0.coords t) _ _ _ _ _ _ _ _ _ _ _ _ _ _ _ _ _ _ _ _ _ _ _ _ _ _ (iblk V c 0 t) (iblk V c 1 t) (iblk V c 2 t) (iblk V c 3 t) (iblk V c 4 t) h0 h1 (stateAt V c t.val) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  ·
    rw [Dat.leavesExact_idle (dat V c) 5 t (idle_5 t h1) (keep_5 t h1)]
    rw [Dat.leavesExact_idle (dat V c) 6 t (idle_6 t h1) (keep_6 t h1)]
    rw [Dat.leavesExact_idle (dat V c) 7 t (idle_7 t h1) (keep_7 t h1)]
    rw [Dat.leavesExact_idle (dat V c) 8 t (idle_8 t h1) (keep_8 t h1)]
    rw [stateAt_succ V c t]
    rw [inv_pos V c t.val (fun h => h0 ((first_iff t).mpr h))]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) _ _ _ _ _ _ _ _ _ _ _ _ _ _ _ _ _ _ _ _ _ _ _ _ _ _ (iblk V c 0 t) (iblk V c 1 t) (iblk V c 2 t) (iblk V c 3 t) (iblk V c 4 t) h0 h1 (stateAt V c t.val) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iintro ⟨H0, H1, H2, H3, H4, H5, H6, H7, H8, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- Entry: what the launch hands the region is the invariant before the first point. -/
theorem hin (c : Dev nD) : Pipeline.ΦA spec0 c ⊢ (dat V c).Φ 0 := .rfl

/-- Exit: after the last point the carried buffers' contents are forgotten. -/
theorem hout (c : Dev nD) : (dat V c).Φ (Fin.last cfg0.N) ⊢ Pipeline.ΦA spec0 c := by
  rw [show (dat V c).Φ (Fin.last cfg0.N) = inv V c cfg0.N from rfl,
    inv_pos V c _ (by have : cfg0.N = 15 := N_0; omega)]
  iintro ⟨⟨HS0, HS1, HS2, HS3⟩, Hg⟩
  iapply (start_out c)
  isplitl [HS0 HS1 HS2 HS3]
  · isplitl [HS0]
    · iexists _; iexact HS0
    isplitl [HS1]
    · iexists _; iexact HS1
    isplitl [HS2]
    · iexists _; iexact HS2
    iexists _; iexact HS3
  iexact Hg

end Cert.KernelIdeal.Stream

end
-- ==== Proof.KernelIdeal.Run.lean ====
module

public import proofs.«01_k».proof.Proof.Gen.KernelIdeal.Regions
public import proofs.«01_k».proof.Proof.Gen.Own.KernelIdeal.RegionsD
public import proofs.«01_k».proof.Proof.KernelIdeal.Region
public import Idealize.ShloMosaic.Lib.Pipeline.RegionArrays

@[expose] public section

set_option maxRecDepth 16384

noncomputable section

namespace Cert.KernelIdeal.Stream

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

local notation "𝕄" => MT nD τ sig Unit (Elt F) ℕ (UR sig nD τ) ℕ

variable (m : (ℓ : Loc nD τ sig) → Buf (Elt F) ℓ) (outs : Outs (F := F))

/-- The stream region's entry contents: the buffers after the first host stretch. -/
abbrev Ve0 (c : Dev nD) (b : Ref sig .tc) : Buf (Elt F) ((c : Thread nD τ).loc b) := V1 m c (Proc.devRef .tc b)

/-- Nothing is owed while a region runs. -/
abbrev owing : Dev nD → CellTallies nD τ sig Unit := fun _ => 0

/-- The loss region's proof data on core `c`, entered from the buffers after the stream region. -/
abbrev lossDat (c : Dev nD) : Dat τ (Elt F) Unit ℕ (UR sig nD τ) ℕ cfg1 c :=
  Own.K1.dat Variants.none (Own.Ve1 m outs) owing c

/-- The proof data of the two pipelines. -/
def pdats0 : (p : Fin 2) → (c : Dev nD) → Dat τ (Elt F) Unit ℕ (UR sig nD τ) ℕ (cfgs p) c
  | ⟨0, _⟩ => fun c => dat (Ve0 m) c
  | ⟨1, _⟩ => fun c => lossDat m outs c

abbrev pdats : (p : Fin 2) → (c : Dev nD) → Dat τ (Elt F) Unit ℕ (UR sig nD τ) ℕ (cfgs p) c :=
  Own.pdatsD m outs Variants.none (pdats0 m outs) owing

/-- What the regions leave in their output arrays is what their proof data say. -/
structure Fits : Prop where
  h5 : ∀ c : Dev nD, outs 2 main_v22_0 c = (dat (Ve0 m) c).arrAt 5 cfg0.N
  h6 : ∀ c : Dev nD, outs 2 main_v22_1 c = (dat (Ve0 m) c).arrAt 6 cfg0.N
  h7 : ∀ c : Dev nD, outs 2 main_v22_2 c = (dat (Ve0 m) c).arrAt 7 cfg0.N
  h8 : ∀ c : Dev nD, outs 2 main_v22_3 c = (dat (Ve0 m) c).arrAt 8 cfg0.N
  hl : ∀ c : Dev nD, outs 3 main_v23 c = (lossDat m outs c).arrAt 4 cfg1.N

/-- Such contents exist: the stream region's arrays first, the loss region's from them. -/
theorem exists_fits : ∃ outs : Outs (F := F), Fits m outs := by
  classical
  let A : (c : Dev nD) → Valuation τ sig (Elt F) := fun c =>
    Function.update (Function.update (Function.update (Function.update (V1 m c) main_v22_0 ((dat (Ve0 m) c).arrAt 5 cfg0.N))
      main_v22_1 ((dat (Ve0 m) c).arrAt 6 cfg0.N)) main_v22_2 ((dat (Ve0 m) c).arrAt 7 cfg0.N)) main_v22_3 ((dat (Ve0 m) c).arrAt 8 cfg0.N)
  let o1 : Outs (F := F) := fun _ r c => A c (Proc.devRef .tc r)
  let B : (c : Dev nD) → Valuation τ sig (Elt F) := fun c =>
    Function.update (A c) main_v23 ((lossDat m o1 c).arrAt 4 cfg1.N)
  let o2 : Outs (F := F) := fun J r c => if J = 2 then o1 J r c else B c (Proc.devRef .tc r)
  have h0 : ∀ c, A c main_v22_0 = (dat (Ve0 m) c).arrAt 5 cfg0.N := fun c => by
    simp only [A]
    rw [Function.update_of_ne (by decide), Function.update_of_ne (by decide), Function.update_of_ne (by decide), Function.update_self]
  have h1 : ∀ c, A c main_v22_1 = (dat (Ve0 m) c).arrAt 6 cfg0.N := fun c => by
    simp only [A]
    rw [Function.update_of_ne (by decide), Function.update_of_ne (by decide), Function.update_self]
  have h2 : ∀ c, A c main_v22_2 = (dat (Ve0 m) c).arrAt 7 cfg0.N := fun c => by
    simp only [A]
    rw [Function.update_of_ne (by decide), Function.update_self]
  have h3 : ∀ c, A c main_v22_3 = (dat (Ve0 m) c).arrAt 8 cfg0.N := fun c => by
    simp only [A]
    rw [Function.update_self]
  have e2 : ∀ r c, o2 2 r c = o1 2 r c := fun r c => if_pos rfl
  have e3 : ∀ r c, o2 3 r c = B c (Proc.devRef .tc r) := fun r c => if_neg (by decide)
  have eV : ∀ c, V2 m o2 c = V2 m o1 c := fun c => by
    unfold V2; rw [e2, e2, e2, e2]
  have eD : Own.Ve1 m o2 = Own.Ve1 m o1 := by
    funext c b; unfold Own.Ve1; rw [eV]
  refine ⟨o2, ⟨fun c => (e2 _ c).trans (h0 c), fun c => (e2 _ c).trans (h1 c), fun c => (e2 _ c).trans (h2 c), fun c => (e2 _ c).trans (h3 c), fun c => ?_⟩⟩
  rw [e3]
  unfold lossDat; rw [eD]
  exact Function.update_self _ _ _

/-! ## The stream region's record -/

theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))

theorem arr0_sub : Pipeline.arrRefs (τ := τ) spec0 ⊆ Pipeline.ucRefs τ sig :=
  Pipeline.arrRefs_sub_ucRefs spec0 (by decide)

theorem V2_at_0 (c : Dev nD) : V2 m outs c main_v22_0 = outs 2 main_v22_0 c := by
  unfold V2
  rw [Function.update_of_ne (by decide), Function.update_of_ne (by decide), Function.update_of_ne (by decide), Function.update_self]
theorem V2_at_1 (c : Dev nD) : V2 m outs c main_v22_1 = outs 2 main_v22_1 c := by
  unfold V2
  rw [Function.update_of_ne (by decide), Function.update_of_ne (by decide), Function.update_self]
theorem V2_at_2 (c : Dev nD) : V2 m outs c main_v22_2 = outs 2 main_v22_2 c := by
  unfold V2
  rw [Function.update_of_ne (by decide), Function.update_self]
theorem V2_at_3 (c : Dev nD) : V2 m outs c main_v22_3 = outs 2 main_v22_3 c := by
  unfold V2
  rw [Function.update_self]

/-- Across the stream region every held buffer but its arrays keeps its contents. -/
theorem rest0_eq (c : Dev nD) : ∀ b ∈ (Pipeline.ucRefs τ sig) \ Pipeline.arrRefs (τ := τ) spec0, V2 m outs c b = V1 m c b := fun b hb => by
  have hn : b ∉ Pipeline.arrRefs (τ := τ) spec0 := (Finset.mem_sdiff.mp hb).2
  have n0 : b ≠ Proc.devRef .tc main_v22_0 := by rintro rfl; exact hn (arr0_mem 5)
  have n1 : b ≠ Proc.devRef .tc main_v22_1 := by rintro rfl; exact hn (arr0_mem 6)
  have n2 : b ≠ Proc.devRef .tc main_v22_2 := by rintro rfl; exact hn (arr0_mem 7)
  have n3 : b ≠ Proc.devRef .tc main_v22_3 := by rintro rfl; exact hn (arr0_mem 8)
  simp only [V2, Function.update_of_ne n0, Function.update_of_ne n1, Function.update_of_ne n2, Function.update_of_ne n3]

/-- The levels: one index, level zero everywhere. -/
abbrev Lx : GSem nD τ sig → Finset Unit := fun g => if g.1.2 = .tc then Finset.univ else ∅
abbrev lvx : GSem nD τ sig → Unit → ℕ := fun _ _ => 0

theorem cut (p : Fin 2) : Pipeline.LevelCut (pcfgs (F := F)) adm () Lx lvx p owing (fun _ => 0) where
  hι c w s := by
    have : ((c : Thread nD τ)).2 = .tc := rfl
    show _ ∈ (if ((c : Thread nD τ)).2 = .tc then Finset.univ else ∅); rw [if_pos this]; exact Finset.mem_univ _
  hιb _ _ _ := le_refl _
  hD c g i h := absurd h (by simp [owing])

set_option maxHeartbeats 4000000 in
set_option backward.isDefEq.respectTransparency.types false in
/-- The stream region: its arrays held at the contents before it in and after it out; every other held buffer rides. -/
def R0 (hf : Fits m outs) : RegionSeg (pcfgs (F := F)) adm (pdats m outs) () defs₀ Variants.none Lx lvx 0 :=
  Pipeline.RegionSeg.ofHeld (pcfgs (F := F)) adm (pdats m outs) () defs₀ Variants.none Lx lvx 0 owing
    (fun c => iprop(∃ r, prngReg c r)) (fun c => iprop(∃ r, prngReg c r))
    launch0.toP rfl
    (fun c => (body_obligation (Ve0 m) c).loose) (fun _ _ => rfl) (fun _ => rfl)
    (fun c => ((pdats m outs) 0 c).share_full fun _ => rfl) (fun c => hin (Ve0 m) c) (fun c => hout (Ve0 m) c) (fun _ => 0) (cut 0)
    (fun c => iprop(StableHlo.held (c : Thread nD τ) ((Pipeline.ucRefs τ sig) \ Pipeline.arrRefs (τ := τ) spec0) (V1 m c) ∗ emp))
    (V1 m) (V2 m outs) (fun _ _ => rfl)
    (fun c => fun
      | 0 => (((pdats m outs) 0 c).arrAt_in 0 rfl _).trans ((A_eq (Ve0 m) c 0).trans (V2_of m outs c (Pipeline.arrRef spec0 0) (by decide)).symm)
      | 1 => (((pdats m outs) 0 c).arrAt_in 1 rfl _).trans ((A_eq (Ve0 m) c 1).trans (V2_of m outs c (Pipeline.arrRef spec0 1) (by decide)).symm)
      | 2 => (((pdats m outs) 0 c).arrAt_in 2 rfl _).trans ((A_eq (Ve0 m) c 2).trans (V2_of m outs c (Pipeline.arrRef spec0 2) (by decide)).symm)
      | 3 => (((pdats m outs) 0 c).arrAt_in 3 rfl _).trans ((A_eq (Ve0 m) c 3).trans (V2_of m outs c (Pipeline.arrRef spec0 3) (by decide)).symm)
      | 4 => (((pdats m outs) 0 c).arrAt_in 4 rfl _).trans ((A_eq (Ve0 m) c 4).trans (V2_of m outs c (Pipeline.arrRef spec0 4) (by decide)).symm)
      | 5 => (hf.h5 c).symm.trans (V2_at_0 m outs c).symm
      | 6 => (hf.h6 c).symm.trans (V2_at_1 m outs c).symm
      | 7 => (hf.h7 c).symm.trans (V2_at_2 m outs c).symm
      | 8 => (hf.h8 c).symm.trans (V2_at_3 m outs c).symm
      | ⟨_ + 9, h⟩ => absurd h (Nat.not_lt.2 (Nat.le_add_left _ _)))

/-- What a core holds between the items: the random-number register and nothing owed. -/
def between (_ : Fin 3) (c : Dev nD) : sProp 𝕄 :=
  iprop((∃ r, prngReg c r) ∗ (∃ W, owes (c : Thread nD τ) (owing c) W) ∗ emp)

set_option backward.isDefEq.respectTransparency.types false in
theorem pre0 (hf : Fits m outs) (c : Dev nD) :
    iprop(StableHlo.held (c : Thread nD τ) (Pipeline.ucRefs τ sig) (V1 m c) ∗ between 0 c) ⊢ (R0 m outs hf).pre c := by
  show _ ⊢ iprop(StableHlo.held (c : Thread nD τ) (Pipeline.arrRefs (τ := τ) spec0) (V1 m c) ∗ (∃ r, prngReg c r)
    ∗ (StableHlo.held (c : Thread nD τ) ((Pipeline.ucRefs τ sig) \ Pipeline.arrRefs (τ := τ) spec0) (V1 m c) ∗ emp) ∗ ∃ W, owes (c : Thread nD τ) (owing c) W)
  rw [StableHlo.held_sub_split (c : Thread nD τ) arr0_sub (V1 m c)]
  unfold between
  iintro ⟨⟨Ha, Hr⟩, Hp, HO, Hx⟩
  isplitl [Ha]; · iexact Ha
  isplitl [Hp]; · iexact Hp
  isplitl [Hr Hx]; · isplitl [Hr] <;> iassumption
  iexact HO

set_option backward.isDefEq.respectTransparency.types false in
theorem post0 (hf : Fits m outs) (c : Dev nD) :
    (R0 m outs hf).post c ⊢ iprop(StableHlo.held (c : Thread nD τ) (Pipeline.ucRefs τ sig) (V2 m outs c) ∗ between 1 c) := by
  show iprop(StableHlo.held (c : Thread nD τ) (Pipeline.arrRefs (τ := τ) spec0) (V2 m outs c) ∗ (∃ r, prngReg c r)
    ∗ (StableHlo.held (c : Thread nD τ) ((Pipeline.ucRefs τ sig) \ Pipeline.arrRefs (τ := τ) spec0) (V1 m c) ∗ emp) ∗ ∃ W, owes (c : Thread nD τ) (owing c) W) ⊢ _
  rw [StableHlo.held_sub_split (c : Thread nD τ) arr0_sub (V2 m outs c),
    StableHlo.held_congr (c : Thread nD τ) (S := (Pipeline.ucRefs τ sig) \ Pipeline.arrRefs (τ := τ) spec0) (rest0_eq m outs c)]
  unfold between
  iintro ⟨Ha, Hp, ⟨Hr, Hx⟩, HO⟩
  isplitl [Ha Hr]; · isplitl [Ha] <;> iassumption
  isplitl [Hp]; · iexact Hp
  isplitl [HO]; · iexact HO
  iexact Hx

/-! ## The run -/

set_option backward.isDefEq.respectTransparency.types false in
/-- The loss region's record. -/
def R1 (hf : Fits m outs) : RegionSeg (pcfgs (F := F)) adm (pdats m outs) () defs₀ Variants.none Lx lvx 1 :=
  Own.R1D m outs Variants.none Lx lvx () (pdats0 m outs) owing (fun _ => 0) (cut 1) (fun _ => iprop(emp)) hf.hl

set_option backward.isDefEq.respectTransparency.types false in
/-- Every run of the program ends with the arguments as launched, the result buffer at the last valuation, and every
    semaphore counter at zero. -/
theorem run (ρ : Dev nD → PrngReg) (hf : Fits m outs) :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v28) = V6 m outs c main_v28)
      ∧ r.2.sem = fun _ => 0) := by
  refine Pipeline.θ_run_regions_kit_dev_sems (pcfgs (F := F)) adm (pdats m outs) () cellOf_inj (emb₁ : Emb (UR sig nD τ) 𝕄) defs₀ Variants.none Lx lvx m ρ main
    (segs m outs Variants.none Lx lvx between () (pdats m outs) (R0 m outs hf) (R1 m outs hf))
    (fun c Q => by
      rewrite [main_chain c, Seg.run_eq_chain,
        show (segs m outs Variants.none Lx lvx between () (pdats m outs) (R0 m outs hf) (R1 m outs hf) c).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2 ] from rfl]
      dsimp (config := { failIfUnchanged := false }) only
      exact .rfl)
    (fun c => by simp only [segs, Seg.pipes_host, Seg.pipes_region, Seg.pipes_nil]; decide) 0 (fun g hg => if_neg hg) (fun _ => iprop(emp))
    (initOf (Pipeline.cells cfgs cellOf_inj) (Pipeline.launchToks cfgs cellOf_inj))
    (by
      rw [ownU_emb₁]
      iintro HP
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ between 0 c))
    (Tₙ := fun c => StableHlo.held (c : Thread nD τ) (Pipeline.ucRefs τ sig) (V6 m outs c))
    (hch := fun c => ⟨.rfl, pre0 m outs hf c,
      (post0 m outs hf c).trans (Own.hpre1D m outs Variants.none Lx lvx () (pdats0 m outs) owing (fun _ => 0) (cut 1) between (fun _ => iprop(emp)) (fun _ => .rfl) hf.hl c),
      Own.hpost1D m outs Variants.none Lx lvx () (pdats0 m outs) owing (fun _ => 0) (cut 1) between (fun _ => iprop(emp)) (fun _ => .rfl) hf.hl c,
      .rfl, .rfl, sep_mono .rfl (by unfold between; iintro ⟨-, HO, -⟩; iexact HO)⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4))
      ∧ s.mem ((c.tc : Thread nD τ).loc main_v28) = V6 m outs c main_v28)
    (hfin := fun c s' => ?_) (hQ := fun _ h hz => ⟨h, funext fun g => hz g (.inr (regions_no_unscoped g.2))⟩)
  · refine Pipeline.initEach Lx lvx fun c => ?_
    rw [show unscopedBufs c (fun b => m ((c : Thread nD τ).loc b)) = StableHlo.held (c : Thread nD τ) (Pipeline.ucRefs τ sig) (V0 m c)
      from Pipeline.unscopedBufs_held (Ix := Unit) (Name := ℕ) (U := UR sig nD τ) (Lvl := ℕ) c (V0 m c)]
    unfold between
    iintro ⟨⟨Hh, -, HO, -, Hp, -⟩, -⟩
    imodintro
    isplitl [Hh]; · iexact Hh
    isplitl [Hp]; · iexists _; iexact Hp
    isplitl [HO]; · iexists ∅; iexact HO
    iempintro
  · unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V6_main_arg0 m outs c),
        (h (Proc.devRef .tc main_arg1) (Finset.mem_filter.mpr ⟨StableHlo.devRef_mem_tcRefs main_arg1, by decide⟩)).trans (V6_main_arg1 m outs c),
        (h (Proc.devRef .tc main_arg2) (Finset.mem_filter.mpr ⟨StableHlo.devRef_mem_tcRefs main_arg2, by decide⟩)).trans (V6_main_arg2 m outs c),
        (h (Proc.devRef .tc main_arg3) (Finset.mem_filter.mpr ⟨StableHlo.devRef_mem_tcRefs main_arg3, by decide⟩)).trans (V6_main_arg3 m outs c),
        (h (Proc.devRef .tc main_arg4) (Finset.mem_filter.mpr ⟨StableHlo.devRef_mem_tcRefs main_arg4, by decide⟩)).trans (V6_main_arg4 m outs c)⟩,
        h (Proc.devRef .tc main_v28) (Finset.mem_filter.mpr ⟨StableHlo.devRef_mem_tcRefs main_v28, by decide⟩)⟩
    · iexact HSI

/-- The frame: every run ends with the arguments as launched and every semaphore counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  obtain ⟨outs, hf⟩ := exists_fits m
  exact (θ_run defs _ _).mono (fun r h => ⟨fun c => (h.1 c).1, h.2⟩) (run m outs ρ hf)

end Cert.KernelIdeal.Stream

end
-- ==== Proof.Ref.Run.lean ====
/- The reference's run, for any float operations: its host operations as one list, every execution ends with the
   result buffer at `result` of the arguments, which is written stage by stage, and with the arguments unchanged. -/
module

public import proofs.«01_k».proof.Proof.Gen.ReferenceIdeal
public import Idealize.ShloMosaic.Lib.StableHlo.Run

@[expose] public section

noncomputable section

namespace Cert.ReferenceIdeal.Stage

open Cert.ReferenceIdeal Cert.ReferenceIdeal.Gen Idealize.ShloMosaic Idealize.ShloMosaic.TcCoe Idealize.SL.Sem Idealize.ShloMosaic.StableHlo

variable {F : FTy → Type} [FloatOps F]

/-! ## The reference, stage by stage -/

/-- The 48000 feature rows: the source half of `x0` written over the first 256 rows of the queue. -/
def rows (x0 : Vec F S512x512 .f32) (x3 : Vec F S48000x512 .f32) : Vec F S48000x512 .f32 :=
  Host.scatter scatter_S48000x512_S1_S256x512_01_n_0_0 (fun _ b => b) x3
    (broadcastInDim S1 ![] bcast_S_S1 (constantI S_ 32 0#32))
    (extractStridedSlice S256x512 ![0, 0] x0 slices_S512x512_S256x512_0_0)

/-- The 48000 labels: the source labels written over the first 256 of the queue's. -/
def labels (x1 : Vec F S256 .i32) (x4 : Vec F S48000 .i32) : Vec F S48000 .i32 :=
  Host.scatter scatter_S48000_S1_S256_0_n_0_0 (fun _ b => b) x4
    (broadcastInDim S1 ![] bcast_S_S1 (constantI S_ 32 0#32)) x1

/-- The 48000 rows, each over its Euclidean norm. -/
def queueN (q : Vec F S48000x512 .f32) : Vec F S48000x512 .f32 :=
  Host.divf q (broadcastInDim S48000x512 ![0, 1] bcast_S48000x1_S48000x512_0_1
    (maximumf (Host.sqrt (broadcastInDim S48000x1 ![0] bcast_S48000_S48000x1_0
      (Host.reduceAdd (mulf q q) (constant S_ .f32 0x00000000#32) reducesTo_S48000x512_S48000_d1 h_S_)))
      (broadcastInDim S48000x1 ![] bcast_S_S48000x1 (constant S_ .f32 0x2B8CBCCC#32))))

/-- The 256 target rows of `x0`. -/
def targets (x0 : Vec F S512x512 .f32) : Vec F S256x512 .f32 :=
  extractStridedSlice S256x512 ![256, 0] x0 slices_S512x512_S256x512_256_0

/-- The 256 target rows, each over its Euclidean norm. -/
def targetN (t : Vec F S256x512 .f32) : Vec F S256x512 .f32 :=
  Host.divf t (broadcastInDim S256x512 ![0, 1] bcast_S256x1_S256x512_0_1
    (maximumf (Host.sqrt (broadcastInDim S256x1 ![0] bcast_S256_S256x1_0
      (Host.reduceAdd (mulf t t) (constant S_ .f32 0x00000000#32) reducesTo_S256x512_S256_d1 h_S_)))
      (broadcastInDim S256x1 ![] bcast_S_S256x1 (constant S_ .f32 0x2B8CBCCC#32))))

/-- The cosine similarities. -/
def sim (x0 : Vec F S512x512 .f32) (x3 : Vec F S48000x512 .f32) : Vec F S256x48000 .f32 :=
  Host.dotGeneral dot_S256x512_S512x48000_S256x48000_1_0_0_1_n_n none (targetN (targets x0))
    (transpose S512x48000 [1, 0] (queueN (rows x0 x3)) transposes_S48000x512_S512x48000_1_0)

/-- The five nearest columns of each row. -/
def nearest (s : Vec F S256x48000 .f32) : Vec F S256x5 .i32 :=
  (Host.topK S256x5 1 (FloatOps.cmpfTotal .gt) s sliceFits_S256x48000_S256x5).2

/-- The labels of those columns. -/
def voters (i : Vec F S256x5 .i32) (l : Vec F S48000 .i32) : Vec F S256x5 .i32 :=
  Host.gather gather_S48000_S256x5x1_S256x5_n_0_n_n_0_2_1 l
    (broadcastInDim S256x5x1 ![0, 1] bcast_S256x5_S256x5x1_0_1
      (select (cmpi .slt i (broadcastInDim S256x5 ![] bcast_S_S256x5 (constantI S_ 32 0#32)))
        (addi i (broadcastInDim S256x5 ![] bcast_S_S256x5 (constantI S_ 32 48000#32))) i))

/-- How often each label is voted for. -/
def counts (n : Vec F S256x5 .i32) : Vec F S256x345 .f32 :=
  Host.reduceAdd (uitofp .f32 (cmpi .eq
      (broadcastInDim S256x5x345 ![0, 1, 2] bcast_S256x5x1_S256x5x345_0_1_2
        (broadcastInDim S256x5x1 ![0, 1] bcast_S256x5_S256x5x1_0_1 n))
      (broadcastInDim S256x5x345 ![0, 1, 2] bcast_S1x1x345_S256x5x345_0_1_2 (iotaInDim S1x1x345 32 2))))
    (constant S_ .f32 0x00000000#32) reducesTo_S256x5x345_S256x345_d1 h_S_

/-- The label with the most votes, the smallest of them on a tie. -/
def winner (k : Vec F S256x345 .f32) : Vec F S256 .i32 := fun j =>
  (Host.argReduce reducer_argmax_f32_i32 k (iotaInDim S256x345 32 1) (constant S_ .f32 0xFF800000#32)
    (constantI S_ 32 0#32) reducesTo_S256x345_S256_d1 h_S_ j).2

/-- One where a column carries the row's winning label, zero elsewhere. -/
def mask (l : Vec F S48000 .i32) (w : Vec F S256 .i32) : Vec F S256x48000 .f32 :=
  uitofp .f32 (cmpi .eq
    (broadcastInDim S256x48000 ![0, 1] bcast_S1x48000_S256x48000_0_1 (broadcastInDim S1x48000 ![1] bcast_S48000_S1x48000_1 l))
    (broadcastInDim S256x48000 ![0, 1] bcast_S256x1_S256x48000_0_1 (broadcastInDim S256x1 ![0] bcast_S256_S256x1_0 w)))

/-- The similarities over the temperature. -/
def logits (s : Vec F S256x48000 .f32) : Vec F S256x48000 .f32 :=
  Host.divf s (broadcastInDim S256x48000 ![] bcast_S_S256x48000 (constant S_ .f32 0x3D8F5C29#32))

/-- The logits less their row's greatest. -/
def shifted (g : Vec F S256x48000 .f32) : Vec F S256x48000 .f32 :=
  subf g (broadcastInDim S256x48000 ![0, 1] bcast_S256x1_S256x48000_0_1
    (broadcastInDim S256x1 ![0] bcast_S256_S256x1_0
      (Host.reduce FloatOps.maximumf g (constant S_ .f32 0xFF800000#32) reducesTo_S256x48000_S256_d1 h_S_)))

/-- The log-probabilities of the columns, from the shifted logits. -/
def logp (h : Vec F S256x48000 .f32) : Vec F S256x48000 .f32 :=
  subf h (broadcastInDim S256x48000 ![0, 1] bcast_S256x1_S256x48000_0_1
    (Host.log (broadcastInDim S256x1 ![0] bcast_S256_S256x1_0
      (Host.reduceAdd (Host.exp h) (constant S_ .f32 0x00000000#32) reducesTo_S256x48000_S256_d1 h_S_))))

/-- Each row's mean log-probability over its masked columns. -/
def perRow (k p : Vec F S256x48000 .f32) : Vec F S256 .f32 :=
  Host.divf (Host.reduceAdd (mulf k p) (constant S_ .f32 0x00000000#32) reducesTo_S256x48000_S256_d1 h_S_)
    (maximumf (Host.reduceAdd k (constant S_ .f32 0x00000000#32) reducesTo_S256x48000_S256_d1 h_S_)
      (broadcastInDim S256 ![] bcast_S_S256 (constant S_ .f32 0x3F800000#32)))

/-- The loss: minus the mean over the rows. -/
def loss (r : Vec F S256 .f32) : Vec F S_ .f32 :=
  Host.negf (Host.divf (Host.reduceAdd r (constant S_ .f32 0x00000000#32) reducesTo_S256_S_d0 h_S_)
    (constant S_ .f32 0x43800000#32))

/-- The loss's weight: a tenth once the iteration is past 4000, zero before. -/
def weight (x2 : Vec F S_ .i32) : Vec F S_ .f32 :=
  id (select (cmpi .sgt x2 (constantI S_ 32 4000#32)) (constant S_ .f32 0x3DCCCCCD#32) (constant S_ .f32 0x00000000#32))

/-- The reference's result, of its arguments. -/
def result (x0 : Vec F S512x512 .f32) (x1 : Vec F S256 .i32) (x2 : Vec F S_ .i32)
    (x3 : Vec F S48000x512 .f32) (x4 : Vec F S48000 .i32) : Vec F S_ .f32 :=
  mulf (weight x2) (loss (perRow
    (mask (labels x1 x4) (winner (counts (voters (nearest (sim x0 x3)) (labels x1 x4)))))
    (logp (shifted (logits (sim x0 x3))))))

/-! ## The run -/

/-- The host operations in order. -/
abbrev ops : List (HloOp τ sig (Elt F)) :=
  [ unary main_arg0 main_v0 ((extractStridedSlice S256x512 ![0, 0] · slices_S512x512_S256x512_0_0) : (⟨S512x512, .f32⟩ : BufTy).Contents (Elt F) → (⟨S256x512, .f32⟩ : BufTy).Contents (Elt F)),
    unary main_arg0 main_v1 ((extractStridedSlice S256x512 ![256, 0] · slices_S512x512_S256x512_256_0) : (⟨S512x512, .f32⟩ : BufTy).Contents (Elt F) → (⟨S256x512, .f32⟩ : BufTy).Contents (Elt F)),
    nullary main_c (constantI S_ 32 0#32),
    unary main_c main_v2 (broadcastInDim S1 ![] bcast_S_S1 : (⟨S_, .i32⟩ : BufTy).Contents (Elt F) → (⟨S1, .i32⟩ : BufTy).Contents (Elt F)),
    ternary main_arg3 main_v2 main_v0 main_v3 ((fun x i u => Host.scatter scatter_S48000x512_S1_S256x512_01_n_0_0 (fun _ b => b) x i u) : (⟨S48000x512, .f32⟩ : BufTy).Contents (Elt F) → (⟨S1, .i32⟩ : BufTy).Contents (Elt F) → (⟨S256x512, .f32⟩ : BufTy).Contents (Elt F) → (⟨S48000x512, .f32⟩ : BufTy).Contents (Elt F)),
    nullary main_c_0 (constantI S_ 32 0#32),
    unary main_c_0 main_v4 (broadcastInDim S1 ![] bcast_S_S1 : (⟨S_, .i32⟩ : BufTy).Contents (Elt F) → (⟨S1, .i32⟩ : BufTy).Contents (Elt F)),
    ternary main_arg4 main_v4 main_arg1 main_v5 ((fun x i u => Host.scatter scatter_S48000_S1_S256_0_n_0_0 (fun _ b => b) x i u) : (⟨S48000, .i32⟩ : BufTy).Contents (Elt F) → (⟨S1, .i32⟩ : BufTy).Contents (Elt F) → (⟨S256, .i32⟩ : BufTy).Contents (Elt F) → (⟨S48000, .i32⟩ : BufTy).Contents (Elt F)),
    binary main_v3 main_v3 main_v6 (mulf : (⟨S48000x512, .f32⟩ : BufTy).Contents (Elt F) → (⟨S48000x512, .f32⟩ : BufTy).Contents (Elt F) → (⟨S48000x512, .f32⟩ : BufTy).Contents (Elt F)),
    nullary main_cst (constant S_ .f32 0x00000000#32),
    binary main_v6 main_cst main_v7 ((fun x v => Host.reduceAdd x v reducesTo_S48000x512_S48000_d1 h_S_) : (⟨S48000x512, .f32⟩ : BufTy).Contents (Elt F) → (⟨S_, .f32⟩ : BufTy).Contents (Elt F) → (⟨S48000, .f32⟩ : BufTy).Contents (Elt F)),
    unary main_v7 main_v8 (broadcastInDim S48000x1 ![0] bcast_S48000_S48000x1_0 : (⟨S48000, .f32⟩ : BufTy).Contents (Elt F) → (⟨S48000x1, .f32⟩ : BufTy).Contents (Elt F)),
    unary main_v8 main_v9 (Host.sqrt : (⟨S48000x1, .f32⟩ : BufTy).Contents (Elt F) → (⟨S48000x1, .f32⟩ : BufTy).Contents (Elt F)),
    nullary main_cst_1 (constant S_ .f32 0x2B8CBCCC#32),
    unary main_cst_1 main_v10 (broadcastInDim S48000x1 ![] bcast_S_S48000x1 : (⟨S_, .f32⟩ : BufTy).Contents (Elt F) → (⟨S48000x1, .f32⟩ : BufTy).Contents (Elt F)),
    binary main_v9 main_v10 main_v11 (maximumf : (⟨S48000x1, .f32⟩ : BufTy).Contents (Elt F) → (⟨S48000x1, .f32⟩ : BufTy).Contents (Elt F) → (⟨S48000x1, .f32⟩ : BufTy).Contents (Elt F)),
    unary main_v11 main_v12 (broadcastInDim S48000x512 ![0, 1] bcast_S48000x1_S48000x512_0_1 : (⟨S48000x1, .f32⟩ : BufTy).Contents (Elt F) → (⟨S48000x512, .f32⟩ : BufTy).Contents (Elt F)),
    binary main_v3 main_v12 main_v13 (Host.divf : (⟨S48000x512, .f32⟩ : BufTy).Contents (Elt F) → (⟨S48000x512, .f32⟩ : BufTy).Contents (Elt F) → (⟨S48000x512, .f32⟩ : BufTy).Contents (Elt F)),
    binary main_v1 main_v1 main_v14 (mulf : (⟨S256x512, .f32⟩ : BufTy).Contents (Elt F) → (⟨S256x512, .f32⟩ : BufTy).Contents (Elt F) → (⟨S256x512, .f32⟩ : BufTy).Contents (Elt F)),
    nullary main_cst_2 (constant S_ .f32 0x00000000#32),
    binary main_v14 main_cst_2 main_v15 ((fun x v => Host.reduceAdd x v reducesTo_S256x512_S256_d1 h_S_) : (⟨S256x512, .f32⟩ : BufTy).Contents (Elt F) → (⟨S_, .f32⟩ : BufTy).Contents (Elt F) → (⟨S256, .f32⟩ : BufTy).Contents (Elt F)),
    unary main_v15 main_v16 (broadcastInDim S256x1 ![0] bcast_S256_S256x1_0 : (⟨S256, .f32⟩ : BufTy).Contents (Elt F) → (⟨S256x1, .f32⟩ : BufTy).Contents (Elt F)),
    unary main_v16 main_v17 (Host.sqrt : (⟨S256x1, .f32⟩ : BufTy).Contents (Elt F) → (⟨S256x1, .f32⟩ : BufTy).Contents (Elt F)),
    nullary main_cst_3 (constant S_ .f32 0x2B8CBCCC#32),
    unary main_cst_3 main_v18 (broadcastInDim S256x1 ![] bcast_S_S256x1 : (⟨S_, .f32⟩ : BufTy).Contents (Elt F) → (⟨S256x1, .f32⟩ : BufTy).Contents (Elt F)),
    binary main_v17 main_v18 main_v19 (maximumf : (⟨S256x1, .f32⟩ : BufTy).Contents (Elt F) → (⟨S256x1, .f32⟩ : BufTy).Contents (Elt F) → (⟨S256x1, .f32⟩ : BufTy).Contents (Elt F)),
    unary main_v19 main_v20 (broadcastInDim S256x512 ![0, 1] bcast_S256x1_S256x512_0_1 : (⟨S256x1, .f32⟩ : BufTy).Contents (Elt F) → (⟨S256x512, .f32⟩ : BufTy).Contents (Elt F)),
    binary main_v1 main_v20 main_v21 (Host.divf : (⟨S256x512, .f32⟩ : BufTy).Contents (Elt F) → (⟨S256x512, .f32⟩ : BufTy).Contents (Elt F) → (⟨S256x512, .f32⟩ : BufTy).Contents (Elt F)),
    unary main_v13 main_v22 ((transpose S512x48000 [1, 0] · transposes_S48000x512_S512x48000_1_0) : (⟨S48000x512, .f32⟩ : BufTy).Contents (Elt F) → (⟨S512x48000, .f32⟩ : BufTy).Contents (Elt F)),
    binary main_v21 main_v22 main_v23 ((fun l r => Host.dotGeneral dot_S256x512_S512x48000_S256x48000_1_0_0_1_n_n none l r) : (⟨S256x512, .f32⟩ : BufTy).Contents (Elt F) → (⟨S512x48000, .f32⟩ : BufTy).Contents (Elt F) → (⟨S256x48000, .f32⟩ : BufTy).Contents (Elt F)),
    unary main_v23 main_values ((fun x => (Host.topK S256x5 1 (FloatOps.cmpfTotal .gt) x sliceFits_S256x48000_S256x5).1) : (⟨S256x48000, .f32⟩ : BufTy).Contents (Elt F) → (⟨S256x5, .f32⟩ : BufTy).Contents (Elt F)),
    unary main_v23 main_indices ((fun x => (Host.topK S256x5 1 (FloatOps.cmpfTotal .gt) x sliceFits_S256x48000_S256x5).2) : (⟨S256x48000, .f32⟩ : BufTy).Contents (Elt F) → (⟨S256x5, .i32⟩ : BufTy).Contents (Elt F)),
    nullary main_c_4 (constantI S_ 32 0#32),
    unary main_c_4 main_v24 (broadcastInDim S256x5 ![] bcast_S_S256x5 : (⟨S_, .i32⟩ : BufTy).Contents (Elt F) → (⟨S256x5, .i32⟩ : BufTy).Contents (Elt F)),
    binary main_indices main_v24 main_v25 (cmpi .slt : (⟨S256x5, .i32⟩ : BufTy).Contents (Elt F) → (⟨S256x5, .i32⟩ : BufTy).Contents (Elt F) → (⟨S256x5, .i1⟩ : BufTy).Contents (Elt F)),
    nullary main_c_5 (constantI S_ 32 48000#32),
    unary main_c_5 main_v26 (broadcastInDim S256x5 ![] bcast_S_S256x5 : (⟨S_, .i32⟩ : BufTy).Contents (Elt F) → (⟨S256x5, .i32⟩ : BufTy).Contents (Elt F)),
    binary main_indices main_v26 main_v27 (addi : (⟨S256x5, .i32⟩ : BufTy).Contents (Elt F) → (⟨S256x5, .i32⟩ : BufTy).Contents (Elt F) → (⟨S256x5, .i32⟩ : BufTy).Contents (Elt F)),
    ternary main_v25 main_v27 main_indices main_v28 (select : (⟨S256x5, .i1⟩ : BufTy).Contents (Elt F) → (⟨S256x5, .i32⟩ : BufTy).Contents (Elt F) → (⟨S256x5, .i32⟩ : BufTy).Contents (Elt F) → (⟨S256x5, .i32⟩ : BufTy).Contents (Elt F)),
    unary main_v28 main_v29 (broadcastInDim S256x5x1 ![0, 1] bcast_S256x5_S256x5x1_0_1 : (⟨S256x5, .i32⟩ : BufTy).Contents (Elt F) → (⟨S256x5x1, .i32⟩ : BufTy).Contents (Elt F)),
    binary main_v5 main_v29 main_v30 ((fun x i => Host.gather gather_S48000_S256x5x1_S256x5_n_0_n_n_0_2_1 x i) : (⟨S48000, .i32⟩ : BufTy).Contents (Elt F) → (⟨S256x5x1, .i32⟩ : BufTy).Contents (Elt F) → (⟨S256x5, .i32⟩ : BufTy).Contents (Elt F)),
    TRef.unary (TRef.of (T := ⟨S256x5, .i32⟩) main_v30) (TRef.of (T := ⟨S256x5x1, .i32⟩) main_call0_v0) (broadcastInDim S256x5x1 ![0, 1] bcast_S256x5_S256x5x1_0_1),
    TRef.nullary (TRef.of (T := ⟨S1x1x345, .i32⟩) main_call0_v1) (iotaInDim S1x1x345 32 2),
    TRef.unary (TRef.of (T := ⟨S256x5x1, .i32⟩) main_call0_v0) (TRef.of (T := ⟨S256x5x345, .i32⟩) main_call0_v2) (broadcastInDim S256x5x345 ![0, 1, 2] bcast_S256x5x1_S256x5x345_0_1_2),
    TRef.unary (TRef.of (T := ⟨S1x1x345, .i32⟩) main_call0_v1) (TRef.of (T := ⟨S256x5x345, .i32⟩) main_call0_v3) (broadcastInDim S256x5x345 ![0, 1, 2] bcast_S1x1x345_S256x5x345_0_1_2),
    TRef.binary (TRef.of (T := ⟨S256x5x345, .i32⟩) main_call0_v2) (TRef.of (T := ⟨S256x5x345, .i32⟩) main_call0_v3) (TRef.of (T := ⟨S256x5x345, .i1⟩) main_call0_v4) (cmpi .eq),
    TRef.unary (TRef.of (T := ⟨S256x5x345, .i1⟩) main_call0_v4) (TRef.of (T := ⟨S256x5x345, .f32⟩) main_v31) (uitofp .f32),
    nullary main_cst_6 (constant S_ .f32 0x00000000#32),
    binary main_v31 main_cst_6 main_v32 ((fun x v => Host.reduceAdd x v reducesTo_S256x5x345_S256x345_d1 h_S_) : (⟨S256x5x345, .f32⟩ : BufTy).Contents (Elt F) → (⟨S_, .f32⟩ : BufTy).Contents (Elt F) → (⟨S256x345, .f32⟩ : BufTy).Contents (Elt F)),
    TRef.nullary (TRef.of (T := ⟨S256x345, .i32⟩) main_call1_v0) (iotaInDim S256x345 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S256x345, .f32⟩) main_v32) (TRef.of (T := ⟨S256x345, .i32⟩) main_call1_v0) (TRef.of (T := ⟨S_, .f32⟩) main_call1_cst) (TRef.of (T := ⟨S_, .i32⟩) main_call1_c) (TRef.of (T := ⟨S256, .f32⟩) main_call1_v1_0) (fun x y u v j => (Host.argReduce reducer_argmax_f32_i32 x y u v reducesTo_S256x345_S256_d1 h_S_ j).1),
    TRef.quaternary (TRef.of (T := ⟨S256x345, .f32⟩) main_v32) (TRef.of (T := ⟨S256x345, .i32⟩) main_call1_v0) (TRef.of (T := ⟨S_, .f32⟩) main_call1_cst) (TRef.of (T := ⟨S_, .i32⟩) main_call1_c) (TRef.of (T := ⟨S256, .i32⟩) main_v33) (fun x y u v j => (Host.argReduce reducer_argmax_f32_i32 x y u v reducesTo_S256x345_S256_d1 h_S_ j).2),
    unary main_v5 main_v34 (broadcastInDim S1x48000 ![1] bcast_S48000_S1x48000_1 : (⟨S48000, .i32⟩ : BufTy).Contents (Elt F) → (⟨S1x48000, .i32⟩ : BufTy).Contents (Elt F)),
    unary main_v33 main_v35 (broadcastInDim S256x1 ![0] bcast_S256_S256x1_0 : (⟨S256, .i32⟩ : BufTy).Contents (Elt F) → (⟨S256x1, .i32⟩ : BufTy).Contents (Elt F)),
    unary main_v34 main_v36 (broadcastInDim S256x48000 ![0, 1] bcast_S1x48000_S256x48000_0_1 : (⟨S1x48000, .i32⟩ : BufTy).Contents (Elt F) → (⟨S256x48000, .i32⟩ : BufTy).Contents (Elt F)),
    unary main_v35 main_v37 (broadcastInDim S256x48000 ![0, 1] bcast_S256x1_S256x48000_0_1 : (⟨S256x1, .i32⟩ : BufTy).Contents (Elt F) → (⟨S256x48000, .i32⟩ : BufTy).Contents (Elt F)),
    binary main_v36 main_v37 main_v38 (cmpi .eq : (⟨S256x48000, .i32⟩ : BufTy).Contents (Elt F) → (⟨S256x48000, .i32⟩ : BufTy).Contents (Elt F) → (⟨S256x48000, .i1⟩ : BufTy).Contents (Elt F)),
    unary main_v38 main_v39 (uitofp .f32 : (⟨S256x48000, .i1⟩ : BufTy).Contents (Elt F) → (⟨S256x48000, .f32⟩ : BufTy).Contents (Elt F)),
    nullary main_cst_7 (constant S_ .f32 0x3D8F5C29#32),
    unary main_cst_7 main_v40 (broadcastInDim S256x48000 ![] bcast_S_S256x48000 : (⟨S_, .f32⟩ : BufTy).Contents (Elt F) → (⟨S256x48000, .f32⟩ : BufTy).Contents (Elt F)),
    binary main_v23 main_v40 main_v41 (Host.divf : (⟨S256x48000, .f32⟩ : BufTy).Contents (Elt F) → (⟨S256x48000, .f32⟩ : BufTy).Contents (Elt F) → (⟨S256x48000, .f32⟩ : BufTy).Contents (Elt F)),
    nullary main_cst_8 (constant S_ .f32 0xFF800000#32),
    binary main_v41 main_cst_8 main_v42 ((fun x v => Host.reduce FloatOps.maximumf x v reducesTo_S256x48000_S256_d1 h_S_) : (⟨S256x48000, .f32⟩ : BufTy).Contents (Elt F) → (⟨S_, .f32⟩ : BufTy).Contents (Elt F) → (⟨S256, .f32⟩ : BufTy).Contents (Elt F)),
    unary main_v42 main_v43 (broadcastInDim S256x1 ![0] bcast_S256_S256x1_0 : (⟨S256, .f32⟩ : BufTy).Contents (Elt F) → (⟨S256x1, .f32⟩ : BufTy).Contents (Elt F)),
    unary main_v43 main_v44 (broadcastInDim S256x48000 ![0, 1] bcast_S256x1_S256x48000_0_1 : (⟨S256x1, .f32⟩ : BufTy).Contents (Elt F) → (⟨S256x48000, .f32⟩ : BufTy).Contents (Elt F)),
    binary main_v41 main_v44 main_v45 (subf : (⟨S256x48000, .f32⟩ : BufTy).Contents (Elt F) → (⟨S256x48000, .f32⟩ : BufTy).Contents (Elt F) → (⟨S256x48000, .f32⟩ : BufTy).Contents (Elt F)),
    unary main_v45 main_v46 (Host.exp : (⟨S256x48000, .f32⟩ : BufTy).Contents (Elt F) → (⟨S256x48000, .f32⟩ : BufTy).Contents (Elt F)),
    nullary main_cst_9 (constant S_ .f32 0x00000000#32),
    binary main_v46 main_cst_9 main_v47 ((fun x v => Host.reduceAdd x v reducesTo_S256x48000_S256_d1 h_S_) : (⟨S256x48000, .f32⟩ : BufTy).Contents (Elt F) → (⟨S_, .f32⟩ : BufTy).Contents (Elt F) → (⟨S256, .f32⟩ : BufTy).Contents (Elt F)),
    unary main_v47 main_v48 (broadcastInDim S256x1 ![0] bcast_S256_S256x1_0 : (⟨S256, .f32⟩ : BufTy).Contents (Elt F) → (⟨S256x1, .f32⟩ : BufTy).Contents (Elt F)),
    unary main_v48 main_v49 (Host.log : (⟨S256x1, .f32⟩ : BufTy).Contents (Elt F) → (⟨S256x1, .f32⟩ : BufTy).Contents (Elt F)),
    unary main_v49 main_v50 (broadcastInDim S256x48000 ![0, 1] bcast_S256x1_S256x48000_0_1 : (⟨S256x1, .f32⟩ : BufTy).Contents (Elt F) → (⟨S256x48000, .f32⟩ : BufTy).Contents (Elt F)),
    binary main_v45 main_v50 main_v51 (subf : (⟨S256x48000, .f32⟩ : BufTy).Contents (Elt F) → (⟨S256x48000, .f32⟩ : BufTy).Contents (Elt F) → (⟨S256x48000, .f32⟩ : BufTy).Contents (Elt F)),
    binary main_v39 main_v51 main_v52 (mulf : (⟨S256x48000, .f32⟩ : BufTy).Contents (Elt F) → (⟨S256x48000, .f32⟩ : BufTy).Contents (Elt F) → (⟨S256x48000, .f32⟩ : BufTy).Contents (Elt F)),
    nullary main_cst_10 (constant S_ .f32 0x00000000#32),
    binary main_v52 main_cst_10 main_v53 ((fun x v => Host.reduceAdd x v reducesTo_S256x48000_S256_d1 h_S_) : (⟨S256x48000, .f32⟩ : BufTy).Contents (Elt F) → (⟨S_, .f32⟩ : BufTy).Contents (Elt F) → (⟨S256, .f32⟩ : BufTy).Contents (Elt F)),
    nullary main_cst_11 (constant S_ .f32 0x00000000#32),
    binary main_v39 main_cst_11 main_v54 ((fun x v => Host.reduceAdd x v reducesTo_S256x48000_S256_d1 h_S_) : (⟨S256x48000, .f32⟩ : BufTy).Contents (Elt F) → (⟨S_, .f32⟩ : BufTy).Contents (Elt F) → (⟨S256, .f32⟩ : BufTy).Contents (Elt F)),
    nullary main_cst_12 (constant S_ .f32 0x3F800000#32),
    unary main_cst_12 main_v55 (broadcastInDim S256 ![] bcast_S_S256 : (⟨S_, .f32⟩ : BufTy).Contents (Elt F) → (⟨S256, .f32⟩ : BufTy).Contents (Elt F)),
    binary main_v54 main_v55 main_v56 (maximumf : (⟨S256, .f32⟩ : BufTy).Contents (Elt F) → (⟨S256, .f32⟩ : BufTy).Contents (Elt F) → (⟨S256, .f32⟩ : BufTy).Contents (Elt F)),
    binary main_v53 main_v56 main_v57 (Host.divf : (⟨S256, .f32⟩ : BufTy).Contents (Elt F) → (⟨S256, .f32⟩ : BufTy).Contents (Elt F) → (⟨S256, .f32⟩ : BufTy).Contents (Elt F)),
    nullary main_cst_13 (constant S_ .f32 0x00000000#32),
    binary main_v57 main_cst_13 main_v58 ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)),
    nullary main_cst_14 (constant S_ .f32 0x43800000#32),
    binary main_v58 main_cst_14 main_v59 (Host.divf : (⟨S_, .f32⟩ : BufTy).Contents (Elt F) → (⟨S_, .f32⟩ : BufTy).Contents (Elt F) → (⟨S_, .f32⟩ : BufTy).Contents (Elt F)),
    unary main_v59 main_v60 (Host.negf : (⟨S_, .f32⟩ : BufTy).Contents (Elt F) → (⟨S_, .f32⟩ : BufTy).Contents (Elt F)),
    nullary main_c_15 (constantI S_ 32 4000#32),
    binary main_arg2 main_c_15 main_v61 (cmpi .sgt : (⟨S_, .i32⟩ : BufTy).Contents (Elt F) → (⟨S_, .i32⟩ : BufTy).Contents (Elt F) → (⟨S_, .i1⟩ : BufTy).Contents (Elt F)),
    nullary main_cst_16 (constant S_ .f32 0x3DCCCCCD#32),
    nullary main_cst_17 (constant S_ .f32 0x00000000#32),
    TRef.ternary (TRef.of (T := ⟨S_, .i1⟩) main_v61) (TRef.of (T := ⟨S_, .f32⟩) main_cst_16) (TRef.of (T := ⟨S_, .f32⟩) main_cst_17) (TRef.of (T := ⟨S_, .f32⟩) main_v62) select,
    unary main_v62 main_v63 (id : (⟨S_, .f32⟩ : BufTy).Contents (Elt F) → (⟨S_, .f32⟩ : BufTy).Contents (Elt F)),
    binary main_v63 main_v60 main_v64 (mulf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem main_eq (c : Dev nD) : main (F := F) c = seq ops := rfl

theorem no_scoped_refs : (Finset.univ.filter fun b : Ref sig .tc => b.isScoped) = ∅ := by decide

theorem no_scoped_sems : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., nullary_bufs_sub .., unary_bufs_sub .., ternary_bufs_sub .., nullary_bufs_sub .., unary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., binary_bufs_sub .., unary_bufs_sub .., nullary_bufs_sub .., binary_bufs_sub .., nullary_bufs_sub .., nullary_bufs_sub .., nullary_bufs_sub .., quaternary_bufs_sub .., quaternary_bufs_sub .., unary_bufs_sub .., unary_bufs_sub .., unary_bufs_sub .., unary_bufs_sub .., binary_bufs_sub .., unary_bufs_sub .., nullary_bufs_sub .., unary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., nullary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., unary_bufs_sub .., nullary_bufs_sub .., binary_bufs_sub .., nullary_bufs_sub .., nullary_bufs_sub .., ternary_bufs_sub .., unary_bufs_sub .., binary_bufs_sub ..⟩

set_option maxRecDepth 8192 in
set_option maxHeartbeats 40000000 in
/-- Every execution ends with the result buffer at `result` of the arguments and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v64).trans (by simp only [ops, TRef.binary, TRef.nullary, TRef.ternary, TRef.unary, TRef.quaternary, TRef.toBuf, TRef.ofBuf, cast_eq]; after_results_simp <;> rfl),
      (h c main_arg0).trans (by simp only [ops, TRef.binary, TRef.nullary, TRef.ternary, TRef.unary, TRef.quaternary, TRef.toBuf, TRef.ofBuf, cast_eq]; after_results_simp <;> rfl),
      (h c main_arg1).trans (by simp only [ops, TRef.binary, TRef.nullary, TRef.ternary, TRef.unary, TRef.quaternary, TRef.toBuf, TRef.ofBuf, cast_eq]; after_results_simp <;> rfl),
      (h c main_arg2).trans (by simp only [ops, TRef.binary, TRef.nullary, TRef.ternary, TRef.unary, TRef.quaternary, TRef.toBuf, TRef.ofBuf, cast_eq]; after_results_simp <;> rfl),
      (h c main_arg3).trans (by simp only [ops, TRef.binary, TRef.nullary, TRef.ternary, TRef.unary, TRef.quaternary, TRef.toBuf, TRef.ofBuf, cast_eq]; after_results_simp <;> rfl),
      (h c main_arg4).trans (by simp only [ops, TRef.binary, TRef.nullary, TRef.ternary, TRef.unary, TRef.quaternary, TRef.toBuf, TRef.ofBuf, cast_eq]; after_results_simp <;> rfl)⟩)
    (run_seq no_scoped_refs no_scoped_sems defs main (fun _ => ops) main_eq (fun _ => ops_sub) m ρ)

end Cert.ReferenceIdeal.Stage

end
-- ==== Proof.KernelIdeal.Final.lean ====
/- What the stream region leaves in its arrays, and what its blocks hold: the four output arrays end at the state
   after the last block, and each block read is the array at the block's place. -/
module

public import proofs.«01_k».proof.Proof.KernelIdeal.Region
public import Idealize.ShloMosaic.Lib.Pointwise

@[expose] public section

set_option maxRecDepth 16384

noncomputable section

namespace Cert.KernelIdeal.Stream

open Idealize.ShloMosaic Idealize.ShloMosaic.TcCoe Idealize.ShloMosaic.Tactic Idealize.SL.Sem
open Cert.KernelIdeal Cert.KernelIdeal.Gen
open Idealize.ShloMosaic.Pipeline (Dat Cfg Window)

variable {F : FTy → Type} [FloatOps F] [Named F]
variable (V : (c : Dev nD) → (b : Ref sig .tc) → Buf (Elt F) ((c : Thread nD τ).loc b))

theorem at_5 : ∀ t : Fin cfg0.N, (cfg0.win 5).flush t = true → t.val = 14 := by decide +kernel
theorem flushes_5 : ∃ t : Fin cfg0.N, (cfg0.win 5).flush t = true := by decide +kernel
theorem ix_5 : ∀ t : Fin cfg0.N, win0_5.index t (0 : Fin 2) = 0 ∧ win0_5.index t (1 : Fin 2) = 0 :=
  (by decide +kernel : ∀ t : Fin grid0.N, _)

/-- Window 5's block is its whole array. -/
theorem cut_5 (c : Dev nD) (t : Fin cfg0.N) (G : Buf (Elt F) ((c : Thread nD τ).loc main_v22_0)) :
    (cfg0.win 5).cut (grid0.coords t) (G : Vec F S256x640 .i32) = ((cfg0.win 5).blk t).view.read (Elt F) G := by
  obtain ⟨e0, e1⟩ := ix_5 t
  funext y
  have hb0 : (((cfg0.win 5).blk t).view.emb y 0).val = win0_5.index t (0 : Fin 2) * 256 + 1 * (y 0).val := rfl
  have hb1 : (((cfg0.win 5).blk t).view.emb y 1).val = win0_5.index t (1 : Fin 2) * 640 + 1 * (y 1).val := rfl
  show G ((cfg0.win 5).xinj (grid0.coords t) y) = G (((cfg0.win 5).blk t).view.emb y)
  congr 1
  funext a; apply Fin.ext
  match a with
  | ⟨0, _⟩ => show (y 0).val = (((cfg0.win 5).blk t).view.emb y 0).val; rw [hb0]; omega
  | ⟨1, _⟩ => show (y 1).val = (((cfg0.win 5).blk t).view.emb y 1).val; rw [hb1]; omega

/-- The kept keys end at the state after the last block. -/
theorem final_5 (c : Dev nD) : (dat V c).arrAt 5 cfg0.N = (stateAt V c 15).1 := by
  have hs : ∀ t : Fin cfg0.N, (cfg0.win 5).flush t = true → (dat V c).after 5 t = (stateAt V c 15).1 :=
    fun t hf => (after_5 V c t).trans (by rw [at_5 t hf])
  generalize (stateAt V c 15).1 = G at hs ⊢
  refine (dat V c).arrAt_eq_of_cover 5 _ (fun t hf => ?_) (fun i => ?_)
  · show (cfg0.win 5).cut (grid0.coords t) ((dat V c).after 5 t) = _
    rw [hs t hf]
    exact cut_5 c t G
  · obtain ⟨t, ht⟩ := flushes_5
    refine ⟨t, ht, ?_⟩
    show i ∈ ((View.whole main_v22_0).slice (win0_5.rect t)).set
    rw [View.set_slice_whole, Rect.mem_set_unit]
    obtain ⟨e0, e1⟩ := ix_5 t
    have h0 : (i 0).val < 256 := (i 0).isLt
    have h1 : (i 1).val < 640 := (i 1).isLt
    intro a
    match a with
    | ⟨0, _⟩ => show win0_5.index t (0 : Fin 2) * 256 ≤ (i 0).val ∧ (i 0).val < win0_5.index t (0 : Fin 2) * 256 + 256; omega
    | ⟨1, _⟩ => show win0_5.index t (1 : Fin 2) * 640 ≤ (i 1).val ∧ (i 1).val < win0_5.index t (1 : Fin 2) * 640 + 640; omega

theorem at_6 : ∀ t : Fin cfg0.N, (cfg0.win 6).flush t = true → t.val = 14 := by decide +kernel
theorem flushes_6 : ∃ t : Fin cfg0.N, (cfg0.win 6).flush t = true := by decide +kernel
theorem ix_6 : ∀ t : Fin cfg0.N, win0_6.index t (0 : Fin 2) = 0 ∧ win0_6.index t (1 : Fin 2) = 0 :=
  (by decide +kernel : ∀ t : Fin grid0.N, _)

/-- Window 6's block is its whole array. -/
theorem cut_6 (c : Dev nD) (t : Fin cfg0.N) (G : Buf (Elt F) ((c : Thread nD τ).loc main_v22_1)) :
    (cfg0.win 6).cut (grid0.coords t) (G : Vec F S256x1 .f32) = ((cfg0.win 6).blk t).view.read (Elt F) G := by
  obtain ⟨e0, e1⟩ := ix_6 t
  funext y
  have hb0 : (((cfg0.win 6).blk t).view.emb y 0).val = win0_6.index t (0 : Fin 2) * 256 + 1 * (y 0).val := rfl
  have hb1 : (((cfg0.win 6).blk t).view.emb y 1).val = win0_6.index t (1 : Fin 2) * 1 + 1 * (y 1).val := rfl
  show G ((cfg0.win 6).xinj (grid0.coords t) y) = G (((cfg0.win 6).blk t).view.emb y)
  congr 1
  funext a; apply Fin.ext
  match a with
  | ⟨0, _⟩ => show (y 0).val = (((cfg0.win 6).blk t).view.emb y 0).val; rw [hb0]; omega
  | ⟨1, _⟩ => show (y 1).val = (((cfg0.win 6).blk t).view.emb y 1).val; rw [hb1]; omega

/-- The sums of exponentials end at the state after the last block. -/
theorem final_6 (c : Dev nD) : (dat V c).arrAt 6 cfg0.N = (stateAt V c 15).2.1 := by
  have hs : ∀ t : Fin cfg0.N, (cfg0.win 6).flush t = true → (dat V c).after 6 t = (stateAt V c 15).2.1 :=
    fun t hf => (after_6 V c t).trans (by rw [at_6 t hf])
  generalize (stateAt V c 15).2.1 = G at hs ⊢
  refine (dat V c).arrAt_eq_of_cover 6 _ (fun t hf => ?_) (fun i => ?_)
  · show (cfg0.win 6).cut (grid0.coords t) ((dat V c).after 6 t) = _
    rw [hs t hf]
    exact cut_6 c t G
  · obtain ⟨t, ht⟩ := flushes_6
    refine ⟨t, ht, ?_⟩
    show i ∈ ((View.whole main_v22_1).slice (win0_6.rect t)).set
    rw [View.set_slice_whole, Rect.mem_set_unit]
    obtain ⟨e0, e1⟩ := ix_6 t
    have h0 : (i 0).val < 256 := (i 0).isLt
    have h1 : (i 1).val < 1 := (i 1).isLt
    intro a
    match a with
    | ⟨0, _⟩ => show win0_6.index t (0 : Fin 2) * 256 ≤ (i 0).val ∧ (i 0).val < win0_6.index t (0 : Fin 2) * 256 + 256; omega
    | ⟨1, _⟩ => show win0_6.index t (1 : Fin 2) * 1 ≤ (i 1).val ∧ (i 1).val < win0_6.index t (1 : Fin 2) * 1 + 1; omega

theorem at_7 : ∀ t : Fin cfg0.N, (cfg0.win 7).flush t = true → t.val = 14 := by decide +kernel
theorem flushes_7 : ∃ t : Fin cfg0.N, (cfg0.win 7).flush t = true := by decide +kernel
theorem ix_7 : ∀ t : Fin cfg0.N, win0_7.index t (0 : Fin 2) = 0 ∧ win0_7.index t (1 : Fin 2) = 0 :=
  (by decide +kernel : ∀ t : Fin grid0.N, _)

/-- Window 7's block is its whole array. -/
theorem cut_7 (c : Dev nD) (t : Fin cfg0.N) (G : Buf (Elt F) ((c : Thread nD τ).loc main_v22_2)) :
    (cfg0.win 7).cut (grid0.coords t) (G : Vec F S256x384 .f32) = ((cfg0.win 7).blk t).view.read (Elt F) G := by
  obtain ⟨e0, e1⟩ := ix_7 t
  funext y
  have hb0 : (((cfg0.win 7).blk t).view.emb y 0).val = win0_7.index t (0 : Fin 2) * 256 + 1 * (y 0).val := rfl
  have hb1 : (((cfg0.win 7).blk t).view.emb y 1).val = win0_7.index t (1 : Fin 2) * 384 + 1 * (y 1).val := rfl
  show G ((cfg0.win 7).xinj (grid0.coords t) y) = G (((cfg0.win 7).blk t).view.emb y)
  congr 1
  funext a; apply Fin.ext
  match a with
  | ⟨0, _⟩ => show (y 0).val = (((cfg0.win 7).blk t).view.emb y 0).val; rw [hb0]; omega
  | ⟨1, _⟩ => show (y 1).val = (((cfg0.win 7).blk t).view.emb y 1).val; rw [hb1]; omega

/-- The class sums end at the state after the last block. -/
theorem final_7 (c : Dev nD) : (dat V c).arrAt 7 cfg0.N = (stateAt V c 15).2.2.1 := by
  have hs : ∀ t : Fin cfg0.N, (cfg0.win 7).flush t = true → (dat V c).after 7 t = (stateAt V c 15).2.2.1 :=
    fun t hf => (after_7 V c t).trans (by rw [at_7 t hf])
  generalize (stateAt V c 15).2.2.1 = G at hs ⊢
  refine (dat V c).arrAt_eq_of_cover 7 _ (fun t hf => ?_) (fun i => ?_)
  · show (cfg0.win 7).cut (grid0.coords t) ((dat V c).after 7 t) = _
    rw [hs t hf]
    exact cut_7 c t G
  · obtain ⟨t, ht⟩ := flushes_7
    refine ⟨t, ht, ?_⟩
    show i ∈ ((View.whole main_v22_2).slice (win0_7.rect t)).set
    rw [View.set_slice_whole, Rect.mem_set_unit]
    obtain ⟨e0, e1⟩ := ix_7 t
    have h0 : (i 0).val < 256 := (i 0).isLt
    have h1 : (i 1).val < 384 := (i 1).isLt
    intro a
    match a with
    | ⟨0, _⟩ => show win0_7.index t (0 : Fin 2) * 256 ≤ (i 0).val ∧ (i 0).val < win0_7.index t (0 : Fin 2) * 256 + 256; omega
    | ⟨1, _⟩ => show win0_7.index t (1 : Fin 2) * 384 ≤ (i 1).val ∧ (i 1).val < win0_7.index t (1 : Fin 2) * 384 + 384; omega

theorem at_8 : ∀ t : Fin cfg0.N, (cfg0.win 8).flush t = true → t.val = 14 := by decide +kernel
theorem flushes_8 : ∃ t : Fin cfg0.N, (cfg0.win 8).flush t = true := by decide +kernel
theorem ix_8 : ∀ t : Fin cfg0.N, win0_8.index t (0 : Fin 2) = 0 ∧ win0_8.index t (1 : Fin 2) = 0 :=
  (by decide +kernel : ∀ t : Fin grid0.N, _)

/-- Window 8's block is its whole array. -/
theorem cut_8 (c : Dev nD) (t : Fin cfg0.N) (G : Buf (Elt F) ((c : Thread nD τ).loc main_v22_3)) :
    (cfg0.win 8).cut (grid0.coords t) (G : Vec F S1x384 .f32) = ((cfg0.win 8).blk t).view.read (Elt F) G := by
  obtain ⟨e0, e1⟩ := ix_8 t
  funext y
  have hb0 : (((cfg0.win 8).blk t).view.emb y 0).val = win0_8.index t (0 : Fin 2) * 1 + 1 * (y 0).val := rfl
  have hb1 : (((cfg0.win 8).blk t).view.emb y 1).val = win0_8.index t (1 : Fin 2) * 384 + 1 * (y 1).val := rfl
  show G ((cfg0.win 8).xinj (grid0.coords t) y) = G (((cfg0.win 8).blk t).view.emb y)
  congr 1
  funext a; apply Fin.ext
  match a with
  | ⟨0, _⟩ => show (y 0).val = (((cfg0.win 8).blk t).view.emb y 0).val; rw [hb0]; omega
  | ⟨1, _⟩ => show (y 1).val = (((cfg0.win 8).blk t).view.emb y 1).val; rw [hb1]; omega

/-- The class counts end at the state after the last block. -/
theorem final_8 (c : Dev nD) : (dat V c).arrAt 8 cfg0.N = (stateAt V c 15).2.2.2 := by
  have hs : ∀ t : Fin cfg0.N, (cfg0.win 8).flush t = true → (dat V c).after 8 t = (stateAt V c 15).2.2.2 :=
    fun t hf => (after_8 V c t).trans (by rw [at_8 t hf])
  generalize (stateAt V c 15).2.2.2 = G at hs ⊢
  refine (dat V c).arrAt_eq_of_cover 8 _ (fun t hf => ?_) (fun i => ?_)
  · show (cfg0.win 8).cut (grid0.coords t) ((dat V c).after 8 t) = _
    rw [hs t hf]
    exact cut_8 c t G
  · obtain ⟨t, ht⟩ := flushes_8
    refine ⟨t, ht, ?_⟩
    show i ∈ ((View.whole main_v22_3).slice (win0_8.rect t)).set
    rw [View.set_slice_whole, Rect.mem_set_unit]
    obtain ⟨e0, e1⟩ := ix_8 t
    have h0 : (i 0).val < 1 := (i 0).isLt
    have h1 : (i 1).val < 384 := (i 1).isLt
    intro a
    match a with
    | ⟨0, _⟩ => show win0_8.index t (0 : Fin 2) * 1 ≤ (i 0).val ∧ (i 0).val < win0_8.index t (0 : Fin 2) * 1 + 1; omega
    | ⟨1, _⟩ => show win0_8.index t (1 : Fin 2) * 384 ≤ (i 1).val ∧ (i 1).val < win0_8.index t (1 : Fin 2) * 384 + 384; omega

theorem ix_0 : ∀ t : Fin cfg0.N, win0_0.index t (0 : Fin 2) = 0 ∧ win0_0.index t (1 : Fin 2) = 0 :=
  (by decide +kernel : ∀ t : Fin grid0.N, _)

/-- Every block of the target rows is the whole array. -/
theorem block_0 (c : Dev nD) (t : Fin cfg0.N) : (iblk V c 0 t : Vec F S256x512 .f32) = V c main_v17 := by
  obtain ⟨e0, e1⟩ := ix_0 t
  funext y
  have hb0 : (((cfg0.win 0).blk t).view.emb y 0).val = win0_0.index t (0 : Fin 2) * 256 + 1 * (y 0).val := rfl
  have hb1 : (((cfg0.win 0).blk t).view.emb y 1).val = win0_0.index t (1 : Fin 2) * 512 + 1 * (y 1).val := rfl
  show V c main_v17 (((cfg0.win 0).blk t).view.emb y) = V c main_v17 y
  congr 1
  funext a; apply Fin.ext
  match a with
  | ⟨0, _⟩ => show (((cfg0.win 0).blk t).view.emb y 0).val = (y 0).val; rw [hb0]; omega
  | ⟨1, _⟩ => show (((cfg0.win 0).blk t).view.emb y 1).val = (y 1).val; rw [hb1]; omega

theorem ix_1 : ∀ t : Fin cfg0.N, win0_1.index t (0 : Fin 2) = 0 ∧ win0_1.index t (1 : Fin 2) = 0 :=
  (by decide +kernel : ∀ t : Fin grid0.N, _)

/-- Every block of the source rows is the whole array. -/
theorem block_1 (c : Dev nD) (t : Fin cfg0.N) : (iblk V c 1 t : Vec F S256x512 .f32) = V c main_v8 := by
  obtain ⟨e0, e1⟩ := ix_1 t
  funext y
  have hb0 : (((cfg0.win 1).blk t).view.emb y 0).val = win0_1.index t (0 : Fin 2) * 256 + 1 * (y 0).val := rfl
  have hb1 : (((cfg0.win 1).blk t).view.emb y 1).val = win0_1.index t (1 : Fin 2) * 512 + 1 * (y 1).val := rfl
  show V c main_v8 (((cfg0.win 1).blk t).view.emb y) = V c main_v8 y
  congr 1
  funext a; apply Fin.ext
  match a with
  | ⟨0, _⟩ => show (((cfg0.win 1).blk t).view.emb y 0).val = (y 0).val; rw [hb0]; omega
  | ⟨1, _⟩ => show (((cfg0.win 1).blk t).view.emb y 1).val = (y 1).val; rw [hb1]; omega

theorem ix_2 : ∀ t : Fin cfg0.N, win0_2.index t (0 : Fin 2) = t.val ∧ win0_2.index t (1 : Fin 2) = 0 :=
  (by decide +kernel : ∀ t : Fin grid0.N, _)

theorem col_lt (t : Fin cfg0.N) (r : Fin 3200) : t.val * 3200 + r.val < 48000 := by
  have h : t.val < 15 := lt_of_lt_of_eq t.isLt N_0
  have := r.isLt
  omega

/-- Block `t` of the bank holds its rows from `3200 t` on. -/
theorem block_2 (c : Dev nD) (t : Fin cfg0.N) (r : Fin 3200) (k : Fin 512) :
    (iblk V c 2 t : Vec F S3200x512 .f32) (ix2 r k) = V c main_arg3 (ix2 (⟨t.val * 3200 + r.val, col_lt t r⟩ : Fin 48000) k) := by
  obtain ⟨e0, e1⟩ := ix_2 t
  have hb0 : (((cfg0.win 2).blk t).view.emb (ix2 r k : S3200x512.Idx) 0).val = win0_2.index t (0 : Fin 2) * 3200 + 1 * r.val := rfl
  have hb1 : (((cfg0.win 2).blk t).view.emb (ix2 r k : S3200x512.Idx) 1).val = win0_2.index t (1 : Fin 2) * 512 + 1 * k.val := rfl
  show V c main_arg3 (((cfg0.win 2).blk t).view.emb (ix2 r k : S3200x512.Idx)) = _
  congr 1
  funext a; apply Fin.ext
  match a with
  | ⟨0, _⟩ => show (((cfg0.win 2).blk t).view.emb (ix2 r k : S3200x512.Idx) 0).val = t.val * 3200 + r.val; rw [hb0]; omega
  | ⟨1, _⟩ => show (((cfg0.win 2).blk t).view.emb (ix2 r k : S3200x512.Idx) 1).val = k.val; rw [hb1]; omega

theorem ix_3 : ∀ t : Fin cfg0.N, win0_3.index t (0 : Fin 3) = t.val ∧ win0_3.index t (1 : Fin 3) = 0 ∧ win0_3.index t (2 : Fin 3) = 0 :=
  (by decide +kernel : ∀ t : Fin grid0.N, _)

/-- Block `t` of the labels as rows. -/
theorem block_3 (c : Dev nD) (t : Fin cfg0.N) (r : Fin 3200) :
    (iblk V c 3 t : Vec F S1x1x3200 .i32) (ix3 (0 : Fin 1) (0 : Fin 1) r)
      = V c main_v20 (ix3 (⟨t.val, lt_of_lt_of_eq t.isLt N_0⟩ : Fin 15) (0 : Fin 1) r) := by
  obtain ⟨e0, e1, e2⟩ := ix_3 t
  have hb0 : (((cfg0.win 3).blk t).view.emb (ix3 0 0 r : S1x1x3200.Idx) 0).val = win0_3.index t (0 : Fin 3) * 1 + 1 * 0 := rfl
  have hb1 : (((cfg0.win 3).blk t).view.emb (ix3 0 0 r : S1x1x3200.Idx) 1).val = win0_3.index t (1 : Fin 3) * 1 + 1 * 0 := rfl
  have hb2 : (((cfg0.win 3).blk t).view.emb (ix3 0 0 r : S1x1x3200.Idx) 2).val = win0_3.index t (2 : Fin 3) * 3200 + 1 * r.val := rfl
  show V c main_v20 (((cfg0.win 3).blk t).view.emb (ix3 0 0 r : S1x1x3200.Idx)) = _
  congr 1
  funext a; apply Fin.ext
  match a with
  | ⟨0, _⟩ => show (((cfg0.win 3).blk t).view.emb (ix3 0 0 r : S1x1x3200.Idx) 0).val = t.val; rw [hb0]; omega
  | ⟨1, _⟩ => show (((cfg0.win 3).blk t).view.emb (ix3 0 0 r : S1x1x3200.Idx) 1).val = 0; rw [hb1]; omega
  | ⟨2, _⟩ => show (((cfg0.win 3).blk t).view.emb (ix3 0 0 r : S1x1x3200.Idx) 2).val = r.val; rw [hb2]; omega

theorem ix_4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Block `t` of the labels as columns. -/
theorem block_4 (c : Dev nD) (t : Fin cfg0.N) (r : Fin 3200) :
    (iblk V c 4 t : Vec F S1x3200x1 .i32) (ix3 (0 : Fin 1) r (0 : Fin 1))
      = V c main_v21 (ix3 (⟨t.val, lt_of_lt_of_eq t.isLt N_0⟩ : Fin 15) r (0 : Fin 1)) := by
  obtain ⟨e0, e1, e2⟩ := ix_4 t
  have hb0 : (((cfg0.win 4).blk t).view.emb (ix3 0 r 0 : S1x3200x1.Idx) 0).val = win0_4.index t (0 : Fin 3) * 1 + 1 * 0 := rfl
  have hb1 : (((cfg0.win 4).blk t).view.emb (ix3 0 r 0 : S1x3200x1.Idx) 1).val = win0_4.index t (1 : Fin 3) * 3200 + 1 * r.val := rfl
  have hb2 : (((cfg0.win 4).blk t).view.emb (ix3 0 r 0 : S1x3200x1.Idx) 2).val = win0_4.index t (2 : Fin 3) * 1 + 1 * 0 := rfl
  show V c main_v21 (((cfg0.win 4).blk t).view.emb (ix3 0 r 0 : S1x3200x1.Idx)) = _
  congr 1
  funext a; apply Fin.ext
  match a with
  | ⟨0, _⟩ => show (((cfg0.win 4).blk t).view.emb (ix3 0 r 0 : S1x3200x1.Idx) 0).val = t.val; rw [hb0]; omega
  | ⟨1, _⟩ => show (((cfg0.win 4).blk t).view.emb (ix3 0 r 0 : S1x3200x1.Idx) 1).val = r.val; rw [hb1]; omega
  | ⟨2, _⟩ => show (((cfg0.win 4).blk t).view.emb (ix3 0 r 0 : S1x3200x1.Idx) 2).val = 0; rw [hb2]; omega

end Cert.KernelIdeal.Stream

end
-- ==== Proof.KernelIdeal.Entry.lean ====
/- What the streaming region finds: the arrays its windows stage, as terms of the arguments. -/
module

public import proofs.«01_k».proof.Proof.KernelIdeal.Run

@[expose] public section

set_option maxRecDepth 16384

noncomputable section

namespace Cert.KernelIdeal.Entry

open Idealize.ShloMosaic Idealize.ShloMosaic.TcCoe Idealize.ShloMosaic.Tactic Idealize.SL.Sem
open Cert.KernelIdeal Cert.KernelIdeal.Gen Cert.KernelIdeal.Stream Idealize.ShloMosaic.StableHlo

variable {F : FTy → Type} [FloatOps F] [Named F]

/-- The rows of a 256-row block, each over the larger of its norm and the small constant. -/
def normed (x : Vec F S256x512 .f32) : Vec F S256x512 .f32 :=
  Host.divf x (broadcastInDim S256x512 ![0, 1] bcast_S256x1_S256x512_0_1 (maximumf (Host.sqrt (broadcastInDim S256x1 ![0] bcast_S256_S256x1_0
    (Host.reduceAdd (mulf x x) (constant S_ .f32 0x00000000#32) reducesTo_S256x512_S256_d1 h_S_))) (broadcastInDim S256x1 ![] bcast_S_S256x1 (constant S_ .f32 0x2B8CBCCC#32))))

/-- The bank's labels with the source rows' written over the first 256. -/
def labels (q : Vec F S48000 .i32) (s : Vec F S256 .i32) : Vec F S48000 .i32 :=
  Host.scatter scatter_S48000_S1_S256_0_n_0_0 (fun _ b => b) q (broadcastInDim S1 ![] bcast_S_S1 (constantI S_ 32 0#32)) s

variable (m : (ℓ : Loc nD τ sig) → Buf (Elt F) ℓ) (c : Dev nD)

theorem V_v8 : Ve0 m c main_v8 = normed (extractStridedSlice S256x512 ![0, 0] (m ((c : Thread nD τ).loc main_arg0)) slices_S512x512_S256x512_0_0) := by
  simp only [Ve0, V1, V0, hostOps0]; after_results_simp <;> rfl

theorem V_v17 : Ve0 m c main_v17 = normed (extractStridedSlice S256x512 ![256, 0] (m ((c : Thread nD τ).loc main_arg0)) slices_S512x512_S256x512_256_0) := by
  simp only [Ve0, V1, V0, hostOps0]; after_results_simp <;> rfl

theorem V_v20 : Ve0 m c main_v20 = shapeCast S15x1x3200 (labels (m ((c : Thread nD τ).loc main_arg4)) (m ((c : Thread nD τ).loc main_arg1))) shapeCasts_S48000_S15x1x3200 := by
  simp only [Ve0, V1, V0, hostOps0]; after_results_simp <;> rfl

theorem V_v21 : Ve0 m c main_v21 = shapeCast S15x3200x1 (labels (m ((c : Thread nD τ).loc main_arg4)) (m ((c : Thread nD τ).loc main_arg1))) shapeCasts_S48000_S15x3200x1 := by
  simp only [Ve0, V1, V0, hostOps0]; after_results_simp <;> rfl

theorem V_main_arg3 : Ve0 m c main_arg3 = m ((c : Thread nD τ).loc main_arg3) := V1_of m c main_arg3 (by decide)

end Cert.KernelIdeal.Entry

end
-- ==== Proof.Math.lean ====
/- The sums over the bank in extended reals, apart from any program. -/
module

public import Idealize.ShloMosaic.Lib.Pointwise
public import Idealize.ShloMosaic.Lib.IdealHost

@[expose] public section

noncomputable section

namespace Cert.Bank

open Idealize.ShloMosaic

/-- The small constant a norm is kept above. -/
def eps : EReal := Ideal.ofBits .f32 0x2B8CBCCC#32

/-- The temperature. -/
def temp : EReal := Ideal.ofBits .f32 0x3D8F5C29#32

/-- A row's norm, kept above the small constant. -/
def norm (x : Fin 512 → EReal) : EReal := max (Ideal.sqrt (∑ k, x k * x k)) eps

/-- A row over its norm. -/
def unit (x : Fin 512 → EReal) (k : Fin 512) : EReal := Ideal.div (x k) (norm x)

/-- 1 where the label `w` is class `n`, else 0. -/
def hit (w : BitVec 32) (n : ℕ) : EReal := if w = BitVec.ofNat 32 n then 1 else 0

/-- The similarity of a target row to a bank row, over the temperature. -/
def logit (t x : Fin 512 → EReal) : EReal := Ideal.div (∑ k, unit t k * unit x k) temp

theorem temp_eq : temp = ((9395241 / 134217728 : ℝ) : EReal) := by
  have h1 : ((0x3D8F5C29#32 : BitVec 32).extractLsb' (8 + 23) 1 == 1#1) = false := by decide
  have h2 : ((0x3D8F5C29#32 : BitVec 32).extractLsb' 23 8).toNat = 123 := by decide
  have h3 : ((0x3D8F5C29#32 : BitVec 32).extractLsb' 0 23).toNat = 1006633 := by decide
  show Ideal.ieee 8 23 (0x3D8F5C29#32 : BitVec 32) = _
  simp only [Ideal.ieee]
  rw [h1, h2, h3]
  norm_num

theorem eps_eq : eps ≤ 1 := by
  have h1 : ((0x2B8CBCCC#32 : BitVec 32).extractLsb' (8 + 23) 1 == 1#1) = false := by decide
  have h2 : ((0x2B8CBCCC#32 : BitVec 32).extractLsb' 23 8).toNat = 87 := by decide
  have h3 : ((0x2B8CBCCC#32 : BitVec 32).extractLsb' 0 23).toNat = 834764 := by decide
  show Ideal.ieee 8 23 (0x2B8CBCCC#32 : BitVec 32) ≤ 1
  simp only [Ideal.ieee]
  rw [h1, h2, h3, if_neg (by norm_num), if_neg (by norm_num)]
  rw [← EReal.coe_one, EReal.coe_le_coe_iff]
  norm_num

theorem div_temp (x : EReal) : x * ((134217728 / 9395241 : ℝ) : EReal) = Ideal.div x temp := by
  rw [temp_eq, Ideal.div, if_neg (by rw [← EReal.coe_zero, EReal.coe_eq_coe_iff]; norm_num), ← EReal.coe_inv]
  norm_num

/-- A row whose squares sum to 1 is its own unit row. -/
theorem unit_of_one (x : Fin 512 → EReal) (h : (∑ k, x k * x k) = 1) (k : Fin 512) : unit x k = x k := by
  unfold unit norm
  rw [h]
  have h1 : Ideal.sqrt 1 = 1 := by
    show (if (1 : ℝ) < 0 then ⊥ else ((Real.sqrt 1 : ℝ) : EReal)) = 1
    rw [if_neg (by norm_num), Real.sqrt_one, EReal.coe_one]
  have h2 : (1 : EReal)⁻¹ = 1 := by
    rw [← EReal.coe_one, ← EReal.coe_inv, inv_one]
  rw [h1, max_eq_left eps_eq, Ideal.div, if_neg one_ne_zero, h2, mul_one]

theorem sitofp_hit (w : BitVec 32) (n : ℕ) :
    (FloatOps.sitofp FTy.f32 (BitVec.setWidth 32 (IntOp.cmpi CmpIPredicate.eq w (BitVec.ofNat 32 n))) : Ideal .f32) = hit w n := by
  unfold hit
  show (((BitVec.setWidth 32 (BitVec.ofBool (w == BitVec.ofNat 32 n))).toInt : ℝ) : EReal) = _
  by_cases h : w = BitVec.ofNat 32 n
  · rw [if_pos h, beq_iff_eq.2 h, show (BitVec.setWidth 32 (BitVec.ofBool true)).toInt = 1 by decide]; norm_num
  · rw [if_neg h, beq_eq_false_iff_ne.2 h, show (BitVec.setWidth 32 (BitVec.ofBool false)).toInt = 0 by decide]; norm_num

theorem uitofp_hit (w : BitVec 32) (n : ℕ) :
    (FloatOps.uitofp FTy.f32 (IntOp.cmpi CmpIPredicate.eq w (BitVec.ofNat 32 n)) : Ideal .f32) = hit w n := by
  unfold hit
  show (((BitVec.ofBool (w == BitVec.ofNat 32 n)).toNat : ℝ) : EReal) = _
  by_cases h : w = BitVec.ofNat 32 n
  · rw [if_pos h, beq_iff_eq.2 h, show (BitVec.ofBool true).toNat = 1 by decide]; norm_num
  · rw [if_neg h, beq_eq_false_iff_ne.2 h, show (BitVec.ofBool false).toNat = 0 by decide]; norm_num

/-- A running sum that takes in 3200 terms at each of 15 steps is the sum of the 48000. -/
theorem sum_blocks (S : ℕ → EReal) (f : Fin 48000 → EReal) (h0 : S 0 = 0)
    (hs : ∀ (t : Fin 15), S (t.val + 1) = S t.val + ∑ r : Fin 3200, f ⟨t.val * 3200 + r.val, by omega⟩) :
    S 15 = ∑ j, f j := by
  let g : ℕ → EReal := fun j => if h : j < 48000 then f ⟨j, h⟩ else 0
  have key : ∀ n ≤ 15, S n = ∑ j ∈ Finset.range (n * 3200), g j := by
    intro n
    induction n with
    | zero => intro _; simpa using h0
    | succ n ih =>
      intro hn
      rw [hs ⟨n, by omega⟩, ih (by omega), Nat.succ_mul, Finset.sum_range_add, Finset.sum_range (n := 3200)]
      congr 1
      refine Finset.sum_congr rfl fun r _ => ?_
      show f _ = dite _ _ _
      rw [dif_pos]
  rw [key 15 le_rfl, Finset.sum_range]
  refine Finset.sum_congr rfl fun j _ => ?_
  show dite _ _ _ = f j
  rw [dif_pos]

end Cert.Bank

end
-- ==== Proof.Scatter.lean ====
/- Rows written over the first rows of an array, read at an element. -/
module

public import Idealize.ShloMosaic.Lib.Pointwise
public import Idealize.ShloMosaic.Lib.Routing.OpsSet
public import Idealize.ShloMosaic.Lib.Routing.OpsPair

@[expose] public section

namespace Cert.Bank

open Idealize.ShloMosaic

/-- With one index word of zero, every update of a vector starts at element 0. -/
theorem start_zero {s u : Shape} (d : ScatterDims s (⟨1, ![1]⟩ : Shape) u) (idx : IVec (⟨1, ![1]⟩ : Shape) 32) (h : ∀ z, idx z = 0#32) (j : u.Idx) (a : Fin s.rank) :
    d.start j idx a = 0 := by
  unfold ScatterDims.start
  split
  · rw [h]; rfl
  · rfl

theorem lands1 {N U : ℕ} (d : ScatterDims (⟨1, ![N]⟩ : Shape) (⟨1, ![1]⟩ : Shape) (⟨1, ![U]⟩ : Shape)) (hiw : d.insertedWindowDims = [])
    (idx : IVec (⟨1, ![1]⟩ : Shape) 32) (h : ∀ z, idx z = 0#32) (k : Fin U) (e : Fin N) :
    d.resultIdx? (ix1 k) idx = some (ix1 e) ↔ k.val = e.val := by
  have hk : d.sKept = [0] := by
    show (⟨1, ![N]⟩ : Shape).kept d.insertedWindowDims = _
    rw [hiw]
    rfl
  have hw : d.window (ix1 k) 0 = k.val := by
    unfold ScatterDims.window
    rw [dif_pos (by rw [hk]; exact List.mem_singleton.2 rfl)]
    exact congrArg (fun t => ((ix1 k : (⟨1, ![U]⟩ : Shape).Idx) t).val) (Subsingleton.elim (α := Fin 1) _ 0)
  rw [Routing.resultIdx?_eq_some]
  constructor
  · intro q
    have q0 := q 0
    rw [start_zero d idx h, hw] at q0
    have q1 : ((0 : Int) + (k.val : Int)) = (e.val : Int) := q0
    omega
  · intro q a
    match a with
    | ⟨0, _⟩ =>
      show d.start (ix1 k) idx 0 + (d.window (ix1 k) 0 : Int) = (e.val : Int)
      rw [start_zero d idx h, hw]
      omega

/-- A vector written over from element 0 on. -/
theorem scatter1 {α : Type} {N U : ℕ} (d : ScatterDims (⟨1, ![N]⟩ : Shape) (⟨1, ![1]⟩ : Shape) (⟨1, ![U]⟩ : Shape)) (hiw : d.insertedWindowDims = [])
    (x : (⟨1, ![N]⟩ : Shape).Idx → α) (idx : IVec (⟨1, ![1]⟩ : Shape) 32) (h : ∀ z, idx z = 0#32) (y : (⟨1, ![U]⟩ : Shape).Idx → α) (e : Fin N) :
    Host.scatter d (fun _ b => b) x idx y (ix1 e) = if q : e.val < U then y (ix1 ⟨e.val, q⟩) else x (ix1 e) := by
  have lands : ∀ j : (⟨1, ![U]⟩ : Shape).Idx, d.resultIdx? j idx = some (ix1 e) → (j 0).val = e.val := fun j hj =>
    (lands1 d hiw idx h (j 0) e).1 ((congrArg (fun t => d.resultIdx? t idx) (eq_ix1 j).symm).trans hj)
  split
  · next q =>
    refine Routing.scatter_set_hit d x idx y _ _ (fun j hj => ?_) (ix1 ⟨e.val, q⟩) ((lands1 d hiw idx h _ e).2 rfl)
    rw [eq_ix1 j]
    exact congrArg (fun t => y (ix1 t)) (Fin.ext (lands j hj))
  · next q =>
    exact Routing.scatter_set_miss d x idx y _ fun j hj => q (lands j hj ▸ (j 0).isLt)

theorem lands2 {N U C : ℕ} (d : ScatterDims (⟨2, ![N, C]⟩ : Shape) (⟨1, ![1]⟩ : Shape) (⟨2, ![U, C]⟩ : Shape)) (hiw : d.insertedWindowDims = [])
    (huw : d.updateWindowDims = [0, 1])
    (idx : IVec (⟨1, ![1]⟩ : Shape) 32) (h : ∀ z, idx z = 0#32) (k : Fin U) (l : Fin C) (e : Fin N) (c : Fin C) :
    d.resultIdx? (ix2 k l) idx = some (ix2 e c) ↔ k.val = e.val ∧ l.val = c.val := by
  have hw0 : d.window (ix2 k l) 0 = k.val := by
    obtain ⟨u, i, z, v, wf⟩ := d
    dsimp only at hiw huw
    subst hiw huw
    rfl
  have hw1 : d.window (ix2 k l) 1 = l.val := by
    obtain ⟨u, i, z, v, wf⟩ := d
    dsimp only at hiw huw
    subst hiw huw
    rfl
  rw [Routing.resultIdx?_eq_some]
  constructor
  · intro q
    have q0 := q 0
    have q1 := q 1
    rw [start_zero d idx h, hw0] at q0
    rw [start_zero d idx h, hw1] at q1
    have r0 : ((0 : Int) + (k.val : Int)) = (e.val : Int) := q0
    have r1 : ((0 : Int) + (l.val : Int)) = (c.val : Int) := q1
    omega
  · intro q a
    match a with
    | ⟨0, _⟩ =>
      show d.start (ix2 k l) idx 0 + (d.window (ix2 k l) 0 : Int) = (e.val : Int)
      rw [start_zero d idx h, hw0]
      omega
    | ⟨1, _⟩ =>
      show d.start (ix2 k l) idx 1 + (d.window (ix2 k l) 1 : Int) = (c.val : Int)
      rw [start_zero d idx h, hw1]
      omega

/-- A matrix whose first rows are written over. -/
theorem scatter2 {α : Type} {N U C : ℕ} (d : ScatterDims (⟨2, ![N, C]⟩ : Shape) (⟨1, ![1]⟩ : Shape) (⟨2, ![U, C]⟩ : Shape)) (hiw : d.insertedWindowDims = [])
    (huw : d.updateWindowDims = [0, 1])
    (x : (⟨2, ![N, C]⟩ : Shape).Idx → α) (idx : IVec (⟨1, ![1]⟩ : Shape) 32) (h : ∀ z, idx z = 0#32) (y : (⟨2, ![U, C]⟩ : Shape).Idx → α) (e : Fin N) (c : Fin C) :
    Host.scatter d (fun _ b => b) x idx y (ix2 e c) = if q : e.val < U then y (ix2 ⟨e.val, q⟩ c) else x (ix2 e c) := by
  have lands : ∀ j : (⟨2, ![U, C]⟩ : Shape).Idx, d.resultIdx? j idx = some (ix2 e c) → (j 0).val = e.val ∧ (j 1).val = c.val := fun j hj =>
    (lands2 d hiw huw idx h (j 0) (j 1) e c).1 ((congrArg (fun t => d.resultIdx? t idx) (eq_ix2 j).symm).trans hj)
  split
  · next q =>
    refine Routing.scatter_set_hit d x idx y _ _ (fun j hj => ?_) (ix2 ⟨e.val, q⟩ c) ((lands2 d hiw huw idx h _ _ e c).2 ⟨rfl, rfl⟩)
    rw [eq_ix2 j]
    exact congrArg₂ (fun s t => y (ix2 s t)) (Fin.ext (lands j hj).1) (Fin.ext (lands j hj).2)
  · next q =>
    exact Routing.scatter_set_miss d x idx y _ fun j hj => q ((lands j hj).1 ▸ (j 0).isLt)

end Cert.Bank

end
-- ==== Proof.KernelIdeal.Value.lean ====
/- The streaming call's three sums, in extended reals, as sums over the 48000 rows of the bank. -/
module

public import proofs.«01_k».proof.Proof.KernelIdeal.Final
public import proofs.«01_k».proof.Proof.KernelIdeal.Entry
public import proofs.«01_k».proof.Proof.Math
public import proofs.«01_k».proof.Proof.Scatter
public import Idealize.ShloMosaic.Lib.Pointwise

@[expose] public section

set_option maxRecDepth 16384

noncomputable section

namespace Cert.KernelIdeal.Value

open Idealize.ShloMosaic Idealize.ShloMosaic.TcCoe Idealize.ShloMosaic.Tactic Idealize.SL.Sem
open Cert.KernelIdeal Cert.KernelIdeal.Gen Cert.KernelIdeal.Stream Cert.Bank

/-- A row of the first block below row 256 is the source row `x`; every other row is the bank's, `y`. -/
theorem pick (i r : ℕ) (hi : i < 15) (hr : r < 3200) (x : r < 256 → EReal) (y : EReal) :
    Scalar.select (IntOp.andi (IntOp.cmpi CmpIPredicate.slt (BitVec.ofNat 32 r) 256#32) (Scalar.cmpi CmpIPredicate.eq (BitVec.ofNat 32 i) 0#32))
      (if h : r < 256 then x h else 0) y = if h : i = 0 ∧ r < 256 then x h.2 else y := by
  have e1 : IntOp.cmpi CmpIPredicate.slt (BitVec.ofNat 32 r) 256#32 = BitVec.ofBool (decide (r < 256)) := by
    show BitVec.ofBool (BitVec.slt _ _) = _
    rw [BitVec.slt_eq_decide, StableHlo.Predicate.toInt_ofNat_small _ (by omega), show (256#32 : BitVec 32).toInt = 256 by decide]
    congr 1
    simp only [decide_eq_decide]
    omega
  have e2 : Scalar.cmpi CmpIPredicate.eq (BitVec.ofNat 32 i) 0#32 = BitVec.ofBool (decide (i = 0)) := by
    show BitVec.ofBool (BitVec.ofNat 32 i == 0#32) = _
    congr 1
    rw [Bool.eq_iff_iff, beq_iff_eq, decide_eq_true_iff, ← BitVec.toNat_inj, BitVec.toNat_ofNat, BitVec.toNat_ofNat, Nat.mod_eq_of_lt (by omega), Nat.zero_mod]
  rw [e1, e2]
  by_cases h0 : i = 0 <;> by_cases h1 : r < 256
  · rw [dif_pos h1, dif_pos ⟨h0, h1⟩, decide_eq_true h0, decide_eq_true h1]; rfl
  · rw [dif_neg h1, dif_neg (fun h : i = 0 ∧ r < 256 => h1 h.2), decide_eq_true h0, decide_eq_false h1]; rfl
  · rw [dif_pos h1, dif_neg (fun h : i = 0 ∧ r < 256 => h0 h.1), decide_eq_false h0, decide_eq_true h1]; rfl
  · rw [dif_neg h1, dif_neg (fun h : i = 0 ∧ r < 256 => h1 h.2), decide_eq_false h0, decide_eq_false h1]; rfl

theorem pay5 (i : grid0.Coords) (q : Vec Ideal S3200x512 .f32) (s t : Vec Ideal S256x512 .f32) (b : Fin 256) (r : Fin 3200) :
    k0_pay5 i q s t (ix2 b r) = Ideal.div (∑ k, t (ix2 b k) * (if h : (i 0).val = 0 ∧ r.val < 256 then s (ix2 ⟨r.val, h.2⟩ k) else q (ix2 r k))) temp := by
  have hi : (i 0).val < 15 := (i 0).isLt
  have hr := r.isLt
  rw [← div_temp]
  pointwise [k0_pay5]
  refine congrArg₂ _ (Finset.sum_congr rfl fun k _ => congrArg _ ?_) rfl
  exact pick (i 0).val r.val hi hr _ _

theorem pay6 (i : grid0.Coords) (q : Vec Ideal S3200x512 .f32) (s t : Vec Ideal S256x512 .f32) (a : Vec Ideal S256x1 .f32) (b : Fin 256) :
    k0_pay6 i q s t a (ix2 b (0 : Fin 1)) = a (ix2 b (0 : Fin 1)) + ∑ r, Ideal.exp (k0_pay5 i q s t (ix2 b r)) := by
  unfold k0_pay6
  generalize k0_pay5 i q s t = L
  pointwise []

theorem pay7 (w : Vec Ideal S1x3200x1 .i32) (r : Fin 3200) (c : Fin 384) :
    k0_pay7 w (ix2 r c) = w (ix3 (0 : Fin 1) r (0 : Fin 1)) := by
  pointwise [k0_pay7]

theorem pay8 (w : Vec Ideal S1x3200x1 .i32) (r : Fin 3200) (c : Fin 384) :
    k0_pay8 (F := Ideal) (iota .tc S3200x384 32 [1] iota_S3200x384_d1_w32) (k0_pay7 w) (ix2 r c) = hit (w (ix3 (0 : Fin 1) r (0 : Fin 1))) c.val := by
  rw [← pay7 w r c]
  generalize k0_pay7 w = W
  pointwise [k0_pay8]
  exact sitofp_hit _ _

theorem pay9 (L : FVec Ideal S256x3200 .f32) (v w : IVec S3200x384 32) (a : Vec Ideal S256x384 .f32) (b : Fin 256) (c : Fin 384) :
    k0_pay9 (F := Ideal) L v w a (ix2 b c) = a (ix2 b c) + ∑ r, L (ix2 b r) * k0_pay8 (F := Ideal) v w (ix2 r c) := by
  unfold k0_pay9
  generalize k0_pay8 (F := Ideal) v w = H
  pointwise []

theorem pay10 (v w : IVec S3200x384 32) (a : Vec Ideal S1x384 .f32) (c : Fin 384) :
    k0_pay10 (F := Ideal) v w a (ix2 (0 : Fin 1) c) = a (ix2 (0 : Fin 1) c) + ∑ r, k0_pay8 (F := Ideal) v w (ix2 r c) := by
  unfold k0_pay10
  generalize k0_pay8 (F := Ideal) v w = H
  pointwise []

theorem pay2 (b : Fin 256) : k0_pay2 (F := Ideal) (ix2 b (0 : Fin 1)) = 0 := by
  pointwise [k0_pay2]
theorem pay3 (b : Fin 256) (c : Fin 384) : k0_pay3 (F := Ideal) (ix2 b c) = 0 := by
  pointwise [k0_pay3]
theorem pay4 (c : Fin 384) : k0_pay4 (F := Ideal) (ix2 (0 : Fin 1) c) = 0 := by
  pointwise [k0_pay4]

theorem normed (x : Vec Ideal S256x512 .f32) (b : Fin 256) (k : Fin 512) : Entry.normed x (ix2 b k) = unit (fun k => x (ix2 b k)) k := by
  pointwise [Entry.normed]
  rfl

/-- The bank's labels with the source rows' in front. -/
def label (s : Vec Ideal S256 .i32) (q : Vec Ideal S48000 .i32) (j : Fin 48000) : BitVec 32 :=
  if h : j.val < 256 then s (ix1 ⟨j.val, h⟩) else q (ix1 j)

theorem labels (q : Vec Ideal S48000 .i32) (s : Vec Ideal S256 .i32) (j : Fin 48000) : Entry.labels (F := Ideal) q s (ix1 j) = label s q j := by
  unfold Entry.labels label
  exact scatter1 _ rfl _ _ (fun z => by pointwise []) _ _

/-- Target row `b`. -/
def target (f : Vec Ideal S512x512 .f32) (b : Fin 256) (k : Fin 512) : EReal := f (ix2 (⟨256 + b.val, by omega⟩ : Fin 512) k)

/-- The bank's rows with the source rows in front. -/
def bank (f : Vec Ideal S512x512 .f32) (q : Vec Ideal S48000x512 .f32) (j : Fin 48000) (k : Fin 512) : EReal :=
  if h : j.val < 256 then f (ix2 (⟨j.val, by omega⟩ : Fin 512) k) else q (ix2 j k)

theorem unit_bank (f : Vec Ideal S512x512 .f32) (q : Vec Ideal S48000x512 .f32) (hq : ∀ j : Fin 48000, 256 ≤ j.val → (∑ k, q (ix2 j k) * q (ix2 j k)) = 1)
    (j : Fin 48000) (k : Fin 512) :
    unit (bank f q j) k = if h : j.val < 256 then unit (fun k => f (ix2 (⟨j.val, by omega⟩ : Fin 512) k)) k else q (ix2 j k) := by
  split
  · next h =>
    have e : bank f q j = fun k => f (ix2 (⟨j.val, by omega⟩ : Fin 512) k) := by
      funext k; unfold bank; rw [dif_pos h]
    rw [e]
  · next h =>
    have e : bank f q j = fun k => q (ix2 j k) := by
      funext k; unfold bank; rw [dif_neg h]
    rw [e]
    exact unit_of_one _ (hq j (by omega)) k

section
variable (m : (ℓ : Loc nD τ sig) → Buf (Elt Ideal) ℓ) (c : Dev nD)

abbrev feats : Vec Ideal S512x512 .f32 := m ((c : Thread nD τ).loc main_arg0)
abbrev slabels : Vec Ideal S256 .i32 := m ((c : Thread nD τ).loc main_arg1)
abbrev queue : Vec Ideal S48000x512 .f32 := m ((c : Thread nD τ).loc main_arg3)
abbrev qlabels : Vec Ideal S48000 .i32 := m ((c : Thread nD τ).loc main_arg4)

theorem block_target (t : Fin cfg0.N) (b : Fin 256) (k : Fin 512) :
    (iblk (Ve0 m) c 0 t : Vec Ideal S256x512 .f32) (ix2 b k) = unit (target (feats m c) b) k := by
  rw [block_0, Entry.V_v17]
  refine (normed _ b k).trans ?_
  congr 1
  funext k
  pointwise [target]

theorem block_source (t : Fin cfg0.N) (b : Fin 256) (k : Fin 512) :
    (iblk (Ve0 m) c 1 t : Vec Ideal S256x512 .f32) (ix2 b k) = unit (fun k => feats m c (ix2 (⟨b.val, by omega⟩ : Fin 512) k)) k := by
  rw [block_1, Entry.V_v8]
  refine (normed _ b k).trans ?_
  congr 1
  funext k
  pointwise []

theorem block_label (t : Fin cfg0.N) (r : Fin 3200) :
    (iblk (Ve0 m) c 4 t : Vec Ideal S1x3200x1 .i32) (ix3 (0 : Fin 1) r (0 : Fin 1)) = label (slabels m c) (qlabels m c) ⟨t.val * 3200 + r.val, col_lt t r⟩ := by
  rw [block_4, Entry.V_v21, ← labels]
  pointwise []

theorem coords_0 : ∀ t : Fin cfg0.N, (grid0.coords t 0).val = t.val := by decide +kernel

variable (hq : ∀ j : Fin 48000, 256 ≤ j.val → (∑ k, queue m c (ix2 j k) * queue m c (ix2 j k)) = 1)
include hq

/-- One entry of a block's logits. -/
theorem block_logit (t : Fin cfg0.N) (b : Fin 256) (r : Fin 3200) :
    k0_pay5 (grid0.coords t) (iblk (Ve0 m) c 2 t) (iblk (Ve0 m) c 1 t) (iblk (Ve0 m) c 0 t) (ix2 b r)
      = logit (target (feats m c) b) (bank (feats m c) (queue m c) ⟨t.val * 3200 + r.val, col_lt t r⟩) := by
  rw [pay5]
  unfold logit
  congr 1
  refine Finset.sum_congr rfl fun k _ => ?_
  rw [block_target, unit_bank _ _ hq]
  congr 1
  have hr := r.isLt
  by_cases h : t.val * 3200 + r.val < 256
  · rw [dif_pos (show (⟨t.val * 3200 + r.val, col_lt t r⟩ : Fin 48000).val < 256 from h), dif_pos ⟨(coords_0 t).trans (by omega), by omega⟩, block_source]
    congr 2
    funext k
    congr 2
    apply Fin.ext
    show r.val = t.val * 3200 + r.val
    omega
  · rw [dif_neg (show ¬ (⟨t.val * 3200 + r.val, col_lt t r⟩ : Fin 48000).val < 256 from h), dif_neg fun q => h (by have := (coords_0 t).symm.trans q.1; omega), block_2, Entry.V_main_arg3]

theorem sum_exp (b : Fin 256) :
    (stateAt (Ve0 m) c 15).2.1 (ix2 b (0 : Fin 1)) = ∑ j, Ideal.exp (logit (target (feats m c) b) (bank (feats m c) (queue m c) j)) := by
  refine sum_blocks (fun n => (stateAt (Ve0 m) c n).2.1 (ix2 b (0 : Fin 1))) _ (pay2 b) fun t => ?_
  obtain ⟨t, rfl⟩ : ∃ u : Fin cfg0.N, t = ⟨u.val, lt_of_lt_of_eq u.isLt N_0⟩ := ⟨⟨t.val, lt_of_lt_of_eq t.isLt N_0.symm⟩, rfl⟩
  show (stateAt (Ve0 m) c (t.val + 1)).2.1 (ix2 b (0 : Fin 1)) = _
  rw [stateAt_succ]
  refine (pay6 _ _ _ _ _ b).trans ?_
  refine congrArg₂ _ rfl (Finset.sum_congr rfl fun r _ => ?_)
  rw [block_logit m c hq t b r]

theorem sum_class (b : Fin 256) (n : Fin 384) :
    (stateAt (Ve0 m) c 15).2.2.1 (ix2 b n)
      = ∑ j, logit (target (feats m c) b) (bank (feats m c) (queue m c) j) * hit (label (slabels m c) (qlabels m c) j) n.val := by
  refine sum_blocks (fun k => (stateAt (Ve0 m) c k).2.2.1 (ix2 b n)) _ (pay3 b n) fun t => ?_
  obtain ⟨t, rfl⟩ : ∃ u : Fin cfg0.N, t = ⟨u.val, lt_of_lt_of_eq u.isLt N_0⟩ := ⟨⟨t.val, lt_of_lt_of_eq t.isLt N_0.symm⟩, rfl⟩
  show (stateAt (Ve0 m) c (t.val + 1)).2.2.1 (ix2 b n) = _
  rw [stateAt_succ]
  refine (pay9 _ _ _ _ b n).trans ?_
  refine congrArg₂ _ rfl (Finset.sum_congr rfl fun r _ => ?_)
  rw [block_logit m c hq t b r, pay8, block_label]

omit hq in
theorem sum_count (n : Fin 384) :
    (stateAt (Ve0 m) c 15).2.2.2 (ix2 (0 : Fin 1) n) = ∑ j, hit (label (slabels m c) (qlabels m c) j) n.val := by
  refine sum_blocks (fun k => (stateAt (Ve0 m) c k).2.2.2 (ix2 (0 : Fin 1) n)) _ (pay4 n) fun t => ?_
  obtain ⟨t, rfl⟩ : ∃ u : Fin cfg0.N, t = ⟨u.val, lt_of_lt_of_eq u.isLt N_0⟩ := ⟨⟨t.val, lt_of_lt_of_eq t.isLt N_0.symm⟩, rfl⟩
  show (stateAt (Ve0 m) c (t.val + 1)).2.2.2 (ix2 (0 : Fin 1) n) = _
  rw [stateAt_succ]
  refine (pay10 _ _ _ n).trans ?_
  refine congrArg₂ _ rfl (Finset.sum_congr rfl fun r _ => ?_)
  rw [pay8, block_label]

end

end Cert.KernelIdeal.Value

end
-- ==== Proof.Keys.lean ====
/- Kept keys: of each block the two greatest, of those the five greatest, told by how many keys reach a threshold. -/
module

public import Idealize.ShloMosaic.Lib.SortNet.Extract

@[expose] public section

namespace Cert.Keys

open Idealize.ShloMosaic Idealize.ShloMosaic.SortNet

/-- How many of the first `n` keys reach `θ`. -/
def count (x : ℕ → BitVec 32) (θ : ℤ) (n : ℕ) : ℕ := ∑ c ∈ Finset.range n, if θ ≤ (x c).toInt then 1 else 0

theorem count_succ (x : ℕ → BitVec 32) (θ : ℤ) (n : ℕ) :
    count x θ (n + 1) = count x θ n + if θ ≤ (x n).toInt then 1 else 0 := Finset.sum_range_succ _ _

/-- The two greatest of the first `n + 2` keys. -/
def pair (x : ℕ → BitVec 32) : ℕ → BitVec 32 × BitVec 32
  | 0 => (IntOp.maxsi (x 0) (x 1), IntOp.minsi (x 0) (x 1))
  | n + 1 => (IntOp.maxsi (pair x n).1 (x (n + 2)), IntOp.maxsi (pair x n).2 (IntOp.minsi (pair x n).1 (x (n + 2))))

theorem pair_iff (x : ℕ → BitVec 32) (θ : ℤ) : ∀ n,
    (θ ≤ (pair x n).1.toInt ↔ 1 ≤ count x θ (n + 2)) ∧ (θ ≤ (pair x n).2.toInt ↔ 2 ≤ count x θ (n + 2))
  | 0 => by
    rw [count_succ, count_succ]
    simp only [pair, toInt_maxsi, toInt_minsi, le_max_iff, le_min_iff, count, Finset.range_zero, Finset.sum_empty]
    by_cases h0 : θ ≤ (x 0).toInt <;> by_cases h1 : θ ≤ (x 1).toInt <;> simp [h0, h1]
  | n + 1 => by
    obtain ⟨h1, h2⟩ := pair_iff x θ n
    rw [count_succ]
    simp only [pair, toInt_maxsi, toInt_minsi, le_max_iff, le_min_iff, h1, h2]
    by_cases h : θ ≤ (x (n + 2)).toInt <;> simp only [h, if_true, if_false, iff_true, iff_false, and_true, and_false, or_true, or_false] <;>
      constructor <;> constructor <;> intro _ <;> first | omega | trivial

/-- Two keys put into a descending list of five. -/
def push (r : Fin 5 → BitVec 32) (a b : BitVec 32) : Fin 5 → BitVec 32 :=
  let t1 := IntOp.minsi (r 0) a
  let t2 := IntOp.minsi (r 1) t1
  let t3 := IntOp.minsi (r 2) t2
  let t4 := IntOp.minsi (r 3) t3
  let q1 := IntOp.maxsi (r 1) t1
  let q2 := IntOp.maxsi (r 2) t2
  let q3 := IntOp.maxsi (r 3) t3
  let q4 := IntOp.maxsi (r 4) t4
  let u2 := IntOp.minsi q1 b
  let u3 := IntOp.minsi q2 u2
  let u4 := IntOp.minsi q3 u3
  ![IntOp.maxsi (r 0) a, IntOp.maxsi q1 b, IntOp.maxsi q2 u2, IntOp.maxsi q3 u3, IntOp.maxsi q4 u4]

theorem push_iff (r : Fin 5 → BitVec 32) (a b : BitVec 32) (θ : ℤ) (N n : ℕ) (hr : ∀ j : Fin 5, θ ≤ (r j).toInt ↔ j.val < N)
    (ha : θ ≤ a.toInt ↔ 1 ≤ n) (hb : θ ≤ b.toInt ↔ 2 ≤ n) (j : Fin 5) : θ ≤ (push r a b j).toInt ↔ j.val < N + min 2 n := by
  have h0 := hr 0
  have h1 := hr 1
  have h2 := hr 2
  have h3 := hr 3
  have h4 := hr 4
  simp only [Fin.val_zero, Fin.val_one, Fin.val_two, show ((3 : Fin 5).val) = 3 from rfl, show ((4 : Fin 5).val) = 4 from rfl] at h0 h1 h2 h3 h4
  match j with
  | 0 => simp only [push, Matrix.cons_val, toInt_maxsi, toInt_minsi, le_max_iff, le_min_iff, h0, ha]; show _ ↔ 0 < _; omega
  | 1 => simp only [push, Matrix.cons_val, toInt_maxsi, toInt_minsi, le_max_iff, le_min_iff, h0, h1, ha, hb]; show _ ↔ 1 < _; omega
  | 2 => simp only [push, Matrix.cons_val, toInt_maxsi, toInt_minsi, le_max_iff, le_min_iff, h0, h1, h2, ha, hb]; show _ ↔ 2 < _; omega
  | 3 => simp only [push, Matrix.cons_val, toInt_maxsi, toInt_minsi, le_max_iff, le_min_iff, h0, h1, h2, h3, ha, hb]; show _ ↔ 3 < _; omega
  | 4 => simp only [push, Matrix.cons_val, toInt_maxsi, toInt_minsi, le_max_iff, le_min_iff, h0, h1, h2, h3, h4, ha, hb]; show _ ↔ 4 < _; omega

/-- The list after `n` blocks, from a list that no threshold of interest reaches: its `j`-th entry reaches `θ` exactly
    when more than `j` keys do, of each block two at most counted. -/
theorem kept (R : ℕ → Fin 5 → BitVec 32) (x : ℕ → ℕ → BitVec 32) (θ : ℤ) (h0 : ∀ j, ¬ θ ≤ (R 0 j).toInt) (N : ℕ)
    (hs : ∀ n, n < N → R (n + 1) = push (R n) (pair (x n) 23).1 (pair (x n) 23).2) (j : Fin 5) :
    θ ≤ (R N j).toInt ↔ j.val < ∑ n ∈ Finset.range N, min 2 (count (x n) θ 25) := by
  induction N generalizing j with
  | zero => simp [h0 j]
  | succ N ih =>
    rw [hs N (Nat.lt_succ_self N), Finset.sum_range_succ]
    exact push_iff _ _ _ θ _ _ (ih fun n h => hs n (Nat.lt_succ_of_lt h)) (pair_iff (x N) θ 23).1 (pair_iff (x N) θ 23).2 j

end Cert.Keys

end
-- ==== Proof.Word.lean ====
/- The key a logit and its label make: the logit's word (its binade and mantissa) with the label in the low bits.
   Keys of logits far enough apart are in the logits' order. -/
module

public import Idealize.ShloMosaic.Lib.Pointwise
public import Idealize.ShloMosaic.Lib.IdealHost

@[expose] public section

noncomputable section

namespace Cert.Word

open Idealize.ShloMosaic

/-- The binade of a real in [1, 32). -/
def binade (x : ℝ) : ℕ := if 16 ≤ x then 4 else if 8 ≤ x then 3 else if 4 ≤ x then 2 else if 2 ≤ x then 1 else 0

theorem binade_lt {x : ℝ} (h1 : 1 ≤ x) (h2 : x < 32) : binade x ≤ 4 ∧ (2 : ℝ) ^ binade x ≤ x ∧ x < 2 ^ (binade x + 1) := by
  unfold binade
  split_ifs <;> refine ⟨by omega, ?_, ?_⟩ <;> norm_num <;> linarith

/-- The mantissa with its leading bit. -/
def mant (x : ℝ) : ℕ := ⌊x * 2 ^ (23 - binade x)⌋₊

theorem mant_bounds {x : ℝ} (h1 : 1 ≤ x) (h2 : x < 32) : 2 ^ 23 ≤ mant x ∧ mant x < 2 ^ 24 := by
  obtain ⟨hb, hl, hu⟩ := binade_lt h1 h2
  have hp : (0 : ℝ) < 2 ^ (23 - binade x) := by positivity
  refine ⟨Nat.le_floor ?_, (Nat.floor_lt (by positivity)).2 ?_⟩
  · have := mul_le_mul_of_nonneg_right hl hp.le
    rw [← pow_add, show binade x + (23 - binade x) = 23 by omega] at this
    exact_mod_cast this
  · have := mul_lt_mul_of_pos_right hu hp
    rw [← pow_add, show binade x + 1 + (23 - binade x) = 24 by omega] at this
    exact_mod_cast this

/-- The word of a real in [1, 32). -/
def word (x : ℝ) : ℕ := (binade x + 126) * 2 ^ 23 + mant x

theorem word_lt {x : ℝ} (h1 : 1 ≤ x) (h2 : x < 32) : word x < 2 ^ 30 + 2 ^ 29 := by
  have := (mant_bounds h1 h2).2
  have := (binade_lt h1 h2).1
  unfold word
  omega

theorem binade_mono {x y : ℝ} (h : y ≤ x) : binade y ≤ binade x := by
  unfold binade
  split_ifs <;> first | omega | (exfalso; linarith)

/-- Reals 2⁻¹⁰ apart have words apart above the nine low bits. -/
theorem word_apart {x y : ℝ} (hy : 1 ≤ y) (hx : x < 32) (h : y + 1 / 1024 ≤ x) : word y / 512 < word x / 512 := by
  have hm := binade_mono (show y ≤ x by linarith)
  have bx := mant_bounds (show 1 ≤ x by linarith) hx
  have bY := mant_bounds hy (show y < 32 by linarith)
  have hb := (binade_lt (show 1 ≤ x by linarith) hx).1
  rcases hm.lt_or_eq with hlt | heq
  · unfold word
    omega
  · have hmm : mant y + 512 ≤ mant x := by
      refine Nat.le_floor ?_
      have hf : (mant y : ℝ) ≤ y * 2 ^ (23 - binade y) := Nat.floor_le (by positivity)
      have hp : (2 : ℝ) ^ 19 ≤ 2 ^ (23 - binade x) := pow_le_pow_right₀ (by norm_num) (by omega)
      rw [heq] at hf
      push_cast
      nlinarith [mul_le_mul_of_nonneg_right h (show (0 : ℝ) ≤ 2 ^ (23 - binade x) by positivity)]
    unfold word
    rw [heq]
    omega

/-- The key of a logit raised by 16, `x`, and its label. -/
def key (x : EReal) (w : BitVec 32) : BitVec 32 :=
  IntOp.ori (IntOp.andi
    (IntOp.addi
      (IntOp.shli ArithUnit.vector
        (IntOp.addi (IntOp.addi (IntOp.addi (IntOp.addi
          (BitVec.setWidth 32 (BitVec.ofBool (decide (Ideal.ofBits FTy.f32 1073741824#32 ≤ x))))
          (BitVec.setWidth 32 (BitVec.ofBool (decide (Ideal.ofBits FTy.f32 1082130432#32 ≤ x)))))
          (BitVec.setWidth 32 (BitVec.ofBool (decide (Ideal.ofBits FTy.f32 1090519040#32 ≤ x)))))
          (BitVec.setWidth 32 (BitVec.ofBool (decide (Ideal.ofBits FTy.f32 1098907648#32 ≤ x))))) 126#32) 23#32)
      (Ideal.fptosi 32 (x *
        if Ideal.ofBits FTy.f32 1098907648#32 ≤ x then Ideal.ofBits FTy.f32 1224736768#32
        else if Ideal.ofBits FTy.f32 1090519040#32 ≤ x then Ideal.ofBits FTy.f32 1233125376#32
        else if Ideal.ofBits FTy.f32 1082130432#32 ≤ x then Ideal.ofBits FTy.f32 1241513984#32
        else if Ideal.ofBits FTy.f32 1073741824#32 ≤ x then Ideal.ofBits FTy.f32 1249902592#32
        else Ideal.ofBits FTy.f32 1258291200#32)))
    4294966784#32) (IntOp.subi 511#32 w)

theorem power (w : BitVec 32) (e : ℕ) (h1 : (w.extractLsb' (8 + 23) 1 == 1#1) = false) (h2 : (w.extractLsb' 23 8).toNat = 127 + e) (h3 : (w.extractLsb' 0 23).toNat = 0)
    (he : e ≤ 23) : Ideal.ofBits .f32 w = ((2 ^ e : ℝ) : EReal) := by
  show Ideal.ieee 8 23 w = _
  simp only [Ideal.ieee]
  rw [h1, h2, h3]
  interval_cases e <;> norm_num

theorem c1 : Ideal.ofBits .f32 1073741824#32 = ((2 : ℝ) : EReal) := by rw [power _ 1 (by decide) (by decide) (by decide) (by decide)]; norm_num
theorem c2 : Ideal.ofBits .f32 1082130432#32 = ((4 : ℝ) : EReal) := by rw [power _ 2 (by decide) (by decide) (by decide) (by decide)]; norm_num
theorem c3 : Ideal.ofBits .f32 1090519040#32 = ((8 : ℝ) : EReal) := by rw [power _ 3 (by decide) (by decide) (by decide) (by decide)]; norm_num
theorem c4 : Ideal.ofBits .f32 1098907648#32 = ((16 : ℝ) : EReal) := by rw [power _ 4 (by decide) (by decide) (by decide) (by decide)]; norm_num
theorem s4 : Ideal.ofBits .f32 1224736768#32 = ((2 ^ 19 : ℝ) : EReal) := power _ 19 (by decide) (by decide) (by decide) (by decide)
theorem s3 : Ideal.ofBits .f32 1233125376#32 = ((2 ^ 20 : ℝ) : EReal) := power _ 20 (by decide) (by decide) (by decide) (by decide)
theorem s2 : Ideal.ofBits .f32 1241513984#32 = ((2 ^ 21 : ℝ) : EReal) := power _ 21 (by decide) (by decide) (by decide) (by decide)
theorem s1 : Ideal.ofBits .f32 1249902592#32 = ((2 ^ 22 : ℝ) : EReal) := power _ 22 (by decide) (by decide) (by decide) (by decide)
theorem s0 : Ideal.ofBits .f32 1258291200#32 = ((2 ^ 23 : ℝ) : EReal) := power _ 23 (by decide) (by decide) (by decide) (by decide)

theorem low (n : BitVec 32) (l : BitVec 32) (hl : l.toNat < 345) (hn : n.toNat < 2 ^ 31) :
    (IntOp.ori (IntOp.andi n 4294966784#32) (IntOp.subi 511#32 l)).toInt = 512 * ((n.toNat / 512 : ℕ) : ℤ) + (511 - l.toNat) := by
  have hs : (511#32 - l).toNat = 511 - l.toNat := by
    rw [BitVec.toNat_sub]; simp only [BitVec.toNat_ofNat]; omega
  have ha : (n &&& 4294966784#32) = (n >>> 9) <<< 9 := by
    ext i hi
    have : ∀ i < 32, (4294966784#32 : BitVec 32).getLsbD i = decide (9 ≤ i) := by decide
    simp only [BitVec.getElem_and, BitVec.getElem_shiftLeft, BitVec.getLsbD_ushiftRight]
    rw [← BitVec.getLsbD_eq_getElem, ← BitVec.getLsbD_eq_getElem, this i hi]
    by_cases h9 : i < 9
    · simp [h9]
    · simp [h9, show 9 ≤ i by omega, show 9 + (i - 9) = i by omega]
  have ho : (IntOp.ori (IntOp.andi n 4294966784#32) (IntOp.subi 511#32 l)).toNat = 512 * (n.toNat / 512) + (511 - l.toNat) := by
    show ((n &&& 4294966784#32) ||| (511#32 - l)).toNat = _
    rw [ha, BitVec.toNat_or, BitVec.toNat_shiftLeft, BitVec.toNat_ushiftRight, hs, Nat.shiftRight_eq_div_pow]
    rw [Nat.mod_eq_of_lt (by rw [Nat.shiftLeft_eq]; omega), ← Nat.shiftLeft_add_eq_or_of_lt (show 511 - l.toNat < 2 ^ 9 by omega), Nat.shiftLeft_eq]
    omega
  rw [BitVec.toInt_eq_toNat_of_lt (by rw [ho]; omega), ho]
  omega

theorem key_toInt {x : ℝ} (h1 : 1 ≤ x) (h2 : x < 32) (l : BitVec 32) (hl : l.toNat < 345) :
    (key (x : EReal) l).toInt = 512 * ((word x / 512 : ℕ) : ℤ) + (511 - l.toNat) := by
  have hm := mant_bounds h1 h2
  have hw := word_lt h1 h2
  have fp : Ideal.fptosi 32 ((x * 2 ^ (23 - binade x) : ℝ) : EReal) = BitVec.ofNat 32 (mant x) := by
    have hnn : (0 : ℝ) ≤ x * 2 ^ (23 - binade x) := by positivity
    show BitVec.ofInt 32 (max _ (min _ (if 0 ≤ x * 2 ^ (23 - binade x) then _ else _))) = _
    rw [if_pos hnn, ← Int.natCast_floor_eq_floor hnn]
    show BitVec.ofInt 32 (max _ (min _ ((mant x : ℕ) : ℤ))) = _
    rw [min_eq_right (by norm_num; omega), max_eq_right (by norm_num <;> omega), BitVec.ofInt_natCast]
  have hk : ∀ e : ℕ, e ≤ 4 → e = binade x → (IntOp.addi (IntOp.shli ArithUnit.vector (BitVec.ofNat 32 (e + 126)) 23#32) (BitVec.ofNat 32 (mant x))).toNat = word x := by
    intro e he hbe
    have : IntOp.shli ArithUnit.vector (BitVec.ofNat 32 (e + 126)) 23#32 = BitVec.ofNat 32 ((e + 126) * 2 ^ 23) := by
      interval_cases e <;> decide
    rw [this]
    show (_ + _ : BitVec 32).toNat = _
    rw [← BitVec.ofNat_add, BitVec.toNat_ofNat, hbe]
    unfold word at hw ⊢
    omega
  rw [← hk (binade x) (binade_lt h1 h2).1 rfl]
  rw [← low _ l hl (by rw [hk (binade x) (binade_lt h1 h2).1 rfl]; omega)]
  rw [← fp]
  unfold key binade
  simp only [c1, c2, c3, c4, s0, s1, s2, s3, s4, EReal.coe_le_coe_iff]
  split_ifs with a b d e
  · simp only [show (8:ℝ) ≤ x by linarith, show (4:ℝ) ≤ x by linarith, show (2:ℝ) ≤ x by linarith, a, decide_true, EReal.coe_mul]; rfl
  · simp only [show (4:ℝ) ≤ x by linarith, show (2:ℝ) ≤ x by linarith, a, b, decide_true, decide_false, EReal.coe_mul]; rfl
  · simp only [show (2:ℝ) ≤ x by linarith, a, b, d, decide_true, decide_false, EReal.coe_mul]; rfl
  · simp only [a, b, d, e, decide_true, decide_false, EReal.coe_mul]; rfl
  · simp only [a, b, d, e, decide_true, decide_false, EReal.coe_mul]; rfl

end Cert.Word
-- ==== Proof.Near.lean ====
/- Which keys are kept, and which columns are near, apart from any program. -/
module

public import proofs.«01_k».proof.Proof.Keys
public import Mathlib.Algebra.Order.BigOperators.Group.Finset

@[expose] public section

noncomputable section

namespace Cert.Near

open Idealize.ShloMosaic Cert.Keys

/-- The bank's row of block `n`, chunk `c`, lane `l`. -/
def col (n c l : ℕ) : ℕ := n * 3200 + c * 128 + l

/-- Where the five greatest keys are far from the rest, and at most two of them fall in one lane of a block, the lists
kept per lane hold each of them, and above the fifth nothing else. -/
theorem lists (X : ℕ → BitVec 32) (a : Fin 5 → ℕ) (ha : ∀ i, a i < 48000)
    (hX : ∀ i j, i < j → (X (a j)).toInt < (X (a i)).toInt)
    (ho : ∀ c, c < 48000 → (∀ i, c ≠ a i) → (X c).toInt < (X (a 4)).toInt)
    (M : Fin 5 → Fin 128 → BitVec 32)
    (hM : ∀ θ : ℤ, (X (a 4)).toInt ≤ θ → ∀ j (l : Fin 128), θ ≤ (M j l).toInt ↔ j.val < ∑ n ∈ Finset.range 15, min 2 (count (fun c => X (col n c l)) θ 25))
    (hs : ∀ n < 15, ∀ l < 128, count (fun c => X (col n c l)) (X (a 4)).toInt 25 ≤ 2) :
    (∀ i, ∃ j l, M j l = X (a i)) ∧ ∀ j l, (X (a 4)).toInt ≤ (M j l).toInt → ∃ i, M j l = X (a i) := by
  have h4 : ∀ i, (X (a 4)).toInt ≤ (X (a i)).toInt := by
    intro i
    rcases (show i ≤ 4 by omega).lt_or_eq with h | h
    · exact (hX _ _ h).le
    · rw [h]
  have mono : ∀ (x : ℕ → BitVec 32) (θ θ' : ℤ) (n : ℕ), θ ≤ θ' → count x θ' n ≤ count x θ n := by
    intro x θ θ' n h
    refine Finset.sum_le_sum fun c _ => ?_
    split_ifs <;> omega
  constructor
  · intro i
    obtain ⟨n0, c0, l0, hn, hc, hl, he⟩ : ∃ n c l, n < 15 ∧ c < 25 ∧ l < 128 ∧ col n c l = a i :=
      ⟨a i / 3200, a i % 3200 / 128, a i % 128, by have := ha i; omega, by omega, by omega, by unfold col; omega⟩
    have other : ∀ n c, n < 15 → c < 25 → (n ≠ n0 ∨ c ≠ c0) → ((X (a i)).toInt ≤ (X (col n c l0)).toInt ↔ (X (a i)).toInt + 1 ≤ (X (col n c l0)).toInt) := by
      intro n c h1 h2 h3
      constructor
      · intro h
        by_contra hne
        have e : (X (col n c l0)).toInt = (X (a i)).toInt := by omega
        by_cases hh : ∃ k, col n c l0 = a k
        · obtain ⟨k, hk⟩ := hh
          rw [hk] at e
          have : k = i := by
            rcases lt_trichotomy k i with g | g | g
            · have := hX _ _ g; omega
            · exact g
            · have := hX _ _ g; omega
          rw [this, ← he] at hk
          unfold col at hk
          omega
        · push Not at hh
          have := ho _ (by unfold col; omega) hh
          have := h4 i
          omega
      · intro h; omega
    have sum : (∑ n ∈ Finset.range 15, min 2 (count (fun c => X (col n c l0)) (X (a i)).toInt 25)) =
        (∑ n ∈ Finset.range 15, min 2 (count (fun c => X (col n c l0)) ((X (a i)).toInt + 1) 25)) + 1 := by
      rw [← Finset.add_sum_erase _ _ (Finset.mem_range.2 hn), ← Finset.add_sum_erase (a := n0) (Finset.range 15) (fun n => min 2 (count (fun c => X (col n c l0)) ((X (a i)).toInt + 1) 25)) (Finset.mem_range.2 hn)]
      have e1 : count (fun c => X (col n0 c l0)) (X (a i)).toInt 25 = count (fun c => X (col n0 c l0)) ((X (a i)).toInt + 1) 25 + 1 := by
        unfold count
        rw [← Finset.add_sum_erase _ _ (Finset.mem_range.2 hc), ← Finset.add_sum_erase (a := c0) (Finset.range 25) (fun c => if (X (a i)).toInt + 1 ≤ (X (col n0 c l0)).toInt then 1 else 0) (Finset.mem_range.2 hc)]
        have e0 : (∑ c ∈ (Finset.range 25).erase c0, if (X (a i)).toInt ≤ (X (col n0 c l0)).toInt then 1 else 0) =
            ∑ c ∈ (Finset.range 25).erase c0, if (X (a i)).toInt + 1 ≤ (X (col n0 c l0)).toInt then 1 else 0 := by
          refine Finset.sum_congr rfl fun c hc' => ?_
          rw [Finset.mem_erase, Finset.mem_range] at hc'
          simp only [other n0 c hn hc'.2 (.inr hc'.1)]
        simp only [he]
        rw [e0, if_pos le_rfl, if_neg (by omega)]
        omega
      have e2 : (∑ n ∈ (Finset.range 15).erase n0, min 2 (count (fun c => X (col n c l0)) (X (a i)).toInt 25)) =
          ∑ n ∈ (Finset.range 15).erase n0, min 2 (count (fun c => X (col n c l0)) ((X (a i)).toInt + 1) 25) := by
        refine Finset.sum_congr rfl fun n hn' => ?_
        rw [Finset.mem_erase, Finset.mem_range] at hn'
        refine congrArg (min 2) (Finset.sum_congr rfl fun c hc' => ?_)
        simp only [other n c hn'.2 (Finset.mem_range.1 hc') (.inl hn'.1)]
      have e3 : count (fun c => X (col n0 c l0)) (X (a i)).toInt 25 ≤ 2 := (mono _ _ _ _ (h4 i)).trans (hs n0 hn l0 hl)
      rw [e2]
      omega
    have five : (∑ n ∈ Finset.range 15, min 2 (count (fun c => X (col n c l0)) (X (a i)).toInt 25)) ≤ 5 := by
      have one : ∀ k : Fin 5, (∑ n ∈ Finset.range 15, ∑ c ∈ Finset.range 25, if col n c l0 = a k then 1 else 0) ≤ 1 := by
        intro k
        rw [← Finset.sum_product']
        rw [← Finset.card_filter]
        refine Finset.card_le_one.2 fun p hp q hq => ?_
        simp only [Finset.mem_filter, Finset.mem_product, Finset.mem_range] at hp hq
        have := hp.2.trans hq.2.symm
        unfold col at this
        exact Prod.ext (by omega) (by omega)
      have all : (∑ n ∈ Finset.range 15, min 2 (count (fun c => X (col n c l0)) (X (a i)).toInt 25)) ≤
          ∑ k : Fin 5, ∑ n ∈ Finset.range 15, ∑ c ∈ Finset.range 25, if col n c l0 = a k then 1 else 0 := by
        rw [Finset.sum_comm]
        refine Finset.sum_le_sum fun n hn' => (min_le_right _ _).trans ?_
        rw [Finset.sum_comm]
        refine Finset.sum_le_sum fun c hc' => ?_
        split_ifs with h
        · by_cases hh : ∃ k, col n c l0 = a k
          · obtain ⟨k, hk⟩ := hh
            exact (by rw [if_pos hk] : 1 ≤ if col n c l0 = a k then 1 else 0).trans (Finset.single_le_sum (f := fun k => if col n c l0 = a k then 1 else 0) (fun _ _ => Nat.zero_le _) (Finset.mem_univ k))
          · push Not at hh
            rw [Finset.mem_range] at hn' hc'
            have := ho _ (by unfold col; omega) hh
            have := h4 i
            have h' : (X (a i)).toInt ≤ (X (col n c l0)).toInt := h
            omega
        · exact Nat.zero_le _
      exact all.trans ((Finset.sum_le_sum fun k _ => one k).trans (by simp))
    refine ⟨⟨_, (show (∑ n ∈ Finset.range 15, min 2 (count (fun c => X (col n c l0)) ((X (a i)).toInt + 1) 25)) < 5 by omega)⟩, ⟨l0, hl⟩, ?_⟩
    refine BitVec.eq_of_toInt_eq (le_antisymm (not_lt.1 fun h => ?_) ?_)
    · have := (hM _ (by have := h4 i; omega) _ _).1 (show (X (a i)).toInt + 1 ≤ _ from h)
      exact lt_irrefl _ this
    · refine (hM _ (h4 i) _ _).2 ?_
      show _ < ∑ n ∈ Finset.range 15, min 2 (count (fun c => X (col n c l0)) (X (a i)).toInt 25)
      rw [sum]
      exact Nat.lt_succ_self _
  · intro j l h
    by_contra hno
    push Not at hno
    have g1 := (hM _ h j l).1 le_rfl
    have g2 : ¬ (M j l).toInt + 1 ≤ (M j l).toInt := by omega
    rw [hM ((M j l).toInt + 1) (by omega)] at g2
    refine g2 (lt_of_lt_of_le g1 (le_of_eq ?_))
    refine Finset.sum_congr rfl fun n hn => congrArg (min 2) (Finset.sum_congr rfl fun c hc => ?_)
    rw [Finset.mem_range] at hn hc
    refine if_congr (?_ : _ ≤ (X (col n c l)).toInt ↔ _ ≤ (X (col n c l)).toInt) rfl rfl
    refine ⟨fun g => ?_, fun g => by omega⟩
    by_contra hne
    have e : X (col n c l) = M j l := BitVec.eq_of_toInt_eq (by omega)
    by_cases hh : ∃ k, col n c l = a k
    · obtain ⟨k, hk⟩ := hh
      exact hno k (by rw [← e, hk])
    · push Not at hh
      have := ho _ (by unfold col; have := l.isLt; omega) hh
      rw [e] at this
      omega

/-- Taking the greatest five times, each time striking it out, gives the five greatest in order. -/
theorem rounds {n : ℕ} (M : ℕ → Fin n → BitVec 32) (m : ℕ → BitVec 32) (K : Fin 5 → BitVec 32)
    (hK : ∀ i j, i < j → (K j).toInt < (K i).toInt) (hmin : (2147483648#32 : BitVec 32).toInt < (K 4).toInt)
    (hin : ∀ i, ∃ p, M 0 p = K i) (hout : ∀ p, (K 4).toInt ≤ (M 0 p).toInt → ∃ i, M 0 p = K i)
    (hm : ∀ t, (m t = 2147483648#32 ∨ ∃ p, M t p = m t) ∧ ∀ p, (M t p).toInt ≤ (m t).toInt)
    (hs : ∀ t p, M (t + 1) p = if M t p = m t then 2147483648#32 else M t p) :
    ∀ t : Fin 5, m t.val = K t := by
  have h4 : ∀ i, (K 4).toInt ≤ (K i).toInt := by
    intro i
    rcases (show i ≤ 4 by omega).lt_or_eq with h | h
    · exact (hK _ _ h).le
    · rw [h]
  have inj : ∀ i j, K i = K j → i = j := by
    intro i j h
    rcases lt_trichotomy i j with g | g | g
    · have := hK _ _ g; rw [h] at this; omega
    · exact g
    · have := hK _ _ g; rw [h] at this; omega
  have main : ∀ t : ℕ, ∀ ht : t ≤ 5, (∀ s : Fin 5, s.val < t → m s.val = K s) ∧
      (∀ i : Fin 5, t ≤ i.val → ∃ p, M t p = K i) ∧ (∀ p, (K 4).toInt ≤ (M t p).toInt → ∃ i : Fin 5, t ≤ i.val ∧ M t p = K i) := by
    intro t
    induction t with
    | zero => exact fun _ => ⟨fun s hs => absurd hs (Nat.not_lt_zero _), fun i _ => hin i, fun p hp => (hout p hp).imp fun i hi => ⟨Nat.zero_le _, hi⟩⟩
    | succ t ih =>
      intro ht
      obtain ⟨i1, i2, i3⟩ := ih (by omega)
      have key : m t = K ⟨t, by omega⟩ := by
        obtain ⟨p, hp⟩ := i2 ⟨t, by omega⟩ le_rfl
        have up := (hm t).2 p
        rw [hp] at up
        rcases (hm t).1 with g | ⟨q, hq⟩
        · rw [g] at up; have := h4 ⟨t, by omega⟩; omega
        · obtain ⟨i, hi, he⟩ := i3 q (by rw [hq]; exact (h4 _).trans up)
          rw [← hq, he]
          rw [← hq, he] at up
          rcases (show (⟨t, by omega⟩ : Fin 5) ≤ i from hi).lt_or_eq with g | g
          · have := hK _ _ g; omega
          · rw [g]
      refine ⟨?_, ?_, ?_⟩
      · intro s hs'
        rcases Nat.lt_succ_iff_lt_or_eq.1 hs' with g | g
        · exact i1 s g
        · rw [g, key]; congr 1; exact Fin.ext g.symm
      · intro i hi
        obtain ⟨p, hp⟩ := i2 i (by omega)
        refine ⟨p, ?_⟩
        rw [hs, if_neg, hp]
        rw [hp, key]
        intro g
        have := congrArg Fin.val (inj _ _ g)
        simp only at this
        omega
      · intro p hp
        rw [hs] at hp ⊢
        split_ifs at hp ⊢ with g
        · omega
        · obtain ⟨i, hi, he⟩ := i3 p hp
          refine ⟨i, ?_, he⟩
          rcases hi.lt_or_eq with h | h
          · exact h
          · exfalso; apply g; rw [he, key]; congr 1; exact Fin.ext h.symm
  exact fun t => (main 5 le_rfl).1 t t.isLt

end Cert.Near
-- ==== Proof.KernelIdeal.Kept.lean ====
/- The streaming call's kept keys: what one block does to them, lane by lane. -/
module

public import proofs.«01_k».proof.Proof.KernelIdeal.Value
public import proofs.«01_k».proof.Proof.Keys
public import proofs.«01_k».proof.Proof.Word
public import proofs.«01_k».proof.Proof.Near

@[expose] public section

set_option maxRecDepth 16384

noncomputable section

namespace Cert.KernelIdeal.Kept

open Idealize.ShloMosaic Idealize.ShloMosaic.TcCoe Idealize.ShloMosaic.Tactic Idealize.SL.Sem
open Cert.KernelIdeal Cert.KernelIdeal.Gen Cert.KernelIdeal.Stream Cert.Bank Cert.Keys

/-- Row `b`'s keys in lane `l` of a block, chunk by chunk. -/
def chunk (K : IVec S256x3200 32) (b : Fin 256) (l : Fin 128) (n : ℕ) : BitVec 32 :=
  if h : n < 25 then K (ix2 b (⟨n * 128 + l.val, by omega⟩ : Fin 3200)) else 0#32

theorem chunk_zero (K : IVec S256x3200 32) (b : Fin 256) (l : Fin 128) : chunk K b l 0 = K (ix2 b (⟨l.val, by omega⟩ : Fin 3200)) := by
  unfold chunk
  rw [dif_pos (by decide)]
  congr 2
  exact Fin.ext (by show 0 * 128 + l.val = l.val; omega)

theorem second (K : IVec S256x3200 32) (p q r : IVec S256x128 32) (b : Fin 256) (l : Fin 128)
    (hp : p (ix2 b l) = (pair (chunk K b l) 0).2) (hq : q (ix2 b l) = (pair (chunk K b l) 1).1)
    (hr : r (ix2 b l) = IntOp.minsi (pair (chunk K b l) 0).1 (chunk K b l 2)) :
    k0_pay52 K p q r (ix2 b l) = (pair (chunk K b l) 15).2 := by
  pointwise [k0_pay52, k0_pay24, k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49, k0_pay50]
  rw [hp, hq, hr]
  simp only [pair]
  rfl

theorem first (K : IVec S256x3200 32) (q : IVec S256x128 32) (b : Fin 256) (l : Fin 128) (hq : q (ix2 b l) = (pair (chunk K b l) 1).1) :
    k0_pay54 K q (ix2 b l) = (pair (chunk K b l) 16).1 := by
  pointwise [k0_pay54, k0_pay53, k0_pay51, k0_pay24, k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49, k0_pay50]
  rw [hq]
  simp only [pair]
  rfl

theorem beaten (K : IVec S256x3200 32) (q : IVec S256x128 32) (b : Fin 256) (l : Fin 128) (hq : q (ix2 b l) = (pair (chunk K b l) 1).1) :
    k0_pay55 K q (ix2 b l) = IntOp.minsi (pair (chunk K b l) 15).1 (chunk K b l 17) := by
  pointwise [k0_pay55, k0_pay53, k0_pay51, k0_pay24, k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49, k0_pay50]
  rw [hq]
  simp only [pair]
  rfl

/-- The place of entry `j` of lane `l`'s list. -/
abbrev place (j : Fin 5) (l : Fin 128) : Fin 640 := ⟨j.val * 128 + l.val, by omega⟩

/-- Five vectors of lanes side by side. -/
def beside (v0 v1 v2 v3 v4 : IVec S256x128 32) : IVec S256x640 32 :=
  concatenate S256x640 1 [⟨S256x128, v0⟩, ⟨S256x128, v1⟩, ⟨S256x128, v2⟩, ⟨S256x128, v3⟩, ⟨S256x128, v4⟩] concatenates_S256x128_S256x128_S256x128_S256x128_S256x128_S256x640_d1

theorem beside_apply (v0 v1 v2 v3 v4 : IVec S256x128 32) (b : Fin 256) (l : Fin 128) (j : Fin 5) :
    beside v0 v1 v2 v3 v4 (ix2 b (place j l)) = (![v0, v1, v2, v3, v4] : Fin 5 → IVec S256x128 32) j (ix2 b l) := by
  have hl := l.isLt
  have hj := j.isLt
  generalize hp : place j l = p
  have hp' : p.val = j.val * 128 + l.val := by rw [← hp]
  pointwise [beside]
  match j with
  | 0 =>
    rw [dif_pos (by simp at hp'; omega)]
    exact congrArg (fun z => v0 (ix2 b z)) (Fin.ext (by simp at hp'; exact hp'))
  | 1 =>
    rw [dif_neg (by simp at hp'; omega), dif_pos (by simp at hp'; omega)]
    exact congrArg (fun z => v1 (ix2 b z)) (Fin.ext (by simp at hp'; show p.val - 128 = l.val; omega))
  | 2 =>
    rw [dif_neg (by simp at hp'; omega), dif_neg (by simp at hp'; omega), dif_pos (by simp at hp'; omega)]
    exact congrArg (fun z => v2 (ix2 b z)) (Fin.ext (by simp at hp'; show p.val - 128 - 128 = l.val; omega))
  | 3 =>
    rw [dif_neg (by simp at hp'; omega), dif_neg (by simp at hp'; omega), dif_neg (by simp at hp'; omega), dif_pos (by simp at hp'; omega)]
    exact congrArg (fun z => v3 (ix2 b z)) (Fin.ext (by simp at hp'; show p.val - 128 - 128 - 128 = l.val; omega))
  | 4 =>
    rw [dif_neg (by simp at hp'; omega), dif_neg (by simp at hp'; omega), dif_neg (by simp at hp'; omega), dif_neg (by simp at hp'; omega)]
    exact congrArg (fun z => v4 (ix2 b z)) (Fin.ext (by simp at hp'; show p.val - 128 - 128 - 128 - 128 = l.val; omega))

/-- Two vectors of keys put into the five lists. -/
def pushed (r0 r1 r2 r3 r4 A B : IVec S256x128 32) : IVec S256x640 32 :=
  have t1 := minsi r0 A
  have q1 := maxsi r1 t1
  have t2 := minsi r1 t1
  have q2 := maxsi r2 t2
  have t3 := minsi r2 t2
  have q3 := maxsi r3 t3
  have t4 := minsi r3 t3
  have q4 := maxsi r4 t4
  have u2 := minsi q1 B
  have u3 := minsi q2 u2
  have u4 := minsi q3 u3
  beside (maxsi r0 A) (maxsi q1 B) (maxsi q2 u2) (maxsi q3 u3) (maxsi q4 u4)

theorem pushed_apply (r0 r1 r2 r3 r4 A B : IVec S256x128 32) (b : Fin 256) (l : Fin 128) (j : Fin 5) :
    pushed r0 r1 r2 r3 r4 A B (ix2 b (place j l))
      = push (fun i => (![r0, r1, r2, r3, r4] : Fin 5 → IVec S256x128 32) i (ix2 b l)) (A (ix2 b l)) (B (ix2 b l)) j := by
  unfold pushed
  rw [beside_apply]
  match j with
  | 0 => rfl
  | 1 => rfl
  | 2 => rfl
  | 3 => rfl
  | 4 => rfl

/-- The chunk of a block's keys from column `o` on. -/
abbrev cut (K : IVec S256x3200 32) (o : ℕ) (h : S256x3200.Slices ![0, o] S256x128) : IVec S256x128 32 := extractStridedSlice S256x128 ![0, o] K h

/-- The block's greatest keys, from those of its first eighteen chunks: seven chunks more. -/
def best1 (K : IVec S256x3200 32) (q : IVec S256x128 32) : IVec S256x128 32 := maxsi q (cut K 2304 slices_S256x3200_o0_2304_S256x128)
def best2 (K : IVec S256x3200 32) (q : IVec S256x128 32) : IVec S256x128 32 := maxsi (best1 K q) (cut K 2432 slices_S256x3200_o0_2432_S256x128)
def best3 (K : IVec S256x3200 32) (q : IVec S256x128 32) : IVec S256x128 32 := maxsi (best2 K q) (cut K 2560 slices_S256x3200_o0_2560_S256x128)
def best4 (K : IVec S256x3200 32) (q : IVec S256x128 32) : IVec S256x128 32 := maxsi (best3 K q) (cut K 2688 slices_S256x3200_o0_2688_S256x128)
def best5 (K : IVec S256x3200 32) (q : IVec S256x128 32) : IVec S256x128 32 := maxsi (best4 K q) (cut K 2816 slices_S256x3200_o0_2816_S256x128)
def best6 (K : IVec S256x3200 32) (q : IVec S256x128 32) : IVec S256x128 32 := maxsi (best5 K q) (cut K 2944 slices_S256x3200_o0_2944_S256x128)
def best7 (K : IVec S256x3200 32) (q : IVec S256x128 32) : IVec S256x128 32 := maxsi (best6 K q) (cut K 3072 slices_S256x3200_o0_3072_S256x128)

/-- The block's second greatest keys. -/
def runner (K : IVec S256x3200 32) (p q s : IVec S256x128 32) : IVec S256x128 32 :=
  maxsi (maxsi (maxsi (maxsi (maxsi (maxsi (maxsi (maxsi p s) (minsi q (cut K 2304 slices_S256x3200_o0_2304_S256x128)))
    (minsi (best1 K q) (cut K 2432 slices_S256x3200_o0_2432_S256x128))) (minsi (best2 K q) (cut K 2560 slices_S256x3200_o0_2560_S256x128)))
    (minsi (best3 K q) (cut K 2688 slices_S256x3200_o0_2688_S256x128))) (minsi (best4 K q) (cut K 2816 slices_S256x3200_o0_2816_S256x128)))
    (minsi (best5 K q) (cut K 2944 slices_S256x3200_o0_2944_S256x128))) (minsi (best6 K q) (cut K 3072 slices_S256x3200_o0_3072_S256x128))

theorem put_eq (K : IVec S256x3200 32) (r0 r1 r2 r3 r4 : Vec Ideal S256x128 .i32) (p q s : IVec S256x128 32) :
    k0_pay56 (F := Ideal) K r0 r1 r2 r3 r4 p q s = shapeCast S256x640 (pushed r0 r1 r2 r3 r4 (best7 K q) (runner K p q s)) shapeCasts_S256x640_S256x640 := rfl

theorem put (K : IVec S256x3200 32) (r0 r1 r2 r3 r4 : Vec Ideal S256x128 .i32) (p q s : IVec S256x128 32) (b : Fin 256) (l : Fin 128)
    (hp : p (ix2 b l) = (pair (chunk K b l) 15).2) (hq : q (ix2 b l) = (pair (chunk K b l) 16).1)
    (hs : s (ix2 b l) = IntOp.minsi (pair (chunk K b l) 15).1 (chunk K b l 17)) (j : Fin 5) :
    k0_pay56 (F := Ideal) K r0 r1 r2 r3 r4 p q s (ix2 b (place j l))
      = push (fun i => (![r0, r1, r2, r3, r4] : Fin 5 → IVec S256x128 32) i (ix2 b l)) (pair (chunk K b l) 23).1 (pair (chunk K b l) 23).2 j := by
  have e1 : best7 K q (ix2 b l) = (pair (chunk K b l) 23).1 := by
    pointwise [best1, best2, best3, best4, best5, best6, best7]
    rw [hq]
    simp only [pair]
    rfl
  have e2 : runner K p q s (ix2 b l) = (pair (chunk K b l) 23).2 := by
    pointwise [runner, best1, best2, best3, best4, best5, best6]
    rw [hp, hq, hs]
    simp only [pair]
    rfl
  rw [put_eq, ← e1, ← e2, ← pushed_apply]
  generalize pushed r0 r1 r2 r3 r4 (best7 K q) (runner K p q s) = G
  pointwise []

/-- One block puts the lane's two greatest keys into the lane's list. -/
theorem step_keys (lg : FVec Ideal S256x3200 .f32) (w : Vec Ideal S1x1x3200 .i32) (k : Vec Ideal S256x640 .i32) (b : Fin 256) (l : Fin 128) (j : Fin 5) :
    stepKeys lg w k (ix2 b (place j l))
      = push (fun i => k (ix2 b (place i l))) (pair (chunk (blockKeys lg w) b l) 23).1 (pair (chunk (blockKeys lg w) b l) 23).2 j := by
  have hq : (k0_pay22 (F := Ideal) (k0_pay11 lg) (k0_pay12 lg) (k0_pay13 lg) (k0_pay14 lg) (k0_pay15 lg) (Scalar.ofBits (F := Ideal) .f32 0x40000000#32) w) (ix2 b l)
      = (pair (chunk (blockKeys lg w) b l) 1).1 := by
    simp only [blockKeys, k0_pay22, k0_pay21, k0_pay19, k0_pay18, k0_pay17]
    generalize k0_pay16 (F := Ideal) _ _ _ _ _ _ _ = K
    pointwise []
    simp only [pair, chunk_zero]
    rfl
  unfold stepKeys
  refine (put _ _ _ _ _ _ _ _ _ b l (second _ _ _ _ b l ?_ hq ?_) (first _ _ b l hq) (beaten _ _ b l hq) j).trans ?_
  · simp only [blockKeys, k0_pay20, k0_pay18, k0_pay17]
    generalize k0_pay16 (F := Ideal) _ _ _ _ _ _ _ = K
    pointwise []
    simp only [pair, chunk_zero]
    rfl
  · simp only [blockKeys, k0_pay23, k0_pay21, k0_pay19, k0_pay18, k0_pay17]
    generalize k0_pay16 (F := Ideal) _ _ _ _ _ _ _ = K
    pointwise []
    simp only [pair, chunk_zero]
    rfl
  · congr 1
    funext i
    match i with
    | 0 => show lanes (F := Ideal) k 0 inb_S256x640_S256x128_0_0 (ix2 b l) = k (ix2 b (⟨0 + l.val, by omega⟩ : Fin 640)); pointwise [lanes]
    | 1 => show lanes (F := Ideal) k 128 inb_S256x640_S256x128_0_128 (ix2 b l) = k (ix2 b (⟨128 + l.val, by omega⟩ : Fin 640)); pointwise [lanes]
    | 2 => show lanes (F := Ideal) k 256 inb_S256x640_S256x128_0_256 (ix2 b l) = k (ix2 b (⟨256 + l.val, by omega⟩ : Fin 640)); pointwise [lanes]
    | 3 => show lanes (F := Ideal) k 384 inb_S256x640_S256x128_0_384 (ix2 b l) = k (ix2 b (⟨384 + l.val, by omega⟩ : Fin 640)); pointwise [lanes]
    | 4 => show lanes (F := Ideal) k 512 inb_S256x640_S256x128_0_512 (ix2 b l) = k (ix2 b (⟨512 + l.val, by omega⟩ : Fin 640)); pointwise [lanes]

theorem block_key (lg : FVec Ideal S256x3200 .f32) (w : Vec Ideal S1x1x3200 .i32) (b : Fin 256) (r : Fin 3200) :
    blockKeys lg w (ix2 b r) = Word.key (lg (ix2 b r) + Ideal.ofBits FTy.f32 1098907648#32) (w (ix3 (0 : Fin 1) (0 : Fin 1) r)) := by
  unfold blockKeys
  pointwise [k0_pay16, k0_pay11, k0_pay12, k0_pay13, k0_pay14, k0_pay15]
  rfl

section
variable (m : (ℓ : Loc nD τ sig) → Buf (Elt Ideal) ℓ) (c : Dev nD)

open Value

/-- The key target row `b` and the bank's row `n` make. -/
def keyAt (b : Fin 256) (n : ℕ) : BitVec 32 :=
  if h : n < 48000 then Word.key (logit (target (feats m c) b) (bank (feats m c) (queue m c) ⟨n, h⟩) + Ideal.ofBits FTy.f32 1098907648#32)
    (label (slabels m c) (qlabels m c) ⟨n, h⟩) else 0#32

theorem block_label_row (t : Fin cfg0.N) (r : Fin 3200) :
    (iblk (Ve0 m) c 3 t : Vec Ideal S1x1x3200 .i32) (ix3 (0 : Fin 1) (0 : Fin 1) r) = label (slabels m c) (qlabels m c) ⟨t.val * 3200 + r.val, col_lt t r⟩ := by
  rw [block_3, Entry.V_v20, ← labels]
  pointwise []

variable (hq : ∀ j : Fin 48000, 256 ≤ j.val → (∑ k, queue m c (ix2 j k) * queue m c (ix2 j k)) = 1)
include hq

theorem chunk_at (t : Fin cfg0.N) (b : Fin 256) (l : Fin 128) :
    chunk (blockKeys (k0_pay5 (grid0.coords t) (iblk (Ve0 m) c 2 t) (iblk (Ve0 m) c 1 t) (iblk (Ve0 m) c 0 t)) (iblk (Ve0 m) c 3 t)) b l
      = fun k => if k < 25 then keyAt m c b (Near.col t.val k l.val) else 0#32 := by
  funext k
  unfold chunk
  split
  · next h =>
    rw [block_key, block_logit m c hq t b, block_label_row]
    unfold keyAt Near.col
    have ht := lt_of_lt_of_eq t.isLt N_0
    rw [dif_pos (by omega)]
    simp only [Nat.add_assoc]
  · rfl

/-- Which of the kept keys are at least `θ`. -/
theorem kept_keys (θ : ℤ) (hθ : -2147483648 < θ) (b : Fin 256) (j : Fin 5) (l : Fin 128) :
    θ ≤ ((stateAt (Ve0 m) c 15).1 (ix2 b (place j l))).toInt
      ↔ j.val < ∑ n ∈ Finset.range 15, min 2 (count (fun k => keyAt m c b (Near.col n k l.val)) θ 25) := by
  refine (kept (fun n i => (stateAt (Ve0 m) c n).1 (ix2 b (place i l))) (fun n k => if k < 25 then keyAt m c b (Near.col n k l.val) else 0#32) θ
    (fun i => ?_) 15 (fun n hn => ?_) j).trans ?_
  · have e : (stateAt (Ve0 m) c 0).1 (ix2 b (place i l)) = 2147483648#32 := by
      show k0_pay1 (ix2 b (place i l)) = _
      pointwise [k0_pay1]
    show ¬ θ ≤ ((stateAt (Ve0 m) c 0).1 (ix2 b (place i l))).toInt
    rw [e, show (2147483648#32 : BitVec 32).toInt = -2147483648 by decide]
    omega
  · obtain ⟨t, rfl⟩ : ∃ u : Fin cfg0.N, n = u.val := ⟨⟨n, lt_of_lt_of_eq hn N_0.symm⟩, rfl⟩
    funext i
    show (stateAt (Ve0 m) c (t.val + 1)).1 (ix2 b (place i l)) = _
    rw [stateAt_succ, ← chunk_at m c hq t b l]
    exact step_keys _ _ _ b l i
  · have e : ∀ n, count (fun k => if k < 25 then keyAt m c b (Near.col n k l.val) else 0#32) θ 25 = count (fun k => keyAt m c b (Near.col n k l.val)) θ 25 :=
      fun n => Finset.sum_congr rfl fun k hk => by simp only [if_pos (Finset.mem_range.1 hk)]
    simp only [e]

end

end Cert.KernelIdeal.Kept
-- ==== Proof.Vote.lean ====
/- The vote among five labels, apart from any program: the label whose count times 512 less itself is greatest, among the
   voters as among all the classes. -/
module

public import Idealize.ShloMosaic.Lib.Pointwise
public import Idealize.ShloMosaic.Lib.SortNet.Extract
public import Mathlib.Algebra.Order.BigOperators.Group.Finset

@[expose] public section

noncomputable section

namespace Cert.Vote

open Idealize.ShloMosaic

/-- How many of the five voters are `q`. -/
def votes (n : Fin 5 → BitVec 32) (q : BitVec 32) : ℕ := ∑ i, if q = n i then 1 else 0

theorem votes_le (n : Fin 5 → BitVec 32) (q : BitVec 32) : votes n q ≤ 5 :=
  (Finset.sum_le_sum (g := fun _ => 1) fun i _ => by split_ifs <;> omega).trans (by simp)

theorem votes_pos (n : Fin 5 → BitVec 32) (i : Fin 5) : 1 ≤ votes n (n i) :=
  (by rw [if_pos rfl] : 1 ≤ if n i = n i then 1 else 0).trans
    (Finset.single_le_sum (f := fun k => if n i = n k then 1 else 0) (fun _ _ => Nat.zero_le _) (Finset.mem_univ i))

theorem votes_none (n : Fin 5 → BitVec 32) (q : BitVec 32) (h : ∀ i, q ≠ n i) : votes n q = 0 :=
  Finset.sum_eq_zero fun i _ => if_neg (h i)

/-- A class's score. -/
def score (n : Fin 5 → BitVec 32) (q : BitVec 32) : ℤ := votes n q * 512 - q.toNat

/-- `p` wins the vote. -/
def Wins (n : Fin 5 → BitVec 32) (p : BitVec 32) : Prop := p.toNat < 345 ∧ ∀ q : BitVec 32, q.toNat < 345 → score n q ≤ score n p

theorem wins_unique {n : Fin 5 → BitVec 32} {p q : BitVec 32} (hp : Wins n p) (hq : Wins n q) : p = q := by
  have h1 := hp.2 q hq.1
  have h2 := hq.2 p hp.1
  have := hp.1
  have := hq.1
  unfold score at h1 h2
  apply BitVec.eq_of_toNat_eq
  omega

/-- The word the kernel computes for the `i`-th voter's score. -/
def scoreWord (n : Fin 5 → BitVec 32) (q : BitVec 32) : BitVec 32 :=
  IntOp.subi (IntOp.muli (IntOp.addi (IntOp.addi (IntOp.addi (IntOp.addi (IntOp.addi 0#32
    (BitVec.setWidth 32 (IntOp.cmpi CmpIPredicate.eq q (n 0)))) (BitVec.setWidth 32 (IntOp.cmpi CmpIPredicate.eq q (n 1))))
    (BitVec.setWidth 32 (IntOp.cmpi CmpIPredicate.eq q (n 2)))) (BitVec.setWidth 32 (IntOp.cmpi CmpIPredicate.eq q (n 3))))
    (BitVec.setWidth 32 (IntOp.cmpi CmpIPredicate.eq q (n 4)))) 512#32) q

theorem one_word (q p : BitVec 32) : BitVec.setWidth 32 (IntOp.cmpi CmpIPredicate.eq q p) = BitVec.ofNat 32 (if q = p then 1 else 0) := by
  show BitVec.setWidth 32 (BitVec.ofBool (q == p)) = _
  by_cases h : q = p
  · rw [if_pos h, beq_iff_eq.2 h]; rfl
  · rw [if_neg h, beq_eq_false_iff_ne.2 h]; rfl

theorem scoreWord_toInt (n : Fin 5 → BitVec 32) (q : BitVec 32) (hq : q.toNat < 345) : (scoreWord n q).toInt = score n q := by
  have hv := votes_le n q
  have e : scoreWord n q = BitVec.ofNat 32 (votes n q) * 512#32 - q := by
    unfold scoreWord votes
    simp only [one_word, IntOp.addi, IntOp.muli, IntOp.subi, Fin.sum_univ_five, BitVec.ofNat_add, BitVec.zero_add]
  rw [e]
  unfold score
  have h3 : (BitVec.ofNat 32 (votes n q) * 512#32).toInt = votes n q * 512 := by
    generalize votes n q = v at hv
    interval_cases v <;> decide
  rw [BitVec.toInt_sub, h3, BitVec.toInt_eq_toNat_of_lt (by omega)]
  apply Int.bmod_eq_of_le <;> omega

theorem five {P : Fin 5 → Prop} (k : Fin 5) (h : P k) : (((P 0 ∨ P 1) ∨ P 2) ∨ P 3) ∨ P 4 := by
  fin_cases k
  · exact .inl (.inl (.inl (.inl h)))
  · exact .inl (.inl (.inl (.inr h)))
  · exact .inl (.inl (.inr h))
  · exact .inl (.inr h)
  · exact .inr h

/-- The greatest of the voters' scores. -/
def best (n : Fin 5 → BitVec 32) : BitVec 32 :=
  IntOp.maxsi (IntOp.maxsi (IntOp.maxsi (IntOp.maxsi (scoreWord n (n 0)) (scoreWord n (n 1))) (scoreWord n (n 2))) (scoreWord n (n 3))) (scoreWord n (n 4))

/-- The kernel's pick: the least label among the voters of greatest score. -/
def pick (n : Fin 5 → BitVec 32) : BitVec 32 :=
  IntOp.minsi (IntOp.minsi (IntOp.minsi (IntOp.minsi (IntOp.minsi 1073741824#32
    (Scalar.select (IntOp.cmpi CmpIPredicate.eq (scoreWord n (n 0)) (best n)) (n 0) 1073741824#32))
    (Scalar.select (IntOp.cmpi CmpIPredicate.eq (scoreWord n (n 1)) (best n)) (n 1) 1073741824#32))
    (Scalar.select (IntOp.cmpi CmpIPredicate.eq (scoreWord n (n 2)) (best n)) (n 2) 1073741824#32))
    (Scalar.select (IntOp.cmpi CmpIPredicate.eq (scoreWord n (n 3)) (best n)) (n 3) 1073741824#32))
    (Scalar.select (IntOp.cmpi CmpIPredicate.eq (scoreWord n (n 4)) (best n)) (n 4) 1073741824#32)

theorem pick_fold (n : Fin 5 → BitVec 32) :
  IntOp.minsi (IntOp.minsi (IntOp.minsi (IntOp.minsi (IntOp.minsi 1073741824#32
    (Scalar.select (IntOp.cmpi CmpIPredicate.eq (scoreWord n (n 0)) (best n)) (n 0) 1073741824#32))
    (Scalar.select (IntOp.cmpi CmpIPredicate.eq (scoreWord n (n 1)) (best n)) (n 1) 1073741824#32))
    (Scalar.select (IntOp.cmpi CmpIPredicate.eq (scoreWord n (n 2)) (best n)) (n 2) 1073741824#32))
    (Scalar.select (IntOp.cmpi CmpIPredicate.eq (scoreWord n (n 3)) (best n)) (n 3) 1073741824#32))
    (Scalar.select (IntOp.cmpi CmpIPredicate.eq (scoreWord n (n 4)) (best n)) (n 4) 1073741824#32) = pick n := by rw [pick]

theorem cmpi_self (a : BitVec 32) : IntOp.cmpi CmpIPredicate.eq a a = 1#1 := by
  show BitVec.ofBool (a == a) = 1#1
  rw [beq_self_eq_true]; rfl

theorem select_eq (a b x y : BitVec 32) : Scalar.select (IntOp.cmpi CmpIPredicate.eq a b) x y = if a = b then x else y := by
  show (if BitVec.ofBool (a == b) = 1#1 then x else y) = _
  by_cases h : a = b
  · rw [if_pos h, beq_iff_eq.2 h]; rfl
  · rw [if_neg h, beq_eq_false_iff_ne.2 h]; rfl

theorem least (B x : BitVec 32) (P : Fin 5 → Prop) [DecidablePred P] (k : Fin 5) (hk : P k) (hx : x.toInt ≤ B.toInt) :
    IntOp.minsi (IntOp.minsi (IntOp.minsi (IntOp.minsi (IntOp.minsi B (if P 0 then x else B)) (if P 1 then x else B)) (if P 2 then x else B))
      (if P 3 then x else B)) (if P 4 then x else B) = x := by
  have each : ∀ i, x.toInt ≤ (if P i then x else B).toInt := by
    intro i
    by_cases h : P i
    · rw [if_pos h]
    · rw [if_neg h]; exact hx
  have some := five (P := fun i => (if P i then x else B).toInt ≤ x.toInt) k (by rw [if_pos hk])
  apply BitVec.eq_of_toInt_eq
  simp only [SortNet.toInt_minsi]
  refine le_antisymm ?_ (le_min (le_min (le_min (le_min (le_min hx (each 0)) (each 1)) (each 2)) (each 3)) (each 4))
  simp only [min_le_iff]
  rcases some with (((h | h) | h) | h) | h
  · exact .inl (.inl (.inl (.inl (.inr h))))
  · exact .inl (.inl (.inl (.inr h)))
  · exact .inl (.inl (.inr h))
  · exact .inl (.inr h)
  · exact .inr h

theorem pick_wins (n : Fin 5 → BitVec 32) (hn : ∀ i, (n i).toNat < 345) : Wins n (pick n) := by
  obtain ⟨k, hk⟩ : ∃ k, ∀ i, score n (n i) ≤ score n (n k) := Finite.exists_max fun i => score n (n i)
  have hs : ∀ i, (scoreWord n (n i)).toInt = score n (n i) := fun i => scoreWord_toInt n _ (hn i)
  have hbest : best n = scoreWord n (n k) := by
    unfold best
    apply BitVec.eq_of_toInt_eq
    simp only [SortNet.toInt_maxsi, hs]
    refine le_antisymm ?_ ?_
    · simp only [max_le_iff]; exact ⟨⟨⟨⟨hk 0, hk 1⟩, hk 2⟩, hk 3⟩, hk 4⟩
    · simp only [le_max_iff]
      exact five (P := fun i => score n (n k) ≤ score n (n i)) k le_rfl
  have same : ∀ i, scoreWord n (n i) = scoreWord n (n k) → n i = n k := by
    intro i h
    have h1 := congrArg BitVec.toInt h
    rw [hs, hs] at h1
    have := hn i
    have := hn k
    unfold score at h1
    apply BitVec.eq_of_toNat_eq
    omega
  have each : ∀ i, (if scoreWord n (n i) = scoreWord n (n k) then n i else 1073741824#32) = if scoreWord n (n i) = scoreWord n (n k) then n k else 1073741824#32 := by
    intro i
    split_ifs with h
    · exact same i h
    · rfl
  have hp : pick n = n k := by
    unfold pick
    simp only [hbest, select_eq, each]
    have big : (n k).toInt ≤ (1073741824#32 : BitVec 32).toInt := by
      rw [BitVec.toInt_eq_toNat_of_lt (by have := hn k; omega), show (1073741824#32 : BitVec 32).toInt = 1073741824 by decide]
      have := hn k; omega
    exact least _ _ (fun i => scoreWord n (n i) = scoreWord n (n k)) k rfl big
  rw [hp]
  refine ⟨hn k, fun q hq => ?_⟩
  by_cases h : ∃ i, q = n i
  · obtain ⟨i, rfl⟩ := h; exact hk i
  · have h0 := votes_none n q (not_exists.1 h)
    have h1 := votes_pos n k
    have := hn k
    unfold score
    omega

/-- The first class of greatest count wins. -/
theorem first_wins (n : Fin 5 → BitVec 32) (p : BitVec 32) (hp : p.toNat < 345)
    (h : ∀ q : BitVec 32, q.toNat < 345 → votes n q < votes n p ∨ (votes n q = votes n p ∧ p.toNat ≤ q.toNat)) : Wins n p := by
  refine ⟨hp, fun q hq => ?_⟩
  unfold score
  rcases h q hq with g | ⟨g, g'⟩ <;> omega

end Cert.Vote
-- ==== Proof.KernelIdeal.Loss.lean ====
/- The loss kernel's values, in extended reals: the five greatest kept keys in order, the label they vote for, and the
   mean over the target rows. -/
module

public import proofs.«01_k».proof.Proof.KernelIdeal.Value
public import proofs.«01_k».proof.Proof.Near
public import proofs.«01_k».proof.Proof.Vote
public import proofs.«01_k».proof.Proof.Word

@[expose] public section

set_option maxRecDepth 16384

noncomputable section

namespace Cert.KernelIdeal.Loss

open Idealize.ShloMosaic Idealize.ShloMosaic.TcCoe Idealize.ShloMosaic.Tactic Idealize.SL.Sem
open Cert.KernelIdeal Cert.KernelIdeal.Gen Cert.Bank

theorem ext640 {α : Type} {f g : S256x640.Idx → α} (h : ∀ (b : Fin 256) (p : Fin 640), f (ix2 b p) = g (ix2 b p)) : f = g :=
  funext fun j => by rw [eq_ix2 j]; exact h _ _

theorem ext1 {α : Type} {f g : S256x1.Idx → α} (h : ∀ b : Fin 256, f (ix2 b (0 : Fin 1)) = g (ix2 b (0 : Fin 1))) : f = g :=
  funext fun j => by
    have e : j = ix2 (j 0 : Fin 256) (0 : Fin 1) := by rw [eq_ix2 j]; exact congrArg (ix2 (j 0 : Fin 256)) (Fin.ext (by have : (j 1 : Fin 1).val < 1 := (j 1 : Fin 1).isLt; show (j 1 : Fin 1).val = 0; omega))
    rw [e]; exact h _

/-- The greatest word of row `b`. -/
def top (M : IVec S256x640 32) (b : Fin 256) : BitVec 32 := Finset.univ.fold IntOp.maxsi 2147483648#32 fun p : Fin 640 => M (ix2 b p)

/-- The words after `t` rounds. -/
def after (M : IVec S256x640 32) : ℕ → IVec S256x640 32
  | 0 => M
  | t + 1 => fun j => if after M t j = top (after M t) (j 0) then 2147483648#32 else after M t j

theorem struck (M : IVec S256x640 32) (t : ℕ) (b : Fin 256) (p : Fin 640) :
    after M (t + 1) (ix2 b p) = if after M t (ix2 b p) = top (after M t) b then 2147483648#32 else after M t (ix2 b p) := rfl

theorem pay3 (M : Vec Ideal S256x640 .i32) (b : Fin 256) : k1_pay3 (F := Ideal) M (ix2 b (0 : Fin 1)) = top M b := by
  pointwise [k1_pay3, k1_pay2]
  rfl

theorem pay5 (M : Vec Ideal S256x640 .i32) : k1_pay5 (F := Ideal) M = after M 1 := by
  refine ext640 fun b p => ?_
  rw [struck, show after M 0 = M from rfl, ← pay3]
  unfold k1_pay5
  generalize k1_pay3 (F := Ideal) M = T
  pointwise [k1_pay2]
  exact Vote.select_eq _ _ _ _

/-- A round's greatest words, as the kernel takes them. -/
def tops (M : IVec S256x640 32) : IVec S256x1 32 :=
  shapeCast S256x1 (multiReductionI .maxsi [1] S256 M 2147483648#32 reduces_S256x640_S256 rfl) shapeCasts_S256_S256x1

/-- A round's striking out, as the kernel does it. -/
def strike (M : IVec S256x640 32) : IVec S256x640 32 :=
  select (cmpi .eq M (broadcastTo S256x640 (tops M) broadcasts_S256x1_S256x640)) (broadcast S256x640 2147483648#32) M

/-- A round's labels, as the kernel reads them off. -/
def lab (M : IVec S256x640 32) : IVec S256x1 32 := subi (broadcast S256x1 511#32) (andi (tops M) (broadcast S256x1 511#32))

theorem tops_apply (M : IVec S256x640 32) (b : Fin 256) : tops M (ix2 b (0 : Fin 1)) = top M b := by
  pointwise [tops]
  rfl

theorem strike_after (M : IVec S256x640 32) (t : ℕ) : strike (after M t) = after M (t + 1) := by
  refine ext640 fun b p => ?_
  rw [struck, ← tops_apply]
  unfold strike
  generalize after M t = N
  generalize tops N = T
  pointwise []
  exact Vote.select_eq _ _ _ _

theorem lab_apply (M : IVec S256x640 32) (b : Fin 256) : lab M (ix2 b (0 : Fin 1)) = IntOp.subi 511#32 (IntOp.andi (top M b) 511#32) := by
  rw [← tops_apply]
  unfold lab
  generalize tops M = T
  pointwise []

theorem pay8 (M : Vec Ideal S256x640 .i32) : k1_pay8 (F := Ideal) M = after M 2 := by
  rw [← strike_after, ← pay5]; rfl
theorem pay11 (M : Vec Ideal S256x640 .i32) : k1_pay11 (F := Ideal) M = after M 3 := by
  rw [← strike_after, ← pay8]; rfl
theorem pay14 (M : Vec Ideal S256x640 .i32) : k1_pay14 (F := Ideal) M = after M 4 := by
  rw [← strike_after, ← pay11]; rfl
theorem pay7 (M : Vec Ideal S256x640 .i32) : k1_pay7 (F := Ideal) M = lab (after M 1) := by
  rw [← pay5]; rfl
theorem pay10 (M : Vec Ideal S256x640 .i32) : k1_pay10 (F := Ideal) M = lab (after M 2) := by
  rw [← pay8]; rfl
theorem pay13 (M : Vec Ideal S256x640 .i32) : k1_pay13 (F := Ideal) M = lab (after M 3) := by
  rw [← pay11]; rfl
theorem pay15 (M : Vec Ideal S256x640 .i32) : k1_pay15 (after M 4) = lab (after M 4) := rfl
theorem pay4 (M : Vec Ideal S256x640 .i32) : k1_pay4 (F := Ideal) M = lab (after M 0) := by
  refine ext1 fun b => ?_
  rw [lab_apply, show after M 0 = M from rfl, ← pay3]
  unfold k1_pay4
  generalize k1_pay3 (F := Ideal) M = T
  pointwise []

/-- The five labels row `b` votes with. -/
def labs (M : IVec S256x640 32) (b : Fin 256) (t : Fin 5) : BitVec 32 := IntOp.subi 511#32 (IntOp.andi (top (after M t.val) b) 511#32)

/-- The loss kernel's per-row value, as the printed kernel composes it. -/
def perRow (M : Vec Ideal S256x640 .i32) (S : Vec Ideal S256x1 .f32) (C : Vec Ideal S256x384 .f32) (N : Vec Ideal S1x384 .f32) : FVec Ideal S256x1 .f32 :=
  let v7 := k1_pay4 (F := Ideal) M
  let v17 := k1_pay7 (F := Ideal) M
  let v27 := k1_pay10 (F := Ideal) M
  let v37 := k1_pay13 (F := Ideal) M
  let v41 := k1_pay14 (F := Ideal) M
  let v47 := k1_pay15 v41
  let v66 := k1_pay16 v7 v17 v27 v37 v41
  let v85 := k1_pay17 v7 v17 v27 v37 v41
  let v92 := k1_pay18 v7 v17 v27
  let v93 := k1_pay19 v27
  let v104 := k1_pay20 v27 v37 v47 v92 v93
  let v123 := k1_pay21 v7 v17 v27 v37 v47
  let v142 := k1_pay22 v7 v17 v27 v37 v47
  let v146 := k1_pay23 v7 v17 v27 v37 v47 v66 v85 v92 v93
  k1_pay25 v7 v17 v27 v37 v47 v66 v85 v104 v123 v142 v146 k1_pay24 C N S

section
variable (l0 l1 l2 l3 l4 : IVec S256x1 32) (n : Fin 5 → BitVec 32) (b : Fin 256)
  (h0 : l0 (ix2 b (0 : Fin 1)) = n 0) (h1 : l1 (ix2 b (0 : Fin 1)) = n 1) (h2 : l2 (ix2 b (0 : Fin 1)) = n 2)
  (h3 : l3 (ix2 b (0 : Fin 1)) = n 3) (h4 : l4 (ix2 b (0 : Fin 1)) = n 4)
include h0 h1 h2 h3 h4

theorem score0 (M4 : IVec S256x640 32) (hM : k1_pay15 M4 = l4) : k1_pay16 l0 l1 l2 l3 M4 (ix2 b (0 : Fin 1)) = Vote.scoreWord n (n 0) := by
  simp only [k1_pay16, hM]
  pointwise []
  rw [Vote.scoreWord, h0, h1, h2, h3, h4, Vote.cmpi_self]

theorem score1 (M4 : IVec S256x640 32) (hM : k1_pay15 M4 = l4) : k1_pay17 l0 l1 l2 l3 M4 (ix2 b (0 : Fin 1)) = Vote.scoreWord n (n 1) := by
  simp only [k1_pay17, hM]
  pointwise []
  rw [Vote.scoreWord, h0, h1, h2, h3, h4, Vote.cmpi_self]

theorem score2 : k1_pay20 l2 l3 l4 (k1_pay18 l0 l1 l2) (k1_pay19 l2) (ix2 b (0 : Fin 1)) = Vote.scoreWord n (n 2) := by
  pointwise [k1_pay20, k1_pay18, k1_pay19]
  rw [Vote.scoreWord, h0, h1, h2, h3, h4, Vote.cmpi_self]

theorem score3 : k1_pay21 l0 l1 l2 l3 l4 (ix2 b (0 : Fin 1)) = Vote.scoreWord n (n 3) := by
  pointwise [k1_pay21]
  rw [Vote.scoreWord, h0, h1, h2, h3, h4, Vote.cmpi_self]

theorem score4 : k1_pay22 l0 l1 l2 l3 l4 (ix2 b (0 : Fin 1)) = Vote.scoreWord n (n 4) := by
  pointwise [k1_pay22]
  rw [Vote.scoreWord, h0, h1, h2, h3, h4, Vote.cmpi_self]

omit h0 h1 h2 h3 h4 in
theorem sel_sum (f : Fin 384 → EReal) (p : BitVec 32) (hp : p.toNat < 345) :
    (∑ x : Fin 384, Scalar.select (IntOp.cmpi CmpIPredicate.eq (BitVec.ofNat 32 x.val) p) (f x) (0 : EReal)) = f ⟨p.toNat, by omega⟩ := by
  have e : ∀ x : Fin 384, Scalar.select (IntOp.cmpi CmpIPredicate.eq (BitVec.ofNat 32 x.val) p) (f x) (0 : EReal)
      = if x = ⟨p.toNat, by omega⟩ then f x else 0 := by
    intro x
    have hx := x.isLt
    have g : (BitVec.ofNat 32 x.val == p) = decide (x = ⟨p.toNat, by omega⟩) := by
      rw [Bool.eq_iff_iff, beq_iff_eq, decide_eq_true_iff, ← BitVec.toNat_inj, BitVec.toNat_ofNat, Nat.mod_eq_of_lt (by omega), Fin.ext_iff]
    show (if BitVec.ofBool (BitVec.ofNat 32 x.val == p) = 1#1 then _ else _) = _
    rw [g]
    by_cases h : x = ⟨p.toNat, by omega⟩
    · rw [decide_eq_true h, if_pos h]; rfl
    · rw [decide_eq_false h, if_neg h, if_neg (by decide)]
  rw [Finset.sum_congr rfl fun x _ => e x, Finset.sum_ite_eq' Finset.univ, if_pos (Finset.mem_univ _)]

theorem final (s0 s1 s2 s3 s4 best : IVec S256x1 32)
    (g0 : s0 (ix2 b (0 : Fin 1)) = Vote.scoreWord n (n 0)) (g1 : s1 (ix2 b (0 : Fin 1)) = Vote.scoreWord n (n 1)) (g2 : s2 (ix2 b (0 : Fin 1)) = Vote.scoreWord n (n 2))
    (g3 : s3 (ix2 b (0 : Fin 1)) = Vote.scoreWord n (n 3)) (g4 : s4 (ix2 b (0 : Fin 1)) = Vote.scoreWord n (n 4))
    (gb : best (ix2 b (0 : Fin 1)) = Vote.best n)
    (S : Vec Ideal S256x1 .f32) (C : Vec Ideal S256x384 .f32) (N : Vec Ideal S1x384 .f32) (p : BitVec 32) (hpk : Vote.pick n = p) (hp : p.toNat < 345) :
    k1_pay25 (F := Ideal) l0 l1 l2 l3 l4 s0 s1 s2 s3 s4 best k1_pay24 C N S (ix2 b (0 : Fin 1))
      = Ideal.div (C (ix2 b (⟨p.toNat, by omega⟩ : Fin 384)))
        (max (N (ix2 (0 : Fin 1) (⟨p.toNat, by omega⟩ : Fin 384))) 1) - Ideal.log (S (ix2 b (0 : Fin 1))) := by
  pointwise [k1_pay25, k1_pay24]
  rw [h0, h1, h2, h3, h4, g0, g1, g2, g3, g4, gb, Vote.pick_fold, hpk]
  rw [sel_sum (fun x => C (ix2 b x)) p hp, sel_sum (fun x => N (ix2 (0 : Fin 1) x)) p hp]

omit h0 h1 h2 h3 h4 in
theorem best_of (s0 s1 s2 s3 s4 : BitVec 32) (g0 : s0 = Vote.scoreWord n (n 0)) (g1 : s1 = Vote.scoreWord n (n 1)) (g2 : s2 = Vote.scoreWord n (n 2))
    (g3 : s3 = Vote.scoreWord n (n 3)) (g4 : s4 = Vote.scoreWord n (n 4)) : IntOp.maxsi (IntOp.maxsi (IntOp.maxsi (IntOp.maxsi s0 s1) s2) s3) s4 = Vote.best n := by
  rw [Vote.best, g0, g1, g2, g3, g4]

omit h0 h1 h2 h3 h4 in
theorem pay23 (s0 s1 c : IVec S256x1 32) (d : IVec S256x1 1) :
    k1_pay23 l0 l1 l2 l3 l4 s0 s1 c d (ix2 b (0 : Fin 1)) = IntOp.maxsi (IntOp.maxsi (IntOp.maxsi (IntOp.maxsi (s0 (ix2 b (0 : Fin 1))) (s1 (ix2 b (0 : Fin 1))))
      (k1_pay20 l2 l3 l4 c d (ix2 b (0 : Fin 1)))) (k1_pay21 l0 l1 l2 l3 l4 (ix2 b (0 : Fin 1)))) (k1_pay22 l0 l1 l2 l3 l4 (ix2 b (0 : Fin 1))) := by
  unfold k1_pay23
  generalize k1_pay20 l2 l3 l4 c d = a
  generalize k1_pay21 l0 l1 l2 l3 l4 = a'
  generalize k1_pay22 l0 l1 l2 l3 l4 = a''
  pointwise []

theorem whole (M4 : IVec S256x640 32) (hM : k1_pay15 M4 = l4)
    (S : Vec Ideal S256x1 .f32) (C : Vec Ideal S256x384 .f32) (N : Vec Ideal S1x384 .f32) (p : BitVec 32) (hpk : Vote.pick n = p) (hp : p.toNat < 345) :
    k1_pay25 (F := Ideal) l0 l1 l2 l3 l4 (k1_pay16 l0 l1 l2 l3 M4) (k1_pay17 l0 l1 l2 l3 M4) (k1_pay20 l2 l3 l4 (k1_pay18 l0 l1 l2) (k1_pay19 l2))
        (k1_pay21 l0 l1 l2 l3 l4) (k1_pay22 l0 l1 l2 l3 l4)
        (k1_pay23 l0 l1 l2 l3 l4 (k1_pay16 l0 l1 l2 l3 M4) (k1_pay17 l0 l1 l2 l3 M4) (k1_pay18 l0 l1 l2) (k1_pay19 l2)) k1_pay24 C N S (ix2 b (0 : Fin 1))
      = Ideal.div (C (ix2 b (⟨p.toNat, by omega⟩ : Fin 384)))
        (max (N (ix2 (0 : Fin 1) (⟨p.toNat, by omega⟩ : Fin 384))) 1) - Ideal.log (S (ix2 b (0 : Fin 1))) := by
  have g0 := score0 l0 l1 l2 l3 l4 n b h0 h1 h2 h3 h4 M4 hM
  have g1 := score1 l0 l1 l2 l3 l4 n b h0 h1 h2 h3 h4 M4 hM
  have g2 := score2 l0 l1 l2 l3 l4 n b h0 h1 h2 h3 h4
  have g3 := score3 l0 l1 l2 l3 l4 n b h0 h1 h2 h3 h4
  have g4 := score4 l0 l1 l2 l3 l4 n b h0 h1 h2 h3 h4
  have gb := (pay23 l0 l1 l2 l3 l4 b (k1_pay16 l0 l1 l2 l3 M4) (k1_pay17 l0 l1 l2 l3 M4) (k1_pay18 l0 l1 l2) (k1_pay19 l2)).trans (best_of n _ _ _ _ _ g0 g1 g2 g3 g4)
  generalize k1_pay23 l0 l1 l2 l3 l4 (k1_pay16 l0 l1 l2 l3 M4) (k1_pay17 l0 l1 l2 l3 M4) (k1_pay18 l0 l1 l2) (k1_pay19 l2) = B at gb ⊢
  generalize k1_pay16 l0 l1 l2 l3 M4 = a0 at g0 ⊢
  generalize k1_pay17 l0 l1 l2 l3 M4 = a1 at g1 ⊢
  generalize k1_pay20 l2 l3 l4 (k1_pay18 l0 l1 l2) (k1_pay19 l2) = a2 at g2 ⊢
  generalize k1_pay21 l0 l1 l2 l3 l4 = a3 at g3 ⊢
  generalize k1_pay22 l0 l1 l2 l3 l4 = a4 at g4 ⊢
  exact final l0 l1 l2 l3 l4 n b h0 h1 h2 h3 h4 a0 a1 a2 a3 a4 B g0 g1 g2 g3 g4 gb S C N p hpk hp

end

theorem perRow_apply (M : Vec Ideal S256x640 .i32) (S : Vec Ideal S256x1 .f32) (C : Vec Ideal S256x384 .f32) (N : Vec Ideal S1x384 .f32) (b : Fin 256)
    (p : BitVec 32) (hpk : Vote.pick (labs M b) = p) (hp : p.toNat < 345) :
    perRow M S C N (ix2 b (0 : Fin 1)) = Ideal.div (C (ix2 b (⟨p.toNat, by omega⟩ : Fin 384)))
      (max (N (ix2 (0 : Fin 1) (⟨p.toNat, by omega⟩ : Fin 384))) 1) - Ideal.log (S (ix2 b (0 : Fin 1))) := by
  unfold perRow
  simp only [pay4, pay7, pay10, pay13, pay14]
  simp only [pay15]
  exact whole (lab (after M 0)) (lab (after M 1)) (lab (after M 2)) (lab (after M 3)) (lab (after M 4)) (labs M b) b
    (lab_apply _ b) (lab_apply _ b) (lab_apply _ b) (lab_apply _ b) (lab_apply _ b) (after M 4) (pay15 M) S C N p hpk hp

/-- The loss kernel's output: minus the rows' mean. -/
theorem mean (P : FVec Ideal S256x1 .f32) : k1_pay1 P (ix2 (0 : Fin 1) (0 : Fin 1)) = 0 - Ideal.div (∑ b : Fin 256, P (ix2 b (0 : Fin 1))) (Ideal.ofBits .f32 0x43800000#32) := by
  pointwise [k1_pay1]
  simp only [Finset.univ_unique, Finset.sum_singleton]

end Cert.KernelIdeal.Loss
-- ==== Proof.KernelIdeal.LossRegion.lean ====
/- What the loss region leaves in its array, in extended reals: the loss kernel's value of the stream region's four arrays. -/
module

public import proofs.«01_k».proof.Proof.KernelIdeal.Loss
public import proofs.«01_k».proof.Proof.KernelIdeal.Run
public import proofs.«01_k».proof.Proof.KernelIdeal.Final
public import Idealize.ShloMosaic.Lib.VecWindow
public import Idealize.ShloMosaic.Lib.Pipeline.ValueKit.Basic

@[expose] public section

set_option maxRecDepth 16384

noncomputable section

namespace Cert.KernelIdeal.Loss

open Idealize.ShloMosaic Idealize.ShloMosaic.TcCoe Idealize.ShloMosaic.Tactic Idealize.SL.Sem
open Cert.KernelIdeal Cert.KernelIdeal.Gen Cert.KernelIdeal.Own Cert.Bank
open Idealize.ShloMosaic.Pipeline (Dat Cfg Window)

section
variable (c : Dev nD) (a0 : Memref sig .tc .vmem S256x640 .i32) (h0 : a0.IsWhole) (x0 : Vec Ideal S256x640 .i32)

theorem run_0 : K1.kernelRun1_A.sl.r (F := Ideal) c a0 h0 x0 = k1_pay4 (F := Ideal) x0 := by
  unfold K1.kernelRun1_A.sl.r
  rw [View.readAt_full, h0.read_unread]
theorem run_1 : K1.kernelRun1_A.sl.r_1 (F := Ideal) c a0 h0 x0 = k1_pay7 (F := Ideal) x0 := by
  unfold K1.kernelRun1_A.sl.r_1
  rw [View.readAt_full, h0.read_unread]
theorem run_2 : K1.kernelRun1_A.sl.r_2 (F := Ideal) c a0 h0 x0 = k1_pay10 (F := Ideal) x0 := by
  unfold K1.kernelRun1_A.sl.r_2
  rw [View.readAt_full, h0.read_unread]
theorem run_3 : K1.kernelRun1_A.sl.r_3 (F := Ideal) c a0 h0 x0 = k1_pay13 (F := Ideal) x0 := by
  unfold K1.kernelRun1_A.sl.r_3
  rw [View.readAt_full, h0.read_unread]
theorem run_4 : K1.kernelRun1_A.sl.r_4 (F := Ideal) c a0 h0 x0 = k1_pay14 (F := Ideal) x0 := by
  unfold K1.kernelRun1_A.sl.r_4
  rw [View.readAt_full, h0.read_unread]

end

/-- What the loss kernel's run leaves in its output block. -/
theorem out_eq (c : Dev nD) (a0 : Memref sig .tc .vmem S256x640 .i32) (h0 : a0.IsWhole) (a1 : Memref sig .tc .vmem S256x1 .f32) (h1 : a1.IsWhole)
    (a2 : Memref sig .tc .vmem S256x384 .f32) (h2 : a2.IsWhole) (a3 : Memref sig .tc .vmem S1x384 .f32) (h3 : a3.IsWhole) (a4 : Memref sig .tc .vmem S1x1 .f32) (h4 : a4.IsWhole)
    (x0 : Vec Ideal S256x640 .i32) (x1 : Vec Ideal S256x1 .f32) (x2 : Vec Ideal S256x384 .f32) (x3 : Vec Ideal S1x384 .f32) :
    K1.out1_A_4 (F := Ideal) (Ix := Unit) (U := UR sig nD τ) (Lvl := ℕ) Variants.none c a0 h0 a1 h1 a2 h2 a3 h3 a4 h4 x0 x1 x2 x3 = k1_pay1 (perRow x0 x1 x2 x3) := by
  unfold K1.out1_A_4 K1.kernelRun1_A
  dsimp only
  rw [View.read_writes_full]
  unfold K1.kernelRun1_A.sl.r_14 K1.kernelRun1_A.sl.r_13 K1.kernelRun1_A.sl.r_12 K1.kernelRun1_A.sl.r_11 K1.kernelRun1_A.sl.r_10
    K1.kernelRun1_A.sl.r_9 K1.kernelRun1_A.sl.r_8 K1.kernelRun1_A.sl.r_7 K1.kernelRun1_A.sl.r_6 K1.kernelRun1_A.sl.r_5
  rw [View.readAt_full, View.readAt_full, View.readAt_full, h1.read_unread, h2.read_unread, h3.read_unread]
  rw [run_0, run_1, run_2, run_3, run_4]
  unfold perRow
  rfl

theorem ix_0 : ∀ t : Fin cfg1.N, win1_0.index t (0 : Fin 2) = 0 ∧ win1_0.index t (1 : Fin 2) = 0 := (by decide +kernel : ∀ t : Fin grid1.N, _)
theorem ix_1 : ∀ t : Fin cfg1.N, win1_1.index t (0 : Fin 2) = 0 ∧ win1_1.index t (1 : Fin 2) = 0 := (by decide +kernel : ∀ t : Fin grid1.N, _)
theorem ix_2 : ∀ t : Fin cfg1.N, win1_2.index t (0 : Fin 2) = 0 ∧ win1_2.index t (1 : Fin 2) = 0 := (by decide +kernel : ∀ t : Fin grid1.N, _)
theorem ix_3 : ∀ t : Fin cfg1.N, win1_3.index t (0 : Fin 2) = 0 ∧ win1_3.index t (1 : Fin 2) = 0 := (by decide +kernel : ∀ t : Fin grid1.N, _)
theorem ix_4 : ∀ t : Fin cfg1.N, win1_4.index t (0 : Fin 2) = 0 ∧ win1_4.index t (1 : Fin 2) = 0 := (by decide +kernel : ∀ t : Fin grid1.N, _)
theorem flushes_4 : ∃ t : Fin cfg1.N, (cfg1.win 4).flush t = true := by decide +kernel

section
variable (V : (c : Dev nD) → (b : Ref sig .tc) → Buf (Elt Ideal) ((c : Thread nD τ).loc b)) (c : Dev nD) (t : Fin cfg1.N)

/-- Each input's block is its whole array. -/
theorem block_0 : (K1.iblk V c 0 t : Vec Ideal S256x640 .i32) = V c main_v22_0 := by
  obtain ⟨e0, e1⟩ := ix_0 t
  funext y
  have hb0 : (((cfg1.win 0).blk t).view.emb y 0).val = win1_0.index t (0 : Fin 2) * 256 + 1 * (y 0).val := rfl
  have hb1 : (((cfg1.win 0).blk t).view.emb y 1).val = win1_0.index t (1 : Fin 2) * 640 + 1 * (y 1).val := rfl
  show V c main_v22_0 (((cfg1.win 0).blk t).view.emb y) = V c main_v22_0 y
  congr 1
  funext a; apply Fin.ext
  match a with
  | ⟨0, _⟩ => show (((cfg1.win 0).blk t).view.emb y 0).val = (y 0).val; rw [hb0]; omega
  | ⟨1, _⟩ => show (((cfg1.win 0).blk t).view.emb y 1).val = (y 1).val; rw [hb1]; omega

theorem block_1 : (K1.iblk V c 1 t : Vec Ideal S256x1 .f32) = V c main_v22_1 := by
  obtain ⟨e0, e1⟩ := ix_1 t
  funext y
  have hb0 : (((cfg1.win 1).blk t).view.emb y 0).val = win1_1.index t (0 : Fin 2) * 256 + 1 * (y 0).val := rfl
  have hb1 : (((cfg1.win 1).blk t).view.emb y 1).val = win1_1.index t (1 : Fin 2) * 1 + 1 * (y 1).val := rfl
  show V c main_v22_1 (((cfg1.win 1).blk t).view.emb y) = V c main_v22_1 y
  congr 1
  funext a; apply Fin.ext
  match a with
  | ⟨0, _⟩ => show (((cfg1.win 1).blk t).view.emb y 0).val = (y 0).val; rw [hb0]; omega
  | ⟨1, _⟩ => show (((cfg1.win 1).blk t).view.emb y 1).val = (y 1).val; rw [hb1]; omega

theorem block_2 : (K1.iblk V c 2 t : Vec Ideal S256x384 .f32) = V c main_v22_2 := by
  obtain ⟨e0, e1⟩ := ix_2 t
  funext y
  have hb0 : (((cfg1.win 2).blk t).view.emb y 0).val = win1_2.index t (0 : Fin 2) * 256 + 1 * (y 0).val := rfl
  have hb1 : (((cfg1.win 2).blk t).view.emb y 1).val = win1_2.index t (1 : Fin 2) * 384 + 1 * (y 1).val := rfl
  show V c main_v22_2 (((cfg1.win 2).blk t).view.emb y) = V c main_v22_2 y
  congr 1
  funext a; apply Fin.ext
  match a with
  | ⟨0, _⟩ => show (((cfg1.win 2).blk t).view.emb y 0).val = (y 0).val; rw [hb0]; omega
  | ⟨1, _⟩ => show (((cfg1.win 2).blk t).view.emb y 1).val = (y 1).val; rw [hb1]; omega

theorem block_3 : (K1.iblk V c 3 t : Vec Ideal S1x384 .f32) = V c main_v22_3 := by
  obtain ⟨e0, e1⟩ := ix_3 t
  funext y
  have hb0 : (((cfg1.win 3).blk t).view.emb y 0).val = win1_3.index t (0 : Fin 2) * 1 + 1 * (y 0).val := rfl
  have hb1 : (((cfg1.win 3).blk t).view.emb y 1).val = win1_3.index t (1 : Fin 2) * 384 + 1 * (y 1).val := rfl
  show V c main_v22_3 (((cfg1.win 3).blk t).view.emb y) = V c main_v22_3 y
  congr 1
  funext a; apply Fin.ext
  match a with
  | ⟨0, _⟩ => show (((cfg1.win 3).blk t).view.emb y 0).val = (y 0).val; rw [hb0]; omega
  | ⟨1, _⟩ => show (((cfg1.win 3).blk t).view.emb y 1).val = (y 1).val; rw [hb1]; omega

/-- The output's block is its whole array. -/
theorem cut_4 (G : Buf (Elt Ideal) ((c : Thread nD τ).loc main_v23)) :
    (cfg1.win 4).cut (grid1.coords t) (G : Vec Ideal S1x1 .f32) = ((cfg1.win 4).blk t).view.read (Elt Ideal) G := by
  obtain ⟨e0, e1⟩ := ix_4 t
  funext y
  have hb0 : (((cfg1.win 4).blk t).view.emb y 0).val = win1_4.index t (0 : Fin 2) * 1 + 1 * (y 0).val := rfl
  have hb1 : (((cfg1.win 4).blk t).view.emb y 1).val = win1_4.index t (1 : Fin 2) * 1 + 1 * (y 1).val := rfl
  show G ((cfg1.win 4).xinj (grid1.coords t) y) = G (((cfg1.win 4).blk t).view.emb y)
  congr 1
  funext a; apply Fin.ext
  match a with
  | ⟨0, _⟩ => show (y 0).val = (((cfg1.win 4).blk t).view.emb y 0).val; rw [hb0]; omega
  | ⟨1, _⟩ => show (y 1).val = (((cfg1.win 4).blk t).view.emb y 1).val; rw [hb1]; omega

end

section
variable (m : (ℓ : Loc nD τ sig) → Buf (Elt Ideal) ℓ) (outs : Outs (F := Ideal)) (c : Dev nD)

/-- The loss of the stream region's arrays. -/
def lossOf : FVec Ideal S1x1 .f32 :=
  k1_pay1 (perRow (Stream.stateAt (Stream.Ve0 m) c 15).1 (Stream.stateAt (Stream.Ve0 m) c 15).2.1
    (Stream.stateAt (Stream.Ve0 m) c 15).2.2.1 (Stream.stateAt (Stream.Ve0 m) c 15).2.2.2)

theorem after_4 (hf : Stream.Fits m outs) (t : Fin cfg1.N) : (Stream.lossDat m outs c).after 4 t = lossOf m c := by
  refine (K1.after1_4 _ _ _ c t).trans ?_
  unfold K1.outsAt1
  rw [out_eq, block_0, block_1, block_2, block_3]
  unfold lossOf
  show k1_pay1 (perRow (V2 m outs c main_v22_0) (V2 m outs c main_v22_1) (V2 m outs c main_v22_2) (V2 m outs c main_v22_3)) = _
  rw [Stream.V2_at_0, Stream.V2_at_1, Stream.V2_at_2, Stream.V2_at_3, hf.h5, hf.h6, hf.h7, hf.h8, Stream.final_5, Stream.final_6, Stream.final_7, Stream.final_8]

theorem final_4 (hf : Stream.Fits m outs) : outs 3 main_v23 c = lossOf m c := by
  rw [hf.hl]
  have hs := after_4 m outs c hf
  generalize lossOf m c = G at hs ⊢
  refine (Stream.lossDat m outs c).arrAt_eq_of_cover 4 _ (fun t _ => ?_) (fun i => ?_)
  · show (cfg1.win 4).cut (grid1.coords t) ((Stream.lossDat m outs c).after 4 t) = _
    rw [hs t]
    exact cut_4 c t G
  · obtain ⟨t, ht⟩ := flushes_4
    refine ⟨t, ht, ?_⟩
    show i ∈ ((View.whole main_v23).slice (win1_4.rect t)).set
    rw [View.set_slice_whole, Rect.mem_set_unit]
    obtain ⟨e0, e1⟩ := ix_4 t
    have h0 : (i 0).val < 1 := (i 0).isLt
    have h1 : (i 1).val < 1 := (i 1).isLt
    intro a
    match a with
    | ⟨0, _⟩ => show win1_4.index t (0 : Fin 2) * 1 ≤ (i 0).val ∧ (i 0).val < win1_4.index t (0 : Fin 2) * 1 + 1; omega
    | ⟨1, _⟩ => show win1_4.index t (1 : Fin 2) * 1 ≤ (i 1).val ∧ (i 1).val < win1_4.index t (1 : Fin 2) * 1 + 1; omega

/-- The kernel's result: the weight times the loss. -/
theorem result (hf : Stream.Fits m outs) : V6 m outs c main_v28
    = mulf (select (cmpi .sgt (m ((c : Thread nD τ).loc main_arg2)) (constantI S_ 32 4000#32)) (constant (F := Ideal) S_ .f32 0x3DCCCCCD#32) (constant (F := Ideal) S_ .f32 0x00000000#32))
      (shapeCast S_ (lossOf m c) shapeCasts_S1x1_S_) := by
  have e : V3 m outs c main_v23 = lossOf m c := (V3_at_main_v23 m outs c).trans (final_4 m outs c hf)
  have e2 : V3 m outs c main_arg2 = m ((c : Thread nD τ).loc main_arg2) :=
    ((V4_of m outs c main_arg2 (by decide)).symm.trans ((V5_of m outs c main_arg2 (by decide)).symm.trans (V6_of m outs c main_arg2 (by decide)).symm)).trans (V6_main_arg2 m outs c)
  rw [← e, ← e2]
  generalize hV : V3 m outs c = W
  show StableHlo.after hostOps2_2 (StableHlo.after hostOps2_1 (StableHlo.after hostOps2 (V3 m outs c))) main_v28 = _
  rw [hV]
  simp only [hostOps2, hostOps2_1, hostOps2_2, StableHlo.TRef.ternary, StableHlo.TRef.toBuf, StableHlo.TRef.ofBuf, cast_eq]
  after_results_simp <;> rfl

end

end Cert.KernelIdeal.Loss
-- ==== Proof.Nearest.lean ====
/- A row's columns in order of their values, and the five nearest read through it. -/
module

public import Idealize.ShloMosaic.Lib.Pointwise
public import Idealize.ShloMosaic.Lib.SortFacts
public import Idealize.ShloMosaic.Lib.IdealHost

@[expose] public section

set_option maxRecDepth 16384

noncomputable section

namespace Cert.Nearest

open Idealize.ShloMosaic Idealize.ShloMosaic.Tactic

variable {R N : ℕ}

/-- The columns of a row, the greatest value first. -/
def order (v : Fin N → EReal) : Fin N → Fin N :=
  sortedFrom fun k k' => (FloatOps.cmpfTotal (F := Ideal) (φ := FTy.f32) .gt (v k) (v k')) == 1#1

/-- The `i`-th nearest column. -/
def near (hN : 5 ≤ N) (v : Fin N → EReal) (i : Fin 5) : Fin N := order v (i.castLE hN)

theorem near_injective (hN : 5 ≤ N) (v : Fin N → EReal) : Function.Injective (near hN v) := fun i k h =>
  Fin.castLE_injective hN (sortedFrom_injective _ h)

theorem gt_iff (x y : EReal) : ((FloatOps.cmpfTotal (F := Ideal) (φ := FTy.f32) .gt x y) == 1#1) = decide (y < x) := by
  show (BitVec.ofBool (decide (y < x)) == 1#1) = _
  cases decide (y < x) <;> rfl

theorem near_le (hN : 5 ≤ N) (v : Fin N → EReal) (i k : Fin 5) (h : k ≤ i) : v (near hN v i) ≤ v (near hN v k) := by
  rcases h.lt_or_eq with h | rfl
  · have hB := sortedFrom_noInversion (fun k k' => (FloatOps.cmpfTotal (F := Ideal) (φ := FTy.f32) .gt (v k) (v k')) == 1#1)
      (fun k k' => (FloatOps.cmpfTotal (F := Ideal) (φ := FTy.f32) .gt (v k) (v k')) == 1#1)
      (fun a b g => by
        rw [gt_iff] at g ⊢
        rw [decide_eq_true_iff] at g
        exact decide_eq_false (not_lt.2 g.le))
      (fun a b g => g)
      (fun a b c g g' => by
        rw [gt_iff] at g g' ⊢
        rw [decide_eq_false_iff_not] at g g' ⊢
        exact fun f => g' (lt_of_lt_of_le f (not_lt.1 g)))
      (k.castLE hN) (i.castLE hN) h
    rw [gt_iff, decide_eq_false_iff_not] at hB
    exact not_lt.1 hB
  · exact le_rfl

theorem along_row (b : Fin R) (j k : Fin N) :
    Shape.Idx.along (s := ⟨2, ![R, N]⟩) (ix2 b j) (1 : Fin 2) k = ix2 b k := by
  funext a
  unfold Shape.Idx.along
  fin_cases a
  · exact Function.update_of_ne (show (0 : Fin 2) ≠ 1 by decide) _ _
  · exact Function.update_self _ _ _

theorem order_row (x : FVec Ideal ⟨2, ![R, N]⟩ .f32) (b : Fin R) (j : Fin N) :
    (sortedFrom fun k k' : Fin N => (FloatOps.cmpfTotal (F := Ideal) (φ := FTy.f32) .gt (x (Shape.Idx.along (s := ⟨2, ![R, N]⟩) (ix2 b j) (1 : Fin 2) k))
      (x (Shape.Idx.along (s := ⟨2, ![R, N]⟩) (ix2 b j) (1 : Fin 2) k'))) == 1#1) = order fun k => x (ix2 b k) :=
  congrArg sortedFrom (funext fun k => funext fun k' =>
    congrArg₂ (fun p q => (FloatOps.cmpfTotal (F := Ideal) (φ := FTy.f32) .gt (x p) (x q)) == 1#1) (along_row b j k) (along_row b j k'))

theorem slice_row {α : Type} (hN : 5 ≤ N) (y : (⟨2, ![R, N]⟩ : Shape).Idx → α) (h : (⟨2, ![R, N]⟩ : Shape).Slices (fun _ => 0) ⟨2, ![R, 5]⟩)
    (b : Fin R) (i : Fin 5) : extractStridedSlice ⟨2, ![R, 5]⟩ (fun _ => 0) y h (ix2 b i) = y (ix2 b (i.castLE hN)) := by
  unfold extractStridedSlice
  refine congrArg y (funext fun a => Fin.ext ?_)
  fin_cases a
  · exact Nat.zero_add _
  · exact Nat.zero_add _

theorem topK_value (hN : 5 ≤ N) (x : FVec Ideal ⟨2, ![R, N]⟩ .f32) (h : (⟨2, ![R, N]⟩ : Shape).Slices (fun _ => 0) ⟨2, ![R, 5]⟩) (b : Fin R) (i : Fin 5) :
    (Host.topK ⟨2, ![R, 5]⟩ 1 (FloatOps.cmpfTotal .gt) x h).1 (ix2 b i) = x (ix2 b (near hN (fun k => x (ix2 b k)) i)) := by
  unfold Host.topK
  dsimp only
  rw [slice_row hN]
  unfold Host.sort2
  rw [dif_pos (by show 1 < 2; decide : 1 < (⟨2, ![R, N]⟩ : Shape).rank)]
  exact (congrArg x (along_row b _ _)).trans (congrArg (fun π : Fin N → Fin N => x (ix2 b (π (i.castLE hN)))) (order_row x b _))

theorem topK_index (hN : 5 ≤ N) (x : FVec Ideal ⟨2, ![R, N]⟩ .f32) (h : (⟨2, ![R, N]⟩ : Shape).Slices (fun _ => 0) ⟨2, ![R, 5]⟩) (b : Fin R) (i : Fin 5) :
    (Host.topK ⟨2, ![R, 5]⟩ 1 (FloatOps.cmpfTotal .gt) x h).2 (ix2 b i) = BitVec.ofNat 32 (near hN (fun k => x (ix2 b k)) i).val := by
  unfold Host.topK
  dsimp only
  rw [slice_row hN]
  unfold Host.sort2
  rw [dif_pos (by show 1 < 2; decide : 1 < (⟨2, ![R, N]⟩ : Shape).rank)]
  exact (congrArg (fun z : (⟨2, ![R, N]⟩ : Shape).Idx => BitVec.ofNat 32 (z (1 : Fin 2)).val) (along_row b _ _)).trans
    (congrArg (fun π : Fin N → Fin N => BitVec.ofNat 32 (π (i.castLE hN)).val) (order_row x b _))

end Cert.Nearest

end
-- ==== Proof.First.lean ====
/- The reference's vote: the greatest count's first class, as a fold over the classes in any order. -/
module

public import proofs.«01_k».proof.Proof.Ref.Run
public import proofs.«01_k».proof.Proof.Math
public import Idealize.ShloMosaic.Lib.Pointwise
public import Idealize.ShloMosaic.Lib.IdealHost
public import Idealize.ShloMosaic.Lib.StableHlo.Predicate

@[expose] public section

noncomputable section

namespace Cert.First

open Idealize.ShloMosaic Idealize.ShloMosaic.Tactic
open Cert.ReferenceIdeal Cert.ReferenceIdeal.Gen

theorem neg_inf : Ideal.ofBits .f32 0xFF800000#32 = ⊥ := by
  have h1 : ((0xFF800000#32 : BitVec 32).extractLsb' (8 + 23) 1 == 1#1) = true := by decide
  have h2 : ((0xFF800000#32 : BitVec 32).extractLsb' 23 8).toNat = 255 := by decide
  have h3 : ((0xFF800000#32 : BitVec 32).extractLsb' 0 23).toNat = 0 := by decide
  show Ideal.ieee 8 23 (0xFF800000#32 : BitVec 32) = _
  simp only [Ideal.ieee]
  rw [h1, h2, h3]
  norm_num

theorem pos_inf : Ideal.ofBits .f32 0x7F800000#32 = ⊤ := by
  have h1 : ((0x7F800000#32 : BitVec 32).extractLsb' (8 + 23) 1 == 1#1) = false := by decide
  have h2 : ((0x7F800000#32 : BitVec 32).extractLsb' 23 8).toNat = 255 := by decide
  have h3 : ((0x7F800000#32 : BitVec 32).extractLsb' 0 23).toNat = 0 := by decide
  show Ideal.ieee 8 23 (0x7F800000#32 : BitVec 32) = _
  simp only [Ideal.ieee]
  rw [h1, h2, h3]
  norm_num

/-- `a` comes no later than `b`: a greater value, or the same value at no greater place. -/
def Leads (a b : EReal × BitVec 32) : Prop := b.1 < a.1 ∨ (b.1 = a.1 ∧ a.2.toInt ≤ b.2.toInt)

theorem Leads.refl (a : EReal × BitVec 32) : Leads a a := .inr ⟨rfl, le_rfl⟩

theorem Leads.trans {a b c : EReal × BitVec 32} (h : Leads a b) (g : Leads b c) : Leads a c := by
  rcases h with h | ⟨h, h'⟩ <;> rcases g with g | ⟨g, g'⟩
  · exact .inl (g.trans h)
  · exact .inl (g ▸ h)
  · exact .inl (h ▸ g)
  · exact .inr ⟨g.trans h, h'.trans g'⟩

open Classical in
theorem reducer_eq (a b : EReal × BitVec 32) :
    reducer_argmax_f32_i32 (F := Ideal) a b = if b.1 < a.1 ∨ (a.1 = b.1 ∧ a.2.toInt < b.2.toInt) then a else b := by
  obtain ⟨x, i⟩ := a
  obtain ⟨y, k⟩ := b
  have e1 : FloatOps.cmpf (F := Ideal) (φ := FTy.f32) .ogt x y = BitVec.ofBool (decide (y < x)) := rfl
  have e2 : FloatOps.cmpf (F := Ideal) (φ := FTy.f32) .une x x = 0#1 := by
    show BitVec.ofBool (decide (x ≠ x)) = _
    rw [decide_eq_false (fun h => h rfl)]; rfl
  have e3 : FloatOps.cmpf (F := Ideal) (φ := FTy.f32) .oeq x y = BitVec.ofBool (decide (x = y)) := rfl
  have e4 : IntOp.cmpi .slt i k = BitVec.ofBool (decide (i.toInt < k.toInt)) := by
    show BitVec.ofBool (BitVec.slt _ _) = _
    rw [BitVec.slt_eq_decide]
  unfold reducer_argmax_f32_i32
  simp only [e1, e2, e3, e4]
  by_cases h1 : y < x
  · rw [if_pos (.inl h1), decide_eq_true h1]
    cases decide (x = y) <;> cases decide (i.toInt < k.toInt) <;> rfl
  · rw [decide_eq_false h1]
    by_cases h2 : x = y
    · by_cases h3 : i.toInt < k.toInt
      · rw [if_pos (.inr ⟨h2, h3⟩), decide_eq_true h2, decide_eq_true h3, h2]; rfl
      · rw [if_neg (by rintro (g | g); exact h1 g; exact h3 g.2), decide_eq_true h2, decide_eq_false h3]; rfl
    · rw [if_neg (by rintro (g | g); exact h1 g; exact h2 g.1), decide_eq_false h2]
      cases decide (i.toInt < k.toInt) <;> rfl

theorem reducer_leads (a b : EReal × BitVec 32) :
    Leads (reducer_argmax_f32_i32 (F := Ideal) a b) a ∧ Leads (reducer_argmax_f32_i32 (F := Ideal) a b) b
      ∧ (reducer_argmax_f32_i32 (F := Ideal) a b = a ∨ reducer_argmax_f32_i32 (F := Ideal) a b = b) := by
  rw [reducer_eq]
  split
  · next h =>
    refine ⟨.refl a, ?_, .inl rfl⟩
    rcases h with h | h
    · exact .inl h
    · exact .inr ⟨h.1.symm, h.2.le⟩
  · next h =>
    refine ⟨?_, .refl b, .inr rfl⟩
    rw [not_or] at h
    rcases (not_lt.1 h.1).lt_or_eq with g | g
    · exact .inl g
    · exact .inr ⟨g, not_lt.1 fun f => h.2 ⟨g, f⟩⟩

theorem fold_leads (L : List (EReal × BitVec 32)) (a : EReal × BitVec 32) :
    Leads (L.foldl (reducer_argmax_f32_i32 (F := Ideal)) a) a ∧ (∀ p ∈ L, Leads (L.foldl (reducer_argmax_f32_i32 (F := Ideal)) a) p)
      ∧ (L.foldl (reducer_argmax_f32_i32 (F := Ideal)) a = a ∨ L.foldl (reducer_argmax_f32_i32 (F := Ideal)) a ∈ L) := by
  induction L generalizing a with
  | nil => exact ⟨.refl a, fun p h => absurd h List.not_mem_nil, .inl rfl⟩
  | cons x L ih =>
    obtain ⟨h1, h2, h3⟩ := ih (reducer_argmax_f32_i32 (F := Ideal) a x)
    obtain ⟨g1, g2, g3⟩ := reducer_leads a x
    refine ⟨h1.trans g1, fun p hp => ?_, ?_⟩
    · rcases List.mem_cons.1 hp with rfl | hp
      · exact h1.trans g2
      · exact h2 p hp
    · rw [List.foldl_cons]
      rcases h3 with h3 | h3
      · rw [h3]
        rcases g3 with g3 | g3
        · exact .inl g3
        · exact .inr (by rw [g3]; exact List.mem_cons_self)
      · exact .inr (List.mem_cons_of_mem _ h3)

theorem drop_row (b : Fin 256) (c : Fin 345) : (reducesTo_S256x345_S256_d1).drop (ix2 b c) = ix1 b := by
  funext a
  obtain rfl : a = (0 : Fin 1) := Subsingleton.elim _ _
  rfl

/-- The vote's winner is a class that no class beats and no class before it equals. -/
theorem winner_leads (k : Vec Ideal S256x345 .f32) (b : Fin 256) (hk : ∀ c, (0 : EReal) ≤ k (ix2 b c)) :
    ∃ c : Fin 345, Stage.winner k (ix1 b) = BitVec.ofNat 32 c.val
      ∧ ∀ c' : Fin 345, k (ix2 b c') < k (ix2 b c) ∨ (k (ix2 b c') = k (ix2 b c) ∧ c.val ≤ c'.val) := by
  unfold Stage.winner
  rw [Ideal.argReduce_eq_reduce2, Host.reduce2_eq_foldl_fiber]
  obtain ⟨-, h2, h3⟩ := fold_leads (Host.argReduceFiber k (iotaInDim S256x345 32 1) reducesTo_S256x345_S256_d1 (ix1 b))
    ((constant S_ .f32 0xFF800000#32 : FVec Ideal S_ .f32) (Shape.Idx.first h_S_), (constantI S_ 32 0#32) (Shape.Idx.first h_S_))
  have hmem : ∀ c : Fin 345, (k (ix2 b c), BitVec.ofNat 32 c.val) ∈ Host.argReduceFiber k (iotaInDim S256x345 32 1) reducesTo_S256x345_S256_d1 (ix1 b) := by
    intro c
    unfold Host.argReduceFiber
    refine List.mem_map.2 ⟨S256x345.rowMajor (ix2 b c), ?_, ?_⟩
    · rw [List.mem_filter]
      refine ⟨List.mem_finRange _, ?_⟩
      rw [Equiv.symm_apply_apply, drop_row]
      exact decide_eq_true rfl
    · rw [Equiv.symm_apply_apply]; rfl
  have hback : ∀ p ∈ Host.argReduceFiber k (iotaInDim S256x345 32 1) reducesTo_S256x345_S256_d1 (ix1 b), ∃ c : Fin 345, p = (k (ix2 b c), BitVec.ofNat 32 c.val) := by
    intro p hp
    unfold Host.argReduceFiber at hp
    obtain ⟨n, hn, rfl⟩ := List.mem_map.1 hp
    rw [List.mem_filter] at hn
    have hd := of_decide_eq_true hn.2
    generalize S256x345.rowMajor.symm n = j at hd ⊢
    obtain ⟨b', c, rfl⟩ : ∃ (b' : Fin 256) (c : Fin 345), j = ix2 b' c := ⟨j 0, j 1, eq_ix2 j⟩
    rw [drop_row] at hd
    have h0 : b' = b := congrFun hd (0 : Fin 1)
    exact ⟨c, by rw [h0]; rfl⟩
  generalize Host.argReduceFiber k (iotaInDim S256x345 32 1) reducesTo_S256x345_S256_d1 (ix1 b) = L at h2 h3 hmem hback ⊢
  rcases h3 with h3 | h3
  · exfalso
    have hl := h2 _ (hmem ⟨0, by norm_num⟩)
    rw [h3] at hl
    have hbot : (constant S_ .f32 0xFF800000#32 : FVec Ideal S_ .f32) (Shape.Idx.first h_S_) = (⊥ : EReal) := neg_inf
    have h0 := hk ⟨0, by norm_num⟩
    rcases hl with hl | hl
    · rw [hbot] at hl
      exact not_lt_bot hl
    · have := hl.1
      dsimp only at this
      rw [this, hbot] at h0
      exact absurd h0 (by simp)
  · obtain ⟨c, hc⟩ := hback _ h3
    rw [hc] at h2
    refine ⟨c, congrArg Prod.snd hc, fun c' => ?_⟩
    have small : ∀ d : Fin 345, (BitVec.ofNat 32 d.val).toInt = d.val := fun d => StableHlo.Predicate.toInt_ofNat_small _ (by omega)
    rcases h2 _ (hmem c') with g | g
    · exact .inl g
    · refine .inr ⟨g.1, ?_⟩
      have := g.2
      dsimp only at this
      rw [small, small] at this
      omega

end Cert.First

end
-- ==== Proof.Ref.Read.lean ====
/- The reference's stages read entry by entry, in extended reals. -/
module

public import proofs.«01_k».proof.Proof.Ref.Run
public import proofs.«01_k».proof.Proof.KernelIdeal.Value
public import proofs.«01_k».proof.Proof.Nearest
public import proofs.«01_k».proof.Proof.First
public import proofs.«01_k».proof.Proof.Vote
public import Idealize.ShloMosaic.Lib.ValueIdxCore

@[expose] public section

set_option maxRecDepth 16384

noncomputable section

namespace Cert.ReferenceIdeal.Read

open Idealize.ShloMosaic Idealize.ShloMosaic.TcCoe Idealize.ShloMosaic.Tactic Idealize.SL.Sem
open Cert.ReferenceIdeal Cert.ReferenceIdeal.Gen Cert.ReferenceIdeal.Stage Cert.Bank
open Cert.KernelIdeal.Value (target bank label)

theorem five_le : 5 ≤ 48000 := by norm_num

section

variable (x0 : Vec Ideal S512x512 .f32) (x1 : Vec Ideal S256 .i32) (x3 : Vec Ideal S48000x512 .f32) (x4 : Vec Ideal S48000 .i32)

/-- The cosine similarity of a target row and a bank row. -/
def simOf (b : Fin 256) (j : Fin 48000) : EReal := ∑ k, unit (target x0 b) k * unit (bank x0 x3 j) k

theorem targetN_apply (b : Fin 256) (k : Fin 512) : targetN (targets x0) (ix2 b k) = unit (target x0 b) k := by
  have h : ∀ k : Fin 512, targets x0 (ix2 b k) = target x0 b k := fun k => by pointwise [targets, target]
  unfold targetN
  revert h
  generalize targets x0 = T
  intro h
  pointwise []
  simp only [h]
  rfl

theorem rows_apply (j : Fin 48000) (k : Fin 512) : rows x0 x3 (ix2 j k) = bank x0 x3 j k := by
  unfold rows bank
  refine (scatter2 _ rfl rfl _ _ (fun z => by pointwise []) _ j k).trans ?_
  split
  · pointwise []
  · rfl

theorem queueN_apply (x : Vec Ideal S48000x512 .f32) (j : Fin 48000) (k : Fin 512) : queueN x (ix2 j k) = unit (fun k => x (ix2 j k)) k := by
  pointwise [queueN]
  rfl

theorem sim_apply (b : Fin 256) (j : Fin 48000) : sim x0 x3 (ix2 b j) = simOf x0 x3 b j := by
  have h1 := targetN_apply x0 b
  have h2 : ∀ k, queueN (rows x0 x3) (ix2 j k) = unit (bank x0 x3 j) k := fun k => by
    exact (queueN_apply _ j k).trans (congrArg (fun x => unit x k) (funext fun k => rows_apply x0 x3 j k))
  unfold sim simOf
  revert h1 h2
  generalize targetN (targets x0) = T
  generalize queueN (rows x0 x3) = R
  intro h1 h2
  pointwise []
  simp only [h1, h2]

theorem labels_apply (j : Fin 48000) : labels x1 x4 (ix1 j) = label x1 x4 j := by
  unfold labels label
  exact scatter1 _ rfl _ _ (fun z => by pointwise []) _ j

end

theorem logits_apply (s : Vec Ideal S256x48000 .f32) (b : Fin 256) (j : Fin 48000) : logits s (ix2 b j) = Ideal.div (s (ix2 b j)) temp := by
  pointwise [logits]
  rfl

theorem nearest_apply (s : Vec Ideal S256x48000 .f32) (b : Fin 256) (i : Fin 5) :
    nearest s (ix2 b i) = BitVec.ofNat 32 (Nearest.near five_le (fun k => s (ix2 b k)) i).val :=
  Nearest.topK_index five_le s _ b i

theorem not_neg (n : ℕ) (h : n < 48000) (x : BitVec 32) :
    Scalar.select (IntOp.cmpi CmpIPredicate.slt (BitVec.ofNat 32 n) 0#32) x (BitVec.ofNat 32 n) = BitVec.ofNat 32 n := by
  have e : IntOp.cmpi CmpIPredicate.slt (BitVec.ofNat 32 n) 0#32 = 0#1 := by
    show BitVec.ofBool (BitVec.slt _ _) = _
    rw [BitVec.slt_eq_decide, StableHlo.Predicate.toInt_ofNat_small _ (by omega), show (0#32 : BitVec 32).toInt = 0 by decide, decide_eq_false (by omega)]
    rfl
  rw [e]
  rfl

theorem voters_apply (i : Vec Ideal S256x5 .i32) (l : Vec Ideal S48000 .i32) (b : Fin 256) (t : Fin 5) (a : Fin 48000)
    (h : i (ix2 b t) = BitVec.ofNat 32 a.val) : voters i l (ix2 b t) = l (ix1 a) := by
  unfold voters
  refine (ValueIdx.gather_take_apply (N := 48000) (R := 256) (C := 5) (by norm_num) _ l _ (ix2 b t)).trans (congrArg l (congrArg ix1 (Fin.ext ?_)))
  have e : ValueIdx.takeIdx (ix2 b t) = (ix3 b t (0 : Fin 1) : S256x5x1.Idx) := by
    funext a
    fin_cases a <;> rfl
  have g : (broadcastInDim S256x5x1 ![0, 1] bcast_S256x5_S256x5x1_0_1
      (select (cmpi .slt i (broadcastInDim S256x5 ![] bcast_S_S256x5 (constantI S_ 32 0#32)))
        (addi i (broadcastInDim S256x5 ![] bcast_S_S256x5 (constantI S_ 32 48000#32))) i)) (ix3 b t (0 : Fin 1)) = BitVec.ofNat 32 a.val := by
    pointwise []
    rw [h]
    exact not_neg _ a.isLt _
  dsimp only
  rw [e, g, StableHlo.Predicate.toInt_ofNat_small _ (by omega)]
  have := a.isLt
  omega

theorem counts_apply (n : Vec Ideal S256x5 .i32) (b : Fin 256) (c : Fin 345) :
    counts n (ix2 b c) = ((Vote.votes (fun t => n (ix2 b t)) (BitVec.ofNat 32 c.val) : ℕ) : EReal) := by
  have e : counts n (ix2 b c) = ∑ t : Fin 5, hit (n (ix2 b t)) c.val := by
    unfold counts
    pointwise []
    exact Finset.sum_congr rfl fun t _ => uitofp_hit _ _
  rw [e]
  unfold Vote.votes hit
  rw [Nat.cast_sum]
  refine Finset.sum_congr rfl fun t _ => ?_
  by_cases h : n (ix2 b t) = BitVec.ofNat 32 c.val
  · rw [if_pos h, if_pos h.symm, Nat.cast_one]
  · rw [if_neg h, if_neg (Ne.symm h), Nat.cast_zero]

/-- The reference's winning class wins the vote. -/
theorem winner_wins (n : Vec Ideal S256x5 .i32) (b : Fin 256) :
    ∃ c : Fin 345, winner (counts n) (ix1 b) = BitVec.ofNat 32 c.val ∧ Vote.Wins (fun t => n (ix2 b t)) (BitVec.ofNat 32 c.val) := by
  have hc := counts_apply n b
  generalize counts n = k at hc
  obtain ⟨c, h1, h2⟩ := First.winner_leads k b fun c => by rw [hc, ← EReal.coe_natCast]; exact EReal.coe_nonneg.2 (Nat.cast_nonneg _)
  have small : ∀ d : Fin 345, (BitVec.ofNat 32 d.val).toNat = d.val := fun d => by
    rw [BitVec.toNat_ofNat]; exact Nat.mod_eq_of_lt (by omega)
  refine ⟨c, h1, Vote.first_wins _ _ (by rw [small]; exact c.isLt) fun q hq => ?_⟩
  have h := h2 ⟨q.toNat, hq⟩
  rw [hc, hc, show BitVec.ofNat 32 (⟨q.toNat, hq⟩ : Fin 345).val = q from BitVec.eq_of_toNat_eq (small ⟨q.toNat, hq⟩)] at h
  rw [small]
  rcases h with h | ⟨h, h'⟩
  · exact .inl (by exact_mod_cast h)
  · exact .inr ⟨by exact_mod_cast h, h'⟩

theorem mask_apply (l : Vec Ideal S48000 .i32) (w : Vec Ideal S256 .i32) (b : Fin 256) (j : Fin 48000) (c : ℕ) (hw : w (ix1 b) = BitVec.ofNat 32 c) :
    mask l w (ix2 b j) = hit (l (ix1 j)) c := by
  unfold mask
  pointwise []
  rw [hw]
  exact uitofp_hit _ _

/-- A row's greatest value. -/
def rowMax (g : Vec Ideal S256x48000 .f32) (b : Fin 256) : EReal := Finset.univ.fold max ⊥ fun k : Fin 48000 => g (ix2 b k)

theorem shifted_apply (g : Vec Ideal S256x48000 .f32) (b : Fin 256) (j : Fin 48000) : shifted g (ix2 b j) = g (ix2 b j) - rowMax g b := by
  unfold shifted rowMax
  rw [← First.neg_inf]
  pointwise []

theorem logp_apply (h : Vec Ideal S256x48000 .f32) (b : Fin 256) (j : Fin 48000) :
    logp h (ix2 b j) = h (ix2 b j) - Ideal.log (∑ k, Ideal.exp (h (ix2 b k))) := by
  unfold logp
  pointwise []

theorem perRow_apply (k p : Vec Ideal S256x48000 .f32) (b : Fin 256) :
    perRow k p (ix1 b) = Ideal.div (∑ j, k (ix2 b j) * p (ix2 b j)) (max (∑ j, k (ix2 b j)) 1) := by
  unfold perRow
  pointwise []

theorem loss_apply (r : Vec Ideal S256 .f32) (i : S_.Idx) : loss r i = -Ideal.div (∑ b, r (ix1 b)) (Ideal.ofBits .f32 0x43800000#32) := by
  unfold loss
  pointwise []

theorem max_real {ι : Type} [Fintype ι] [Nonempty ι] (f : ι → EReal) (h : ∀ i, ∃ r : ℝ, f i = r) : ∃ M : ℝ, Finset.univ.fold max ⊥ f = (M : EReal) := by
  have h1 : Finset.univ.fold max ⊥ f < ⊤ := (Finset.fold_max_lt _).2 ⟨bot_lt_top, fun i _ => by
    obtain ⟨r, hr⟩ := h i
    rw [hr]; exact EReal.coe_lt_top r⟩
  have h2 : ⊥ < Finset.univ.fold max ⊥ f := (Finset.lt_fold_max _).2 (.inr ⟨Classical.arbitrary ι, Finset.mem_univ _, by
    obtain ⟨r, hr⟩ := h (Classical.arbitrary ι)
    rw [hr]; exact EReal.bot_lt_coe r⟩)
  exact ⟨_, (EReal.coe_toReal h1.ne h2.ne').symm⟩

end Cert.ReferenceIdeal.Read

end
-- ==== Proof.Row.lean ====
/- One target row apart from any program: its similarities are reals of size at most 1, its five nearest columns
   stand apart, so the keys order as the similarities do, and the two ways of writing the row's loss agree. -/
module

public import proofs.«01_k».proof.Proof.Math
public import proofs.«01_k».proof.Proof.Word
public import proofs.«01_k».proof.Proof.Nearest
public import Mathlib.Algebra.Order.BigOperators.Group.Finset
public import Mathlib.Algebra.Order.BigOperators.Ring.Finset

@[expose] public section

noncomputable section

namespace Cert.Row

open Idealize.ShloMosaic Cert.Bank Cert.Word

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem eps_pos : ∃ e : ℝ, 0 < e ∧ eps = (e : EReal) := by
  have h1 : ((0x2B8CBCCC#32 : BitVec 32).extractLsb' (8 + 23) 1 == 1#1) = false := by decide
  have h2 : ((0x2B8CBCCC#32 : BitVec 32).extractLsb' 23 8).toNat = 87 := by decide
  have h3 : ((0x2B8CBCCC#32 : BitVec 32).extractLsb' 0 23).toNat = 834764 := by decide
  have e : ∃ e : ℝ, 0 < e ∧ Ideal.ieee 8 23 (0x2B8CBCCC#32 : BitVec 32) = (e : EReal) := by
    simp only [Ideal.ieee]
    rw [h1, h2, h3, if_neg (by norm_num), if_neg (by norm_num)]
    refine ⟨_, ?_, rfl⟩
    norm_num
  exact e

theorem square_nonneg (x : EReal) : 0 ≤ x * x := by
  induction x with
  | bot => simp
  | top => simp
  | coe r => rw [← EReal.coe_mul]; exact_mod_cast mul_self_nonneg r

/-- A real row over its norm is a real row of norm at most 1. -/
theorem unit_of_real (x : Fin 512 → EReal) (h : ∀ k, ∃ r : ℝ, x k = r) : ∃ u : Fin 512 → ℝ, (∀ k, unit x k = u k) ∧ ∑ k, u k ^ 2 ≤ 1 := by
  choose r hr using h
  obtain ⟨e, he, hee⟩ := eps_pos
  have hs : (∑ k, x k * x k) = ((∑ k, r k ^ 2 : ℝ) : EReal) := by
    rw [← sum_coe]
    exact Finset.sum_congr rfl fun k _ => by rw [hr, ← EReal.coe_mul, pow_two]
  have h0 : (0 : ℝ) ≤ ∑ k, r k ^ 2 := Finset.sum_nonneg fun k _ => sq_nonneg _
  set R := ∑ k, r k ^ 2 with hR
  have hn : Bank.norm x = ((max (Real.sqrt R) e : ℝ) : EReal) := by
    unfold Bank.norm
    rw [hs, Ideal.sqrt_coe, if_neg (not_lt.2 h0), hee]
    exact (EReal.coe_strictMono.monotone.map_max).symm
  set n := max (Real.sqrt R) e with hnn
  have hpos : 0 < n := lt_max_of_lt_right he
  have hge : R ≤ n ^ 2 := by
    have : Real.sqrt R ≤ n := le_max_left _ _
    calc R = Real.sqrt R ^ 2 := (Real.sq_sqrt h0).symm
      _ ≤ n ^ 2 := by gcongr
  refine ⟨fun k => r k * (1 / n), fun k => ?_, ?_⟩
  · show Ideal.div (x k) (Bank.norm x) = _
    rw [hn, Ideal.div_coe hpos.ne', hr, ← EReal.coe_mul]
  · simp only [mul_pow]
    rw [← Finset.sum_mul, ← hR, one_div, inv_pow, ← div_eq_mul_inv, div_le_one (by positivity)]
    exact hge

/-- A row with an infinite entry has infinite norm. -/
theorem norm_top (x : Fin 512 → EReal) (k : Fin 512) (h : ∀ r : ℝ, x k ≠ r) : Bank.norm x = ⊤ := by
  have h1 : x k * x k = ⊤ := by
    generalize x k = y at h
    induction y with
    | bot => exact EReal.bot_mul_bot
    | top => exact EReal.top_mul_top
    | coe r => exact absurd rfl (h r)
  have h2 : (∑ k, x k * x k) = ⊤ :=
    top_le_iff.1 (h1 ▸ Finset.single_le_sum (f := fun k => x k * x k) (fun i _ => square_nonneg (x i)) (Finset.mem_univ k))
  unfold Bank.norm
  rw [h2]
  exact max_eq_left le_top

/-- Any row over its norm is a real row of norm at most 1. -/
theorem unit_real (x : Fin 512 → EReal) : ∃ u : Fin 512 → ℝ, (∀ k, unit x k = u k) ∧ ∑ k, u k ^ 2 ≤ 1 := by
  by_cases h : ∀ k, ∃ r : ℝ, x k = r
  · exact unit_of_real x h
  · push Not at h
    obtain ⟨k, hk⟩ := h
    refine ⟨fun _ => 0, fun j => ?_, by simp⟩
    show Ideal.div (x j) (Bank.norm x) = _
    rw [norm_top x k hk]
    unfold Ideal.div
    rw [if_neg EReal.top_ne_zero, EReal.inv_top, mul_zero, EReal.coe_zero]

/-- Two rows' similarity is a real of size at most 1. -/
theorem sim_real (x y : Fin 512 → EReal) :
    ∃ s : ℝ, (∑ k, unit x k * unit y k) = (s : EReal) ∧ -1 ≤ s ∧ s ≤ 1 := by
  obtain ⟨u, hu, hu1⟩ := unit_real x
  obtain ⟨v, hv, hv1⟩ := unit_real y
  have hc := Finset.sum_mul_sq_le_sq_mul_sq Finset.univ u v
  have h0 : (0 : ℝ) ≤ ∑ k, u k ^ 2 := Finset.sum_nonneg fun k _ => sq_nonneg _
  have h1 : (0 : ℝ) ≤ ∑ k, v k ^ 2 := Finset.sum_nonneg fun k _ => sq_nonneg _
  have h2 : (∑ k, u k * v k) ^ 2 ≤ 1 := hc.trans (mul_le_one₀ hu1 h1 hv1)
  refine ⟨∑ k, u k * v k, ?_, ?_, ?_⟩
  · rw [← sum_coe]
    exact Finset.sum_congr rfl fun k _ => by rw [hu, hv, EReal.coe_mul]
  · nlinarith
  · nlinarith

/-- A similarity over the temperature. -/
def over (s : ℝ) : ℝ := s * (134217728 / 9395241)

theorem over_eq (s : ℝ) : Ideal.div (s : EReal) temp = ((over s : ℝ) : EReal) := by
  rw [← div_temp, ← EReal.coe_mul]; rfl

/-- The width within which the kernel may not tell two similarities apart. -/
def gap : ℝ := 9395241 / 137438953472

section Keys

variable (s : Fin 48000 → ℝ) (l : Fin 48000 → BitVec 32) (h1 : ∀ j, -1 ≤ s j) (h2 : ∀ j, s j ≤ 1) (hl : ∀ j, (l j).toNat < 345)

/-- A column's key. -/
def keyOf (j : Fin 48000) : BitVec 32 := key (((over (s j) + 16 : ℝ)) : EReal) (l j)

include h1 h2

theorem key_range (j : Fin 48000) : 1 ≤ over (s j) + 16 ∧ over (s j) + 16 < 32 := by
  have := h1 j
  have := h2 j
  unfold over
  constructor <;> linarith

include hl

theorem keyOf_toInt (j : Fin 48000) : (keyOf s l j).toInt = 512 * ((word (over (s j) + 16) / 512 : ℕ) : ℤ) + (511 - (l j).toNat) :=
  key_toInt (key_range s h1 h2 j).1 (key_range s h1 h2 j).2 _ (hl j)

theorem key_lt (c d : Fin 48000) (h : s c ≤ s d - gap) : (keyOf s l c).toInt < (keyOf s l d).toInt := by
  rw [keyOf_toInt s l h1 h2 hl, keyOf_toInt s l h1 h2 hl]
  have hw := word_apart (key_range s h1 h2 c).1 (key_range s h1 h2 d).2 (by
    unfold gap at h
    unfold over
    linarith)
  have := hl c
  have := hl d
  omega

/-- A key's low bits give the label back. -/
theorem label_back (j : Fin 48000) : IntOp.subi 511#32 (IntOp.andi (keyOf s l j) 511#32) = l j := by
  have ht := keyOf_toInt s l h1 h2 hl j
  have hw := word_lt (key_range s h1 h2 j).1 (key_range s h1 h2 j).2
  have hj := hl j
  have hn : (keyOf s l j).toNat = 512 * (word (over (s j) + 16) / 512) + (511 - (l j).toNat) := by
    rw [BitVec.toInt_eq_toNat_cond] at ht
    have := (keyOf s l j).isLt
    split at ht <;> omega
  have hand : (keyOf s l j &&& 511#32).toNat = 511 - (l j).toNat := by
    rw [BitVec.toNat_and, show (511#32 : BitVec 32).toNat = 2 ^ 9 - 1 by decide, Nat.and_two_pow_sub_one_eq_mod, hn]
    omega
  apply BitVec.eq_of_toNat_eq
  show (511#32 - (keyOf s l j &&& 511#32)).toNat = _
  rw [BitVec.toNat_sub, hand, show (511#32 : BitVec 32).toNat = 511 by decide]
  omega

variable (a : Fin 5 → Fin 48000) (ha : Function.Injective a) (hm : ∀ i k : Fin 5, k ≤ i → s (a i) ≤ s (a k))
  (hc : (Finset.univ.filter fun c => s (a 4) - gap < s c).card = 5)

include ha hm hc

omit h1 h2 hl in
/-- The columns not far below the fifth nearest are the five nearest. -/
theorem above (c : Fin 48000) (h : s (a 4) - gap < s c) : ∃ k, c = a k := by
  have hsub : Finset.univ.image a ⊆ Finset.univ.filter fun c => s (a 4) - gap < s c := by
    intro x hx
    obtain ⟨k, hk, rfl⟩ := Finset.mem_image.1 hx
    refine Finset.mem_filter.2 ⟨Finset.mem_univ _, ?_⟩
    have := hm 4 k (by omega)
    have : (0 : ℝ) < gap := by unfold gap; norm_num
    linarith
  have heq := Finset.eq_of_subset_of_card_le hsub (by
    rw [hc, Finset.card_image_of_injective _ ha, Finset.card_univ, Fintype.card_fin])
  have hmem : c ∈ Finset.univ.image a := heq ▸ Finset.mem_filter.2 ⟨Finset.mem_univ _, h⟩
  obtain ⟨k, _, e⟩ := Finset.mem_image.1 hmem
  exact ⟨k, e.symm⟩

/-- Every other column's key is less than each of theirs. -/
theorem keys_others (c : Fin 48000) (h : ∀ i, c ≠ a i) (i : Fin 5) : (keyOf s l c).toInt < (keyOf s l (a i)).toInt := by
  refine key_lt s l h1 h2 hl _ _ (not_lt.1 fun g => ?_)
  obtain ⟨k, e⟩ := above s a ha hm hc c (by
    have := hm 4 i (by omega)
    linarith)
  exact h k e

/-- A column whose key is not less than one of theirs is as near as the fifth. -/
theorem keys_near (c : Fin 48000) (i : Fin 5) (h : (keyOf s l (a i)).toInt ≤ (keyOf s l c).toInt) : s (a 4) - gap < s c := by
  by_contra g
  have hne : ∀ k, c ≠ a k := fun k e => g (by
    have := hm 4 k (by omega)
    have : (0 : ℝ) < gap := by unfold gap; norm_num
    rw [e]
    linarith)
  exact absurd (keys_others s l h1 h2 hl a ha hm hc c hne i) (not_lt.2 h)

omit ha hm hc

variable (ht : ∀ i k : Fin 5, i < k → s (a k) ≤ s (a i) - gap ∨ l (a i) ≠ l (a k))
include ht

/-- The five keys differ. -/
theorem keys_differ (i k : Fin 5) (h : i < k) : keyOf s l (a i) ≠ keyOf s l (a k) := fun e => by
  rcases ht i k h with g | g
  · have := key_lt s l h1 h2 hl _ _ g
    rw [e] at this
    exact lt_irrefl _ this
  · exact g (by rw [← label_back s l h1 h2 hl (a i), e, label_back s l h1 h2 hl (a k)])

/-- The five columns in the order of their keys. -/
theorem keys_order : ∃ σ : Equiv.Perm (Fin 5), ∀ i j : Fin 5, i < j → (keyOf s l (a (σ j))).toInt < (keyOf s l (a (σ i))).toInt := by
  obtain ⟨τ, hinj, hle⟩ : ∃ τ : Fin 5 → Fin 5, Function.Injective τ ∧ ∀ j i : Fin 5, i ≤ j →
      (((keyOf s l (a (τ j))).toInt : ℝ) : EReal) ≤ (((keyOf s l (a (τ i))).toInt : ℝ) : EReal) :=
    ⟨_, Nearest.near_injective le_rfl fun i : Fin 5 => (((keyOf s l (a i)).toInt : ℝ) : EReal),
      Nearest.near_le le_rfl fun i : Fin 5 => (((keyOf s l (a i)).toInt : ℝ) : EReal)⟩
  refine ⟨Equiv.ofBijective τ (Finite.injective_iff_bijective.1 hinj), fun i j h => ?_⟩
  show (keyOf s l (a (τ j))).toInt < (keyOf s l (a (τ i))).toInt
  have hne : τ j ≠ τ i := fun e => absurd (hinj e) (ne_of_gt h)
  have g := hle j i h.le
  have g' : (keyOf s l (a (τ j))).toInt ≤ (keyOf s l (a (τ i))).toInt := by exact_mod_cast EReal.coe_le_coe_iff.1 g
  refine g'.lt_of_ne fun e => ?_
  have e' := BitVec.eq_of_toInt_eq e
  rcases lt_trichotomy (τ j) (τ i) with f | f | f
  · exact keys_differ s l h1 h2 hl a ht _ _ f e'
  · exact hne f
  · exact keys_differ s l h1 h2 hl a ht _ _ f e'.symm

end Keys

/-- The kernel's row and the reference's: the class's logits' sum over its count less the log of the sum of exponentials,
    and the mean of the class's log-probabilities taken from logits less a constant. -/
theorem rows_agree {ι : Type} [Fintype ι] [Nonempty ι] (r h : ι → ℝ) (M : ℝ) (hN : 1 ≤ ∑ j, h j) :
    Ideal.div (∑ j, (r j : EReal) * (h j : EReal)) (max (∑ j, (h j : EReal)) 1) - Ideal.log (∑ j, Ideal.exp (r j : EReal))
      = Ideal.div (∑ j, (h j : EReal) * (((r j : EReal) - (M : EReal)) - Ideal.log (∑ j, Ideal.exp ((r j : EReal) - (M : EReal)))))
          (max (∑ j, (h j : EReal)) 1) := by
  have hZ : 0 < ∑ j, Real.exp (r j) := Finset.sum_pos (fun j _ => Real.exp_pos _) Finset.univ_nonempty
  have hZM : ∑ j, Real.exp (r j - M) = (∑ j, Real.exp (r j)) * Real.exp (-M) := by
    rw [Finset.sum_mul]
    exact Finset.sum_congr rfl fun j _ => by rw [← Real.exp_add, sub_eq_add_neg]
  have hZ' : 0 < ∑ j, Real.exp (r j - M) := by rw [hZM]; positivity
  have hlog : Real.log (∑ j, Real.exp (r j - M)) = Real.log (∑ j, Real.exp (r j)) - M := by
    rw [hZM, Real.log_mul hZ.ne' (Real.exp_pos _).ne', Real.log_exp]; ring
  have hmax : max (((∑ j, h j : ℝ)) : EReal) 1 = ((∑ j, h j : ℝ) : EReal) := max_eq_left (by exact_mod_cast hN)
  have hN0 : (∑ j, h j) ≠ 0 := by linarith
  have e : ∀ j, (h j : EReal) * (((r j : EReal) - (M : EReal)) - ((Real.log (∑ j, Real.exp (r j)) - M : ℝ) : EReal))
      = ((h j * (r j - Real.log (∑ j, Real.exp (r j))) : ℝ) : EReal) := by
    intro j
    rw [← EReal.coe_sub, ← EReal.coe_sub, ← EReal.coe_mul]
    congr 1
    ring
  simp only [← EReal.coe_sub, Ideal.exp_coe, ← EReal.coe_mul, sum_coe, Ideal.log_coe, if_neg (not_le.2 hZ), if_neg (not_le.2 hZ'), hlog]
  rw [hmax, Ideal.div_coe hN0, Ideal.div_coe hN0, ← EReal.coe_mul, ← EReal.coe_mul, ← EReal.coe_sub]
  congr 1
  have e2 : (∑ j, h j * (r j - M - (Real.log (∑ j, Real.exp (r j)) - M))) = (∑ j, r j * h j) - (∑ j, h j) * Real.log (∑ j, Real.exp (r j)) := by
    rw [Finset.sum_mul, ← Finset.sum_sub_distrib]
    exact Finset.sum_congr rfl fun j _ => by ring
  rw [e2]
  field_simp

end Cert.Row

end
-- ==== Proof.Separated.lean ====
/- What the precondition says of the arguments, entry by entry. -/
module

public import proofs.«01_k».proof.Proof.Gen.Pre_separated
public import proofs.«01_k».proof.Proof.KernelIdeal.Value
public import proofs.«01_k».proof.Proof.Ref.Read
public import proofs.«01_k».proof.Proof.Near
public import proofs.«01_k».proof.Proof.Row
public import Idealize.ShloMosaic.Lib.ReduceAll

@[expose] public section

set_option maxRecDepth 16384

noncomputable section

namespace Cert.Separated

open Idealize.ShloMosaic Idealize.ShloMosaic.Tactic
open Cert.Pre_separated Cert.Pre_separated.Gen Cert.Bank
open Cert.KernelIdeal.Value (target bank label)
open Cert.ReferenceIdeal.Read (simOf five_le)

/-- 1 where `y < x`, else 0. -/
def above (x y : EReal) : EReal := if y < x then 1 else 0

theorem both {x y : BitVec 1} (h : IntOp.andi x y = 1#1) : x = 1#1 ∧ y = 1#1 := by
  revert x y
  decide

theorem of_bool {p : Bool} (h : BitVec.ofBool p = 1#1) : p = true := by
  cases p
  · exact absurd h (by decide)
  · rfl

theorem uitofp_ogt (x y : EReal) : (FloatOps.uitofp FTy.f32 (BitVec.ofBool (decide (y < x))) : Ideal .f32) = above x y := by
  show (((BitVec.ofBool (decide (y < x))).toNat : ℝ) : EReal) = _
  unfold above
  by_cases h : y < x
  · rw [if_pos h, decide_eq_true h, show (BitVec.ofBool true).toNat = 1 by decide]; norm_num
  · rw [if_neg h, decide_eq_false h, show (BitVec.ofBool false).toNat = 0 by decide]; norm_num

theorem gap_eq : Ideal.ofBits .f32 0x388F5C29#32 = ((Row.gap : ℝ) : EReal) := by
  have h1 : ((0x388F5C29#32 : BitVec 32).extractLsb' (8 + 23) 1 == 1#1) = false := by decide
  have h2 : ((0x388F5C29#32 : BitVec 32).extractLsb' 23 8).toNat = 113 := by decide
  have h3 : ((0x388F5C29#32 : BitVec 32).extractLsb' 0 23).toNat = 1006633 := by decide
  show Ideal.ieee 8 23 (0x388F5C29#32 : BitVec 32) = _
  simp only [Ideal.ieee]
  rw [h1, h2, h3]
  unfold Row.gap
  norm_num

theorem two_eq : Ideal.ofBits .f32 0x40000000#32 = ((2 : ℝ) : EReal) := by
  have h1 : ((0x40000000#32 : BitVec 32).extractLsb' (8 + 23) 1 == 1#1) = false := by decide
  have h2 : ((0x40000000#32 : BitVec 32).extractLsb' 23 8).toNat = 128 := by decide
  have h3 : ((0x40000000#32 : BitVec 32).extractLsb' 0 23).toNat = 0 := by decide
  show Ideal.ieee 8 23 (0x40000000#32 : BitVec 32) = _
  simp only [Ideal.ieee]
  rw [h1, h2, h3]
  norm_num

theorem five_eq : Ideal.ofBits .f32 0x40A00000#32 = ((5 : ℝ) : EReal) := by
  have h1 : ((0x40A00000#32 : BitVec 32).extractLsb' (8 + 23) 1 == 1#1) = false := by decide
  have h2 : ((0x40A00000#32 : BitVec 32).extractLsb' 23 8).toNat = 129 := by decide
  have h3 : ((0x40A00000#32 : BitVec 32).extractLsb' 0 23).toNat = 2097152 := by decide
  show Ideal.ieee 8 23 (0x40A00000#32 : BitVec 32) = _
  simp only [Ideal.ieee]
  rw [h1, h2, h3]
  norm_num

theorem in_range (x : BitVec 32) (h : IntOp.andi (IntOp.cmpi CmpIPredicate.sge x 0#32) (IntOp.cmpi CmpIPredicate.slt x 345#32) = 1#1) :
    0 ≤ x.toInt ∧ x.toInt < 345 := by
  obtain ⟨h1, h2⟩ := both h
  have g1 : BitVec.ofBool (BitVec.sle 0#32 x) = 1#1 := h1
  have g2 : BitVec.ofBool (BitVec.slt x 345#32) = 1#1 := h2
  have e1 := of_bool g1
  have e2 := of_bool g2
  rw [BitVec.sle_eq_decide, decide_eq_true_iff] at e1
  rw [BitVec.slt_eq_decide, decide_eq_true_iff] at e2
  exact ⟨e1, e2⟩

theorem nat_range (x : BitVec 32) (h : 0 ≤ x.toInt ∧ x.toInt < 345) : x.toNat < 345 := by
  obtain ⟨h1, h2⟩ := h
  rw [BitVec.toInt_eq_toNat_cond] at h1 h2
  have := x.isLt
  split at h1 <;> split at h2 <;> omega

theorem either {x y : BitVec 1} (h : IntOp.ori x y = 1#1) : x = 1#1 ∨ y = 1#1 := by
  revert x y
  decide

theorem of_ne {x y : BitVec 32} (h : IntOp.cmpi CmpIPredicate.ne x y = 1#1) : x ≠ y := by
  have g : BitVec.ofBool (x != y) = 1#1 := h
  exact bne_iff_ne.1 (of_bool g)

theorem of_sge {i k : Fin 5} (h : IntOp.cmpi CmpIPredicate.sge (BitVec.ofNat 32 i.val) (BitVec.ofNat 32 k.val) = 1#1) : k ≤ i := by
  have g : BitVec.ofBool (BitVec.sle (BitVec.ofNat 32 k.val) (BitVec.ofNat 32 i.val)) = 1#1 := h
  have e := of_bool g
  rw [BitVec.sle_eq_decide, decide_eq_true_iff, StableHlo.Predicate.toInt_ofNat_small _ (by omega), StableHlo.Predicate.toInt_ofNat_small _ (by omega)] at e
  exact_mod_cast e

/-- The place of chunk `k`, lane `l` of block `n`. -/
def place (n : Fin 15) (k : Fin 25) (l : Fin 128) : Fin 48000 := ⟨Near.col n.val k.val l.val, by unfold Near.col; omega⟩

theorem part4 (a c : IVec S_ 1) (N : FVec Ideal S256x48000 .f32) (V : FVec Ideal S256x5 .f32) (r : IVec S5 32) (d : IVec S256x5x5 1)
    (hr : ∀ i : Fin 5, r (ix1 i) = BitVec.ofNat 32 i.val) (i : S_.Idx) (h : fn_part4 (F := Ideal) a N c V r d i = 1#1) :
    a i = 1#1 ∧ c i = 1#1
      ∧ (∀ (b : Fin 256) (i k : Fin 5), i < k → d (ix3 b i k) = 1#1 ∨ V (ix2 b i) ≠ V (ix2 b k))
      ∧ ∀ (b : Fin 256) (n : Fin 15) (l : Fin 128), (∑ k : Fin 25, N (ix2 b (place n k l))) ≤ ((2 : ℝ) : EReal) := by
  unfold fn_part4 fn_part5 at h
  obtain ⟨h, h4⟩ := both h
  obtain ⟨h, h3⟩ := both h
  obtain ⟨h1, h2⟩ := both h
  refine ⟨h1, h2, fun b x k hxk => ?_, fun b n l => ?_⟩
  · have g := Host.reduce_andi_all _ _ _ _ i h3 (ix3 b x k)
    pointwise [] at g
    rcases either g with g | g
    · exact (either g).imp id fun f => of_decide_eq_true (of_bool f)
    · rw [hr, hr] at g
      exact absurd (of_sge g) (not_le.2 hxk)
  · have g := Host.reduce_andi_all _ _ _ _ i h4 (ix3 b n l)
    pointwise [] at g
    rw [two_eq] at g
    exact of_decide_eq_true (of_bool g)

/-- The sum that picks a column's label. -/
theorem picked (a : Fin 48000) (f : Fin 48000 → EReal) :
    (∑ j : Fin 48000, Scalar.select (IntOp.cmpi CmpIPredicate.eq (BitVec.ofNat 32 a.val) (BitVec.ofNat 32 j.val)) (f j) 0) = f a := by
  have e : ∀ j : Fin 48000, Scalar.select (IntOp.cmpi CmpIPredicate.eq (BitVec.ofNat 32 a.val) (BitVec.ofNat 32 j.val)) (f j) 0
      = if a = j then f j else 0 := fun j => by
    show (if BitVec.ofBool (BitVec.ofNat 32 a.val == BitVec.ofNat 32 j.val) = 1#1 then f j else 0) = _
    by_cases h : a = j
    · rw [if_pos h, h, beq_self_eq_true]; rfl
    · have g : BitVec.ofNat 32 a.val ≠ BitVec.ofNat 32 j.val := fun e => h (Fin.ext (by
        have e' := congrArg BitVec.toNat e
        rw [BitVec.toNat_ofNat, BitVec.toNat_ofNat, Nat.mod_eq_of_lt (by omega), Nat.mod_eq_of_lt (by omega)] at e'
        exact e'))
      rw [if_neg h, beq_eq_false_iff_ne.2 g]; rfl
  simp only [e]
  rw [Finset.sum_ite_eq, if_pos (Finset.mem_univ a)]

/-- What part 3 says of the five nearest's similarities and of their columns. -/
theorem part3 (x1 : IVec S256 32) (x4 : IVec S48000 32) (a : IVec S_ 1) (T : FVec Ideal S256x5 .f32) (J : IVec S256x5 32)
    (N : FVec Ideal S256x48000 .f32) (p : IVec S256 1) (near : Fin 256 → Fin 5 → Fin 48000)
    (hJ : ∀ b t, J (ix2 b t) = BitVec.ofNat 32 (near b t).val)
    (i : S_.Idx) (h : fn_part3 (F := Ideal) x1 x4 a T J N p (constantI S_ 1 1#1) i = 1#1) :
    a i = 1#1 ∧ (∀ b : Fin 256, p (ix1 b) = 1#1)
      ∧ (∀ (b : Fin 256) (i k : Fin 5), i < k → ((Row.gap : ℝ) : EReal) ≤ T (ix2 b i) - T (ix2 b k) ∨ label x1 x4 (near b i) ≠ label x1 x4 (near b k))
      ∧ ∀ (b : Fin 256) (n : Fin 15) (l : Fin 128), (∑ k : Fin 25, N (ix2 b (place n k l))) ≤ ((2 : ℝ) : EReal) := by
  have hL : ∀ j, Host.scatter scatter_S48000_S1_S256_0_n_0_0 (fun _ b => b) x4 (broadcastInDim S1 ![] bcast_S_S1 (constantI S_ 32 0#32)) x1 (ix1 j)
      = label x1 x4 j := fun j => by
    unfold label
    exact scatter1 _ rfl _ _ (fun z => by pointwise []) _ j
  unfold fn_part3 at h
  dsimp only at h
  revert h hL
  generalize Host.scatter scatter_S48000_S1_S256_0_n_0_0 _ _ _ _ = L
  intro h hL
  obtain ⟨h1, h2, h3, h4⟩ := part4 _ _ _ _ _ _ (fun i => by pointwise []) i h
  refine ⟨h1, fun b => Host.reduce_andi_all _ _ _ _ i h2 (ix1 b), fun b x k hxk => ?_, h4⟩
  refine (h3 b x k hxk).imp (fun g => ?_) fun g e => g ?_
  · pointwise [] at g
    rw [gap_eq] at g
    exact of_decide_eq_true (of_bool g)
  · pointwise [fn_where]
    simp only [hJ, hL]
    have z : id (constant (F := Ideal) S_ .f32 0x00000000#32) ix0 = (0 : EReal) := by
      unfold id
      pointwise []
    simp only [z]
    refine (picked (near b x) _).trans (Eq.trans ?_ (picked (near b k) _).symm)
    exact congrArg _ e

/-- What the similarities `S` and the labels say of the five nearest: no sixth column is near the fifth, no two of one label are
near each other, no three lie in one lane of a block. -/
def Apart (x1 : IVec S256 32) (x4 : IVec S48000 32) (S : Fin 256 → Fin 48000 → EReal) : Prop :=
  (∀ b : Fin 256, (∑ j : Fin 48000, above (S b j) (S b (Nearest.near five_le (S b) 4) - ((Row.gap : ℝ) : EReal))) = ((5 : ℝ) : EReal))
      ∧ (∀ (b : Fin 256) (i k : Fin 5), i < k → ((Row.gap : ℝ) : EReal) ≤ S b (Nearest.near five_le (S b) i) - S b (Nearest.near five_le (S b) k)
          ∨ label x1 x4 (Nearest.near five_le (S b) i) ≠ label x1 x4 (Nearest.near five_le (S b) k))
      ∧ ∀ (b : Fin 256) (n : Fin 15) (l : Fin 128),
        (∑ k : Fin 25, above (S b (place n k l)) (S b (Nearest.near five_le (S b) 4) - ((Row.gap : ℝ) : EReal))) ≤ ((2 : ℝ) : EReal)

/-- What parts 2 and 3 say of the similarities. -/
theorem core (x1 : IVec S256 32) (x4 : IVec S48000 32) (a : IVec S_ 1) (S : FVec Ideal S256x48000 .f32) (i : S_.Idx)
    (h : fn_part3 (F := Ideal) x1 x4 a (Host.topK S256x5 1 (FloatOps.cmpfTotal (F := Ideal) (φ := FTy.f32) .gt) S sliceFits_S256x48000_S256x5).1
      (Host.topK S256x5 1 (FloatOps.cmpfTotal (F := Ideal) (φ := FTy.f32) .gt) S sliceFits_S256x48000_S256x5).2
      (uitofp .f32 (cmpf .ogt S (broadcastInDim S256x48000 ![0, 1] bcast_S256x1_S256x48000_0_1
        (subf (F := Ideal) (φ := .f32) (extractStridedSlice S256x1 ![0, 4] (Host.topK S256x5 1 (FloatOps.cmpfTotal (F := Ideal) (φ := FTy.f32) .gt) S sliceFits_S256x48000_S256x5).1 slices_S256x5_S256x1_0_4)
          (broadcastInDim S256x1 ![] bcast_S_S256x1 (constant (F := Ideal) S_ .f32 0x388F5C29#32))))))
      (cmpf .oeq (Host.reduceAdd (uitofp .f32 (cmpf .ogt S (broadcastInDim S256x48000 ![0, 1] bcast_S256x1_S256x48000_0_1
        (subf (F := Ideal) (φ := .f32) (extractStridedSlice S256x1 ![0, 4] (Host.topK S256x5 1 (FloatOps.cmpfTotal (F := Ideal) (φ := FTy.f32) .gt) S sliceFits_S256x48000_S256x5).1 slices_S256x5_S256x1_0_4)
          (broadcastInDim S256x1 ![] bcast_S_S256x1 (constant (F := Ideal) S_ .f32 0x388F5C29#32)))))) (constant S_ .f32 0x00000000#32) reducesTo_S256x48000_S256_d1 h_S_)
        (broadcastInDim S256 ![] bcast_S_S256 (constant (F := Ideal) S_ .f32 0x40A00000#32)))
      (constantI S_ 1 1#1) i = 1#1)
    (s : Fin 256 → Fin 48000 → EReal) (hs : ∀ b j, S (ix2 b j) = s b j) : a i = 1#1 ∧ Apart x1 x4 s := by
  have ht := fun (b : Fin 256) (t : Fin 5) => Nearest.topK_value five_le S sliceFits_S256x48000_S256x5 b t
  have hj := fun (b : Fin 256) (t : Fin 5) => Nearest.topK_index five_le S sliceFits_S256x48000_S256x5 b t
  simp only [hs] at ht hj
  generalize (Host.topK S256x5 1 (FloatOps.cmpfTotal (F := Ideal) (φ := FTy.f32) .gt) S sliceFits_S256x48000_S256x5).1 = T at h ht
  generalize (Host.topK S256x5 1 (FloatOps.cmpfTotal (F := Ideal) (φ := FTy.f32) .gt) S sliceFits_S256x48000_S256x5).2 = J at h hj
  have hN : ∀ (b : Fin 256) (j : Fin 48000), uitofp (F := Ideal) .f32 (cmpf .ogt S (broadcastInDim S256x48000 ![0, 1] bcast_S256x1_S256x48000_0_1
        (subf (F := Ideal) (φ := .f32) (extractStridedSlice S256x1 ![0, 4] T slices_S256x5_S256x1_0_4)
          (broadcastInDim S256x1 ![] bcast_S_S256x1 (constant (F := Ideal) S_ .f32 0x388F5C29#32))))) (ix2 b j)
      = above (s b j) (s b (Nearest.near five_le (s b) 4) - ((Row.gap : ℝ) : EReal)) := fun b j => by
    have ht4 := ht b 4
    pointwise []
    rw [hs, gap_eq]
    refine (uitofp_ogt _ _).trans ?_
    rw [← ht4]
  revert h hN
  generalize uitofp (F := Ideal) .f32 (cmpf .ogt S (broadcastInDim S256x48000 ![0, 1] bcast_S256x1_S256x48000_0_1
        (subf (F := Ideal) (φ := .f32) (extractStridedSlice S256x1 ![0, 4] T slices_S256x5_S256x1_0_4)
          (broadcastInDim S256x1 ![] bcast_S_S256x1 (constant (F := Ideal) S_ .f32 0x388F5C29#32))))) = N
  intro h hN
  obtain ⟨h1, h2, h3, h4⟩ := part3 x1 x4 a T J N _ (fun b => Nearest.near five_le (s b)) hj i h
  refine ⟨h1, fun b => ?_, fun b x k hxk => ?_, fun b n l => ?_⟩
  · have g := h2 b
    pointwise [] at g
    have e := of_decide_eq_true (of_bool g)
    simp only [hN, five_eq] at e
    exact e
  · have g := h3 b x k hxk
    rw [ht, ht] at g
    exact g
  · have g := h4 b n l
    simp only [hN] at g
    exact g

/-- The rows, each over its norm. -/
def queueP (q : FVec Ideal S48000x512 .f32) : FVec Ideal S48000x512 .f32 :=
  Host.divf q (broadcastInDim S48000x512 ![0, 1] bcast_S48000x1_S48000x512_0_1
    (maximumf (Host.sqrt (broadcastInDim S48000x1 ![0] bcast_S48000_S48000x1_0
      (Host.reduceAdd (mulf q q) (constant S_ .f32 0x00000000#32) reducesTo_S48000x512_S48000_d1 h_S_)))
      (broadcastInDim S48000x1 ![] bcast_S_S48000x1 (constant S_ .f32 0x2B8CBCCC#32))))

/-- The similarities, of the rows `q`, the targets `t`, their norms `n` and the small constant `e`. -/
def simP (q : FVec Ideal S48000x512 .f32) (t : FVec Ideal S256x512 .f32) (n e : FVec Ideal S256x1 .f32) : FVec Ideal S256x48000 .f32 :=
  Host.dotGeneral dot_S256x512_S512x48000_S256x48000_1_0_0_1_n_n none
    (Host.divf t (broadcastInDim S256x512 ![0, 1] bcast_S256x1_S256x512_0_1 (maximumf n e)))
    (transpose S512x48000 [1, 0] (queueP q) transposes_S48000x512_S512x48000_1_0)

theorem queueP_apply (q : FVec Ideal S48000x512 .f32) (j : Fin 48000) (k : Fin 512) : queueP q (ix2 j k) = unit (fun k => q (ix2 j k)) k := by
  pointwise [queueP]
  rfl

theorem simP_apply (q : FVec Ideal S48000x512 .f32) (t : FVec Ideal S256x512 .f32) (n e : FVec Ideal S256x1 .f32) (b : Fin 256) (j : Fin 48000) :
    simP q t n e (ix2 b j) = ∑ k, Ideal.div (t (ix2 b k)) (max (n (ix2 b (0 : Fin 1))) (e (ix2 b (0 : Fin 1)))) * unit (fun k => q (ix2 j k)) k := by
  have h := queueP_apply q j
  unfold simP
  revert h
  generalize queueP q = Q
  intro h
  pointwise []
  simp only [h]

/-- The source rows over the first 256 rows of the queue. -/
def rowsP (x0 : FVec Ideal S512x512 .f32) (x3 : FVec Ideal S48000x512 .f32) : FVec Ideal S48000x512 .f32 :=
  Host.scatter scatter_S48000x512_S1_S256x512_01_n_0_0 (fun _ b => b) x3
    (broadcastInDim S1 ![] bcast_S_S1 (constantI S_ 32 0#32))
    (extractStridedSlice S256x512 ![0, 0] x0 slices_S512x512_S256x512_0_0)

theorem rowsP_apply (x0 : FVec Ideal S512x512 .f32) (x3 : FVec Ideal S48000x512 .f32) (j : Fin 48000) (k : Fin 512) :
    rowsP x0 x3 (ix2 j k) = bank x0 x3 j k := by
  unfold rowsP bank
  refine (scatter2 _ rfl rfl _ _ (fun z => by pointwise []) _ j k).trans ?_
  split
  · pointwise []
  · rfl

/-- The target rows. -/
def targetsP (x0 : FVec Ideal S512x512 .f32) : FVec Ideal S256x512 .f32 :=
  extractStridedSlice S256x512 ![256, 0] x0 slices_S512x512_S256x512_256_0

/-- The target rows' norms. -/
def normsP (t : FVec Ideal S256x512 .f32) : FVec Ideal S256x1 .f32 :=
  Host.sqrt (broadcastInDim S256x1 ![0] bcast_S256_S256x1_0
    (Host.reduceAdd (mulf t t) (constant S_ .f32 0x00000000#32) reducesTo_S256x512_S256_d1 h_S_))

theorem simP_is (x0 : FVec Ideal S512x512 .f32) (x3 : FVec Ideal S48000x512 .f32) (b : Fin 256) (j : Fin 48000) :
    simP (rowsP x0 x3) (targetsP x0) (normsP (targetsP x0)) (broadcastInDim S256x1 ![] bcast_S_S256x1 (constant S_ .f32 0x2B8CBCCC#32)) (ix2 b j)
      = simOf x0 x3 b j := by
  have h : ∀ k : Fin 512, targetsP x0 (ix2 b k) = target x0 b k := fun k => by pointwise [targetsP, target]
  have g : ∀ k : Fin 512, rowsP x0 x3 (ix2 j k) = bank x0 x3 j k := rowsP_apply x0 x3 j
  rw [simP_apply]
  unfold simOf
  revert h g
  generalize targetsP x0 = T
  generalize rowsP x0 x3 = Q
  intro h g
  simp only [g]
  refine Finset.sum_congr rfl fun k _ => congrArg₂ _ ?_ rfl
  pointwise [normsP]
  simp only [h]
  rfl

theorem part2 (x1 : IVec S256 32) (x4 : IVec S48000 32) (a : IVec S_ 1) (q : FVec Ideal S48000x512 .f32) (t : FVec Ideal S256x512 .f32) (n e : FVec Ideal S256x1 .f32)
    (i : S_.Idx) (h : fn_part2 (F := Ideal) x1 x4 a q
      (Host.divf t (broadcastInDim S256x512 ![0, 1] bcast_S256x1_S256x512_0_1 (maximumf n e)))
      (Host.reduceAdd (mulf q q) (constant S_ .f32 0x00000000#32) reducesTo_S48000x512_S48000_d1 h_S_) i = 1#1)
    (s : Fin 256 → Fin 48000 → EReal) (hs : ∀ b j, simP q t n e (ix2 b j) = s b j) :
    a i = 1#1 ∧ Apart x1 x4 s := by
  unfold fn_part2 at h
  dsimp only at h
  exact core x1 x4 a (simP q t n e) i h s hs

variable (x0 : FVec Ideal S512x512 .f32) (x1 : IVec S256 32) (x2 : IVec S_ 32) (x3 : FVec Ideal S48000x512 .f32) (x4 : IVec S48000 32)

theorem part1 (y : IVec S47744 32) (a : IVec S_ 1) (p : IVec S47744 1) (i : S_.Idx)
    (h : fn_part1 (F := Ideal) x0 x1 x3 x4 y a p (constantI S_ 32 345#32) i = 1#1) :
    (a i = 1#1 ∧ ∀ j : Fin 47744, IntOp.andi (p (ix1 j)) (IntOp.cmpi CmpIPredicate.slt (y (ix1 j)) 345#32) = 1#1) ∧ Apart x1 x4 (simOf x0 x3) := by
  unfold fn_part1 at h
  dsimp only at h
  obtain ⟨h1, h2⟩ := part2 x1 x4 _ (rowsP x0 x3) (targetsP x0) (normsP (targetsP x0)) _ i h (simOf x0 x3) (simP_is x0 x3)
  obtain ⟨g1, g2⟩ := both h1
  refine ⟨⟨g1, fun j => ?_⟩, h2⟩
  have g := Host.reduce_andi_all _ _ _ _ i g2 (ix1 j)
  pointwise [] at g
  exact g

theorem past (j : Fin 48000) (hj : 256 ≤ j.val) : (⟨256 + (j.val - 256), by omega⟩ : Fin 48000) = j :=
  Fin.ext (by show 256 + (j.val - 256) = j.val; omega)

/-- What the precondition says: bank rows of unit norm, labels in the classes, the five nearest apart. -/
theorem said (h : fn (F := Ideal) x0 x1 x2 x3 x4 = fun _ => 1#1) :
    ((∀ j : Fin 48000, 256 ≤ j.val → (∑ k, x3 (ix2 j k) * x3 (ix2 j k)) = 1) ∧ ∀ j : Fin 48000, (label x1 x4 j).toNat < 345)
      ∧ Apart x1 x4 (simOf x0 x3) := by
  have i : S_.Idx := fun a => a.elim0
  have h := congrFun h i
  unfold fn at h
  dsimp only at h
  obtain ⟨⟨h1, h2⟩, h3⟩ := part1 x0 x1 x3 x4 _ _ _ i h
  obtain ⟨g1, g2⟩ := both h1
  refine ⟨⟨fun j hj => ?_, fun j => ?_⟩, h3⟩
  · have g := Host.reduce_andi_all _ _ _ _ i g1 (ix1 ⟨j.val - 256, by omega⟩)
    pointwise [] at g
    have e := of_decide_eq_true (of_bool g)
    rw [← e]
    refine Finset.sum_congr rfl fun k _ => ?_
    have ej := past j hj
    rw [ej]
  · unfold label
    split
    · next hj =>
      have g := Host.reduce_andi_all _ _ _ _ i g2 (ix1 ⟨j.val, hj⟩)
      pointwise [] at g
      exact nat_range _ (in_range _ g)
    · next hj =>
      have g := h2 ⟨j.val - 256, by omega⟩
      pointwise [] at g
      have ej := past j (not_lt.1 hj)
      rw [ej] at g
      exact nat_range _ (in_range _ g)

end Cert.Separated

end
-- ==== Proof.Agree.lean ====
/- The kernel's row and the reference's row: the same five voters, the same class, the same loss. -/
module

public import proofs.«01_k».proof.Proof.KernelIdeal.Kept
public import proofs.«01_k».proof.Proof.KernelIdeal.LossRegion
public import proofs.«01_k».proof.Proof.Ref.Read
public import proofs.«01_k».proof.Proof.Separated
public import proofs.«01_k».proof.Proof.Row
public import proofs.«01_k».proof.Proof.Near
public import proofs.«01_k».proof.Proof.Vote

@[expose] public section

set_option maxRecDepth 16384

noncomputable section

namespace Cert.Agree

open Idealize.ShloMosaic Idealize.ShloMosaic.Tactic
open Cert.Bank Cert.Row
open Cert.KernelIdeal (S256x640)
open Cert.KernelIdeal.Kept (place)
open Cert.KernelIdeal.Loss (top after labs)

/-- The greatest word of a row bounds it, and is one of its words or the least word. -/
theorem top_spec (M : IVec S256x640 32) (b : Fin 256) :
    (top M b = 2147483648#32 ∨ ∃ p : Fin 640, M (ix2 b p) = top M b) ∧ ∀ p : Fin 640, (M (ix2 b p)).toInt ≤ (top M b).toInt := by
  obtain ⟨_, h2, h3⟩ := SortNet.fold_maxsi_spec (fun p : Fin 640 => M (ix2 b p)) Finset.univ 2147483648#32
  refine ⟨h3.imp id fun ⟨p, _, hp⟩ => ⟨p, hp.symm⟩, fun p => h2 p (Finset.mem_univ p)⟩

theorem placed (p : Fin 640) : ∃ (j : Fin 5) (l : Fin 128), p = place j l :=
  ⟨⟨p.val / 128, by omega⟩, ⟨p.val % 128, by omega⟩, Fin.ext (by show p.val = p.val / 128 * 128 + p.val % 128; omega)⟩

section Voters

variable (s : Fin 48000 → ℝ) (l : Fin 48000 → BitVec 32) (h1 : ∀ j, -1 ≤ s j) (h2 : ∀ j, s j ≤ 1) (hl : ∀ j, (l j).toNat < 345)
  (a : Fin 5 → Fin 48000) (ha : Function.Injective a) (hm : ∀ i k : Fin 5, k ≤ i → s (a i) ≤ s (a k))
  (hc : (Finset.univ.filter fun c => s (a 4) - gap < s c).card = 5)
  (hs : ∀ (n : Fin 15) (i : Fin 128), (Finset.univ.filter fun k : Fin 25 => s (a 4) - gap < s (Separated.place n k i)).card ≤ 2)
  (X : ℕ → BitVec 32) (hX : ∀ j : Fin 48000, X j.val = keyOf s l j)
include h1 h2 hl ha hm hc hs hX

/-- At most two of a lane's keys in a block reach one of the five nearest's. -/
theorem few (t : Fin 5) (n : ℕ) (hn : n < 15) (i : ℕ) (hi : i < 128) :
    Keys.count (fun k => X (Near.col n k i)) (X (a t).val).toInt 25 ≤ 2 := by
  refine le_trans ?_ (hs ⟨n, hn⟩ ⟨i, hi⟩)
  rw [Finset.card_filter]
  unfold Keys.count
  rw [Finset.sum_range]
  refine Finset.sum_le_sum fun k _ => ?_
  have e : X (Near.col n k.val i) = keyOf s l (Separated.place ⟨n, hn⟩ k ⟨i, hi⟩) := hX (Separated.place ⟨n, hn⟩ k ⟨i, hi⟩)
  show (if (X (a t).val).toInt ≤ (X (Near.col n k.val i)).toInt then 1 else 0) ≤ _
  rw [e, hX (a t)]
  by_cases h : (keyOf s l (a t)).toInt ≤ (keyOf s l (Separated.place ⟨n, hn⟩ k ⟨i, hi⟩)).toInt
  · rw [if_pos h, if_pos (keys_near s l h1 h2 hl a ha hm hc _ t h)]
  · rw [if_neg h]; exact Nat.zero_le _

/-- The voters the kernel reads off the kept keys are the five nearest columns' labels, in the order of the keys. -/
theorem voters (ht : ∀ i k : Fin 5, i < k → s (a k) ≤ s (a i) - gap ∨ l (a i) ≠ l (a k)) (M : IVec S256x640 32) (b : Fin 256)
    (hM : ∀ θ : ℤ, -2147483648 < θ → ∀ (j : Fin 5) (i : Fin 128), θ ≤ (M (ix2 b (place j i))).toInt
      ↔ j.val < ∑ n ∈ Finset.range 15, min 2 (Keys.count (fun k => X (Near.col n k i.val)) θ 25)) :
    ∃ σ : Equiv.Perm (Fin 5), ∀ t, labs M b t = l (a (σ t)) := by
  obtain ⟨σ, hσ⟩ := keys_order s l h1 h2 hl a ht
  refine ⟨σ, fun t => ?_⟩
  have hpos : -2147483648 < (X (a (σ 4)).val).toInt := by
    rw [hX, keyOf_toInt s l h1 h2 hl]
    have := hl (a (σ 4))
    omega
  have order : ∀ i j : Fin 5, i < j → (X (a (σ j)).val).toInt < (X (a (σ i)).val).toInt := fun i j h => by
    rw [hX, hX]; exact hσ i j h
  obtain ⟨hin, hout⟩ := Near.lists X (fun i => (a (σ i)).val) (fun i => (a (σ i)).isLt) order
    (fun c hc' h => by
      show (X (⟨c, hc'⟩ : Fin 48000).val).toInt < (X (a (σ 4)).val).toInt
      rw [hX, hX]
      refine keys_others s l h1 h2 hl a ha hm hc ⟨c, hc'⟩ (fun i e => h (σ.symm i) ?_) (σ 4)
      rw [Equiv.apply_symm_apply]
      exact congrArg Fin.val e)
    (fun j i => M (ix2 b (place j i))) (fun θ h => hM θ (lt_of_lt_of_le hpos h))
    (few s l h1 h2 hl a ha hm hc hs X hX (σ 4))
  have key := Near.rounds (fun n (p : Fin 640) => after M n (ix2 b p)) (fun n => top (after M n) b) (fun i => X (a (σ i)).val) order
    (by rw [show (2147483648#32 : BitVec 32).toInt = -2147483648 by decide]; exact hpos)
    (fun i => by
      obtain ⟨j, k, e⟩ := hin i
      exact ⟨place j k, e⟩)
    (fun p h => by
      obtain ⟨j, k, rfl⟩ := placed p
      exact hout j k h)
    (fun n => top_spec (after M n) b) (fun n p => KernelIdeal.Loss.struck M n b p) t
  unfold labs
  have key' : top (after M t.val) b = X (a (σ t)).val := key
  rw [key', hX]
  exact label_back s l h1 h2 hl (a (σ t))

end Voters

/-- The voters' order does not matter. -/
theorem wins_perm (n : Fin 5 → BitVec 32) (σ : Equiv.Perm (Fin 5)) (p : BitVec 32) (h : Vote.Wins n p) : Vote.Wins (fun t => n (σ t)) p := by
  have e : ∀ q, Vote.votes (fun t => n (σ t)) q = Vote.votes n q := fun q => Equiv.sum_comp σ fun t => if q = n t then 1 else 0
  refine ⟨h.1, fun q hq => ?_⟩
  unfold Vote.score
  rw [e, e]
  exact h.2 q hq

/-- The class that wins has a voter. -/
theorem wins_voter (n : Fin 5 → BitVec 32) (p : BitVec 32) (h : Vote.Wins n p) (hn : ∀ i, (n i).toNat < 345) : ∃ i, p = n i := by
  by_contra g
  have g' : ∀ i, p ≠ n i := fun i e => g ⟨i, e⟩
  have h0 := Vote.votes_none n p g'
  have h1 := Vote.votes_pos n 0
  have h2 := h.2 (n 0) (hn 0)
  have := hn 0
  unfold Vote.score at h2
  omega

/-- Whether a label is of class `n`, as a real. -/
def hitR (w : BitVec 32) (n : ℕ) : ℝ := if w = BitVec.ofNat 32 n then 1 else 0

theorem hit_coe (w : BitVec 32) (n : ℕ) : hit w n = ((hitR w n : ℝ) : EReal) := by
  unfold hit hitR
  split <;> norm_num

theorem hits_pos (l : Fin 48000 → BitVec 32) (n : ℕ) (j : Fin 48000) (h : l j = BitVec.ofNat 32 n) : 1 ≤ ∑ j, hitR (l j) n := by
  have e : hitR (l j) n = 1 := if_pos h
  rw [← e]
  exact Finset.single_le_sum (f := fun j => hitR (l j) n) (fun i _ => by unfold hitR; split <;> norm_num) (Finset.mem_univ j)

/-- Counting with extended reals. -/
theorem above_sum {ι : Type} [Fintype ι] (f : ι → ℝ) (y : ℝ) :
    (∑ j, Separated.above (f j : EReal) ((y : EReal) - ((gap : ℝ) : EReal))) = (((Finset.univ.filter fun j => y - gap < f j).card : ℝ) : EReal) := by
  have e : ∀ j, Separated.above (f j : EReal) ((y : EReal) - ((gap : ℝ) : EReal)) = (((if y - gap < f j then 1 else 0 : ℝ)) : EReal) := fun j => by
    unfold Separated.above
    rw [← EReal.coe_sub]
    by_cases h : y - gap < f j
    · rw [if_pos (EReal.coe_lt_coe_iff.2 h), if_pos h]; norm_num
    · rw [if_neg (fun g => h (EReal.coe_lt_coe_iff.1 g)), if_neg h]; norm_num
  simp only [e]
  rw [sum_coe, Finset.sum_boole]

end Cert.Agree

end
-- ==== Proof.Whole.lean ====
/- The kernel's result is the reference's, under the precondition: row by row, then the mean and the weight. -/
module

public import proofs.«01_k».proof.Proof.Agree
public import proofs.«01_k».proof.Proof.KernelIdeal.Run

@[expose] public section

set_option maxRecDepth 16384

noncomputable section

namespace Cert.Whole

open Idealize.ShloMosaic Idealize.ShloMosaic.TcCoe Idealize.ShloMosaic.Tactic Idealize.SL.Sem
open Cert.Bank Cert.Row Cert.Agree
open Cert.KernelIdeal (nD τ sig)
open Cert.KernelIdeal.Value (target bank label feats slabels queue qlabels)
open Cert.KernelIdeal.Stream (stateAt Ve0)
open Cert.KernelIdeal.Kept (place keyAt)
open Cert.ReferenceIdeal.Read (simOf five_le)

/-- The reference's row, of the class that wins among the five nearest labels. -/
theorem reference_row (x0 : Vec Ideal ReferenceIdeal.S512x512 .f32) (x1 : Vec Ideal ReferenceIdeal.S256 .i32) (x3 : Vec Ideal ReferenceIdeal.S48000x512 .f32)
    (x4 : Vec Ideal ReferenceIdeal.S48000 .i32) (b : Fin 256) (s : Fin 48000 → ℝ) (hs : ∀ j, simOf x0 x3 b j = s j) :
    ∃ (c : Fin 345) (M : ℝ), Vote.Wins (fun t => label x1 x4 (Nearest.near five_le (simOf x0 x3 b) t)) (BitVec.ofNat 32 c.val)
      ∧ ReferenceIdeal.Stage.perRow (ReferenceIdeal.Stage.mask (ReferenceIdeal.Stage.labels x1 x4) (ReferenceIdeal.Stage.winner (ReferenceIdeal.Stage.counts
          (ReferenceIdeal.Stage.voters (ReferenceIdeal.Stage.nearest (ReferenceIdeal.Stage.sim x0 x3)) (ReferenceIdeal.Stage.labels x1 x4)))))
          (ReferenceIdeal.Stage.logp (ReferenceIdeal.Stage.shifted (ReferenceIdeal.Stage.logits (ReferenceIdeal.Stage.sim x0 x3)))) (ix1 b)
        = Ideal.div (∑ j, ((hitR (label x1 x4 j) c.val : ℝ) : EReal) * ((((over (s j) : ℝ) : EReal) - (M : EReal)) - Ideal.log (∑ k, Ideal.exp (((over (s k) : ℝ) : EReal) - (M : EReal)))))
            (max (∑ j, ((hitR (label x1 x4 j) c.val : ℝ) : EReal)) 1) := by
  have hS : ∀ j, ReferenceIdeal.Stage.sim x0 x3 (ix2 b j) = simOf x0 x3 b j := ReferenceIdeal.Read.sim_apply x0 x3 b
  have hL : ∀ j, ReferenceIdeal.Stage.labels x1 x4 (ix1 j) = label x1 x4 j := ReferenceIdeal.Read.labels_apply x1 x4
  generalize ReferenceIdeal.Stage.sim x0 x3 = S at hS ⊢
  generalize ReferenceIdeal.Stage.labels x1 x4 = L at hL ⊢
  have hn : ∀ t : Fin 5, ReferenceIdeal.Stage.voters (ReferenceIdeal.Stage.nearest S) L (ix2 b t) = label x1 x4 (Nearest.near five_le (simOf x0 x3 b) t) := fun t => by
    have h := ReferenceIdeal.Read.nearest_apply S b t
    rw [show (fun k => S (ix2 b k)) = simOf x0 x3 b from funext hS] at h
    rw [ReferenceIdeal.Read.voters_apply _ L b t _ h, hL]
  generalize ReferenceIdeal.Stage.voters (ReferenceIdeal.Stage.nearest S) L = n at hn ⊢
  obtain ⟨c, hw, hwins⟩ := ReferenceIdeal.Read.winner_wins n b
  generalize ReferenceIdeal.Stage.winner (ReferenceIdeal.Stage.counts n) = w at hw ⊢
  have hG : ∀ j, ReferenceIdeal.Stage.logits S (ix2 b j) = ((over (s j) : ℝ) : EReal) := fun j => by
    rw [ReferenceIdeal.Read.logits_apply, hS, hs, over_eq]
  generalize ReferenceIdeal.Stage.logits S = G at hG ⊢
  obtain ⟨M, hM⟩ : ∃ M : ℝ, ReferenceIdeal.Read.rowMax G b = M := ReferenceIdeal.Read.max_real _ fun j => ⟨_, hG j⟩
  refine ⟨c, M, ?_, ?_⟩
  · rw [show (fun t => n (ix2 b t)) = fun t => label x1 x4 (Nearest.near five_le (simOf x0 x3 b) t) from funext hn] at hwins
    exact hwins
  have hH : ∀ j, ReferenceIdeal.Stage.shifted G (ix2 b j) = ((over (s j) : ℝ) : EReal) - (M : EReal) := fun j => by
    rw [ReferenceIdeal.Read.shifted_apply, hG, hM]
  generalize ReferenceIdeal.Stage.shifted G = H at hH ⊢
  have hP : ∀ j, ReferenceIdeal.Stage.logp H (ix2 b j) = (((over (s j) : ℝ) : EReal) - (M : EReal)) - Ideal.log (∑ k, Ideal.exp (((over (s k) : ℝ) : EReal) - (M : EReal))) := fun j => by
    rw [ReferenceIdeal.Read.logp_apply]
    simp only [hH]
  generalize ReferenceIdeal.Stage.logp H = P at hP ⊢
  have hK : ∀ j, ReferenceIdeal.Stage.mask L w (ix2 b j) = ((hitR (label x1 x4 j) c.val : ℝ) : EReal) := fun j => by
    rw [ReferenceIdeal.Read.mask_apply L w b j c.val hw, hL, hit_coe]
  generalize ReferenceIdeal.Stage.mask L w = K at hK ⊢
  rw [ReferenceIdeal.Read.perRow_apply]
  simp only [hK, hP]

section

variable (m : (ℓ : Loc nD τ sig) → Buf (Elt Ideal) ℓ) (c : Dev nD)

/-- The kernel's row is the reference's. -/
theorem row (x2 : Vec Ideal ReferenceIdeal.S_ .i32)
    (h : Pre_separated.fn (F := Ideal) (feats m c) (slabels m c) x2 (queue m c) (qlabels m c) = fun _ => 1#1) (b : Fin 256) :
    KernelIdeal.Loss.perRow (stateAt (Ve0 m) c 15).1 (stateAt (Ve0 m) c 15).2.1 (stateAt (Ve0 m) c 15).2.2.1 (stateAt (Ve0 m) c 15).2.2.2 (ix2 b (0 : Fin 1))
      = ReferenceIdeal.Stage.perRow (ReferenceIdeal.Stage.mask (ReferenceIdeal.Stage.labels (slabels m c) (qlabels m c)) (ReferenceIdeal.Stage.winner (ReferenceIdeal.Stage.counts
          (ReferenceIdeal.Stage.voters (ReferenceIdeal.Stage.nearest (ReferenceIdeal.Stage.sim (feats m c) (queue m c))) (ReferenceIdeal.Stage.labels (slabels m c) (qlabels m c))))))
          (ReferenceIdeal.Stage.logp (ReferenceIdeal.Stage.shifted (ReferenceIdeal.Stage.logits (ReferenceIdeal.Stage.sim (feats m c) (queue m c))))) (ix1 b) := by
  obtain ⟨⟨hq, hl⟩, happ, htold, hspr⟩ := Separated.said _ _ _ _ _ h
  have hex : ∀ j, ∃ s : ℝ, simOf (feats m c) (queue m c) b j = s ∧ -1 ≤ s ∧ s ≤ 1 := fun j =>
    sim_real (target (feats m c) b) (bank (feats m c) (queue m c) j)
  choose s hs h1 h2 using hex
  have hsim : simOf (feats m c) (queue m c) b = fun j => (s j : EReal) := funext hs
  have happ := happ b
  have htold := htold b
  have hspr := hspr b
  have hne := Nearest.near_le five_le (simOf (feats m c) (queue m c) b)
  have hinj := Nearest.near_injective five_le (simOf (feats m c) (queue m c) b)
  obtain ⟨p, M, hwin, href⟩ := reference_row (feats m c) (slabels m c) (queue m c) (qlabels m c) b s hs
  rw [href]
  clear href
  generalize Nearest.near five_le (simOf (feats m c) (queue m c) b) = a at happ htold hspr hne hinj hwin
  rw [hsim] at happ htold hspr hne
  have hm : ∀ i k : Fin 5, k ≤ i → s (a i) ≤ s (a k) := fun i k g => EReal.coe_le_coe_iff.1 (hne i k g)
  have hc : (Finset.univ.filter fun j => s (a 4) - gap < s j).card = 5 := by
    rw [above_sum s (s (a 4))] at happ
    have e' := EReal.coe_eq_coe_iff.1 happ
    exact_mod_cast e'
  have ht : ∀ i k : Fin 5, i < k → s (a k) ≤ s (a i) - gap ∨ label (slabels m c) (qlabels m c) (a i) ≠ label (slabels m c) (qlabels m c) (a k) := fun i k g => by
    refine (htold i k g).imp (fun e => ?_) id
    have e' := EReal.coe_le_coe_iff.1 (e.trans_eq (EReal.coe_sub (s (a i)) (s (a k))).symm)
    linarith
  have hfew : ∀ (n : Fin 15) (i : Fin 128), (Finset.univ.filter fun k : Fin 25 => s (a 4) - gap < s (Separated.place n k i)).card ≤ 2 := fun n i => by
    have e := hspr n i
    rw [above_sum (fun k => s (Separated.place n k i)) (s (a 4))] at e
    have e' := EReal.coe_le_coe_iff.1 e
    exact_mod_cast e'
  have hlog : ∀ j, logit (target (feats m c) b) (bank (feats m c) (queue m c) j) = ((over (s j) : ℝ) : EReal) := fun j => by
    rw [← over_eq, ← hs j]
    rfl
  have hX : ∀ j : Fin 48000, keyAt m c b j.val = keyOf s (label (slabels m c) (qlabels m c)) j := fun j => by
    unfold keyAt keyOf
    rw [dif_pos j.isLt, Word.c4, EReal.coe_add]
    exact congrArg (fun x => Word.key (x + ((16 : ℝ) : EReal)) (label (slabels m c) (qlabels m c) j)) (hlog j)
  obtain ⟨σ, hσ⟩ := Agree.voters s _ h1 h2 hl a hinj hm hc hfew (keyAt m c b) hX ht (stateAt (Ve0 m) c 15).1 b
    (fun θ hθ j i => KernelIdeal.Kept.kept_keys m c hq θ hθ b j i)
  have hpick : Vote.pick (KernelIdeal.Loss.labs (stateAt (Ve0 m) c 15).1 b) = BitVec.ofNat 32 p.val := by
    have hv := wins_perm (fun t => label (slabels m c) (qlabels m c) (a t)) σ _ hwin
    have hp := Vote.pick_wins (fun t => label (slabels m c) (qlabels m c) (a (σ t))) fun t => hl _
    rw [show KernelIdeal.Loss.labs (stateAt (Ve0 m) c 15).1 b = fun t => label (slabels m c) (qlabels m c) (a (σ t)) from funext hσ]
    exact Vote.wins_unique hp hv
  have hpn : (BitVec.ofNat 32 p.val).toNat = p.val := by
    rw [BitVec.toNat_ofNat, Nat.mod_eq_of_lt (by omega)]
  obtain ⟨t, ht⟩ := wins_voter _ _ hwin fun t => hl _
  have hN := hits_pos (label (slabels m c) (qlabels m c)) p.val (a t) ht.symm
  rw [KernelIdeal.Loss.perRow_apply _ _ _ _ b _ hpick (by rw [hpn]; exact p.isLt), KernelIdeal.Value.sum_exp m c hq b, KernelIdeal.Value.sum_class m c hq b,
    KernelIdeal.Value.sum_count m c]
  simp only [hpn, hlog, hit_coe]
  exact rows_agree (fun j => over (s j)) (fun j => hitR (label (slabels m c) (qlabels m c) j) p.val) M hN

/-- The loss: minus the rows' mean, weighted. -/
theorem whole (outs : KernelIdeal.Gen.Outs (F := Ideal)) (hfit : KernelIdeal.Stream.Fits m outs)
    (h : Pre_separated.fn (F := Ideal) (feats m c) (slabels m c) (m ((c : Thread nD τ).loc KernelIdeal.main_arg2)) (queue m c) (qlabels m c) = fun _ => 1#1) :
    KernelIdeal.Gen.V6 m outs c KernelIdeal.main_v28
      = ReferenceIdeal.Stage.result (F := Ideal) (feats m c) (slabels m c) (m ((c : Thread nD τ).loc KernelIdeal.main_arg2)) (queue m c) (qlabels m c) := by
  rw [KernelIdeal.Loss.result m outs c hfit]
  have hr := row m c _ h
  unfold KernelIdeal.Loss.lossOf ReferenceIdeal.Stage.result
  generalize KernelIdeal.Loss.perRow (stateAt (Ve0 m) c 15).1 (stateAt (Ve0 m) c 15).2.1 (stateAt (Ve0 m) c 15).2.2.1 (stateAt (Ve0 m) c 15).2.2.2 = P at hr ⊢
  revert hr
  generalize ReferenceIdeal.Stage.perRow (F := Ideal) _ _ = Q
  intro hr
  have hz : ∀ i, shapeCast KernelIdeal.S_ (KernelIdeal.Gen.k1_pay1 P) KernelIdeal.Gen.shapeCasts_S1x1_S_ i = ReferenceIdeal.Stage.loss Q i := fun i => by
    rw [ReferenceIdeal.Read.loss_apply, ← funext hr, ← zero_sub, ← KernelIdeal.Loss.mean P]
    pointwise []
  exact congrArg₂ mulf rfl (funext hz)

end

end Cert.Whole

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Own.Kernel.RegionsD
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.Own.KernelIdeal.RegionsD
public import proofs.«01_k».proof.Proof.Gen.KernelIdeal.Points
public import proofs.«01_k».proof.Proof.Gen.ReferenceIdeal
public import proofs.«01_k».proof.Proof.Kernel.Run
public import proofs.«01_k».proof.Proof.KernelIdeal.Run
public import proofs.«01_k».proof.Proof.Gen.Pre_separated
public import proofs.«01_k».proof.Proof.Ref.Run
public import proofs.«01_k».proof.Proof.Whole
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Stage.run (F := Ideal) m ρ)

theorem preserves : Cert.preserves_Kernel_KernelIdeal :=
  IdealRules.named_const.statement Cert.KernelIdeal.κ "inv_temp" .f32 0x41649249#32 ((134217728 / 9395241 : ℝ) : EReal) rfl

/-- Both programs end with the loss: the kernel's is the reference's, of the same arguments. -/
theorem algebraic : Cert.algebraic_KernelIdeal_ReferenceIdeal_pre_separated := by
  intro m ρ m' ρ' hpre hargs
  obtain ⟨outs, hf⟩ := Cert.KernelIdeal.Stream.exists_fits (F := Ideal) m
  refine ⟨fun c => Cert.KernelIdeal.Gen.V6 m outs c Cert.KernelIdeal.main_v28,
    (θ_run Cert.KernelIdeal.defs _ _).mono (fun r h c => ⟨(h.1 c).2, (h.1 c).1⟩) (Cert.KernelIdeal.Stream.run (F := Ideal) m outs ρ hf), ?_⟩
  refine (θ_run Cert.ReferenceIdeal.defs _ _).mono (fun r h c => ?_) (Cert.ReferenceIdeal.Stage.run (F := Ideal) m' ρ')
  obtain ⟨h1, h2⟩ := h c
  obtain ⟨e0, e1, e2, e3, e4⟩ := hargs c
  refine ⟨h1.trans ?_, h2⟩
  rw [e0, e1, e2, e3, e4]
  exact (Cert.Whole.whole m c outs hf (hpre c)).symm

theorem claim : Cert.Claim :=
  ⟨Cert.Kernel.Gen.facts, Cert.KernelIdeal.Gen.facts, Cert.ReferenceIdeal.Gen.facts, Cert.Pre_separated.Gen.facts,
    fun m ρ _ => Cert.Kernel.Stream.frame m ρ, fun m ρ _ => Cert.KernelIdeal.Stream.frame m ρ, fun m ρ _ => Cert.KernelIdeal.Stream.frame m ρ,
    frame_reference, fun m ρ _ => frame_reference m ρ trivial, preserves, algebraic⟩

end Cert.Proof

end
